-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "mask" .f32 0xCE6E6B28#32 ⊥
  ∧ IdealRules.named_const.Statement Cert.KernelIdeal.κ "iscale" .f32 0x3E3504F3#32 (((Real.sqrt 32)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v302) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x128x8 : Shape := ⟨3, ![8, 128, 8]⟩
abbrev S64x256 : Shape := ⟨2, ![64, 256]⟩
abbrev S256 : Shape := ⟨1, ![256]⟩
abbrev S34x256 : Shape := ⟨2, ![34, 256]⟩
abbrev S2x256 : Shape := ⟨2, ![2, 256]⟩
abbrev S2x256x256 : Shape := ⟨3, ![2, 256, 256]⟩
abbrev S2x256x1024 : Shape := ⟨3, ![2, 256, 1024]⟩
abbrev S2x1024 : Shape := ⟨2, ![2, 1024]⟩
abbrev S2x1024x256 : Shape := ⟨3, ![2, 1024, 256]⟩
abbrev S_ : Shape := ⟨0, ![]⟩

class Facts : Prop where
  bcast_S_S8x128x8 : S_.BroadcastsInDim S8x128x8 (![] : Fin 0 → Fin S8x128x8.rank)
  reducesTo_S8x128x8_S_d0_1_2 : S8x128x8.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S34x256 : S_.BroadcastsInDim S34x256 (![] : Fin 0 → Fin S34x256.rank)
  reducesTo_S34x256_S_d0_1 : S34x256.ReducesTo [0, 1] S_
  bcast_S_S2x256 : S_.BroadcastsInDim S2x256 (![] : Fin 0 → Fin S2x256.rank)
  reducesTo_S2x256_S_d0_1 : S2x256.ReducesTo [0, 1] S_
  bcast_S_S2x256x256 : S_.BroadcastsInDim S2x256x256 (![] : Fin 0 → Fin S2x256x256.rank)
  reducesTo_S2x256x256_S_d0_1_2 : S2x256x256.ReducesTo [0, 1, 2] S_
  bcast_S_S2x256x1024 : S_.BroadcastsInDim S2x256x1024 (![] : Fin 0 → Fin S2x256x1024.rank)
  reducesTo_S2x256x1024_S_d0_1_2 : S2x256x1024.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S2x1024x256 : S_.BroadcastsInDim S2x1024x256 (![] : Fin 0 → Fin S2x1024x256.rank)
  reducesTo_S2x1024x256_S_d0_1_2 : S2x1024x256.ReducesTo [0, 1, 2] S_

variable [Facts]

def fn_part5 {F : FTy → Type} [FloatOps F] (main_arg18 : FVec F S2x1024x256 .f32) (main_arg19 : FVec F S2x256 .f32) (main_v83 : IVec S_ 1) (main_v84 : FVec F S2x1024 .f32) (main_cst_32 : FVec F S_ .f32) : IVec S_ 1 :=
  let main_v85 : FVec F S2x1024 .f32 := broadcastInDim S2x1024 ![] bcast_S_S2x1024 main_cst_32
  let main_v86 : IVec S2x1024 1 := cmpf .olt main_v84 main_v85
  let main_c_33 : IVec S_ 1 := constantI S_ 1 1#1
  let main_v87 : IVec S_ 1 := (fun x v => Host.reduce IntOp.andi x v reducesTo_S2x1024_S_d0_1 h_S_) main_v86 main_c_33
  let main_v88 : IVec S_ 1 := andi main_v83 main_v87
  let main_v89 : FVec F S2x1024x256 .f32 := Host.absf main_arg18
  let main_cst_34 : FVec F S_ .f32 := constant S_ .f32 0x7F800000#32
  let main_v90 : FVec F S2x1024x256 .f32 := broadcastInDim S2x1024x256 ![] bcast_S_S2x1024x256 main_cst_34
  let main_v91 : IVec S2x1024x256 1 := cmpf .olt main_v89 main_v90
  let main_c_35 : IVec S_ 1 := constantI S_ 1 1#1
  let main_v92 : IVec S_ 1 := (fun x v => Host.reduce IntOp.andi x v reducesTo_S2x1024x256_S_d0_1_2 h_S_) main_v91 main_c_35
  let main_v93 : IVec S_ 1 := andi main_v88 main_v92
  let main_v94 : FVec F S2x256 .f32 := Host.absf main_arg19
  let main_cst_36 : FVec F S_ .f32 := constant S_ .f32 0x7F800000#32
  let main_v95 : FVec F S2x256 .f32 := broadcastInDim S2x256 ![] bcast_S_S2x256 main_cst_36
  let main_v96 : IVec S2x256 1 := cmpf .olt main_v94 main_v95
  let main_c_37 : IVec S_ 1 := constantI S_ 1 1#1
  let main_v97 : IVec S_ 1 := (fun x v => Host.reduce IntOp.andi x v reducesTo_S2x256_S_d0_1 h_S_) main_v96 main_c_37
  let main_v98 : IVec S_ 1 := andi main_v93 main_v97
  main_v98

def fn_part4 {F : FTy → Type} [FloatOps F] (main_arg14 : FVec F S2x256 .f32) (main_arg15 : FVec F S2x256 .f32) (main_arg16 : FVec F S2x256x1024 .f32) (main_arg17 : FVec F S2x1024 .f32) (main_arg18 : FVec F S2x1024x256 .f32) (main_arg19 : FVec F S2x256 .f32) (main_v63 : IVec S_ 1) (main_v67 : IVec S_ 1) : IVec S_ 1 :=
  let main_v68 : IVec S_ 1 := andi main_v63 main_v67
  let main_v69 : FVec F S2x256 .f32 := Host.absf main_arg14
  let main_cst_26 : FVec F S_ .f32 := constant S_ .f32 0x7F800000#32
  let main_v70 : FVec F S2x256 .f32 := broadcastInDim S2x256 ![] bcast_S_S2x256 main_cst_26
  let main_v71 : IVec S2x256 1 := cmpf .olt main_v69 main_v70
  let main_c_27 : IVec S_ 1 := constantI S_ 1 1#1
  let main_v72 : IVec S_ 1 := (fun x v => Host.reduce IntOp.andi x v reducesTo_S2x256_S_d0_1 h_S_) main_v71 main_c_27
  let main_v73 : IVec S_ 1 := andi main_v68 main_v72
  let main_v74 : FVec F S2x256 .f32 := Host.absf main_arg15
  let main_cst_28 : FVec F S_ .f32 := constant S_ .f32 0x7F800000#32
  let main_v75 : FVec F S2x256 .f32 := broadcastInDim S2x256 ![] bcast_S_S2x256 main_cst_28
  let main_v76 : IVec S2x256 1 := cmpf .olt main_v74 main_v75
  let main_c_29 : IVec S_ 1 := constantI S_ 1 1#1
  let main_v77 : IVec S_ 1 := (fun x v => Host.reduce IntOp.andi x v reducesTo_S2x256_S_d0_1 h_S_) main_v76 main_c_29
  let main_v78 : IVec S_ 1 := andi main_v73 main_v77
  let main_v79 : FVec F S2x256x1024 .f32 := Host.absf main_arg16
  let main_cst_30 : FVec F S_ .f32 := constant S_ .f32 0x7F800000#32
  let main_v80 : FVec F S2x256x1024 .f32 := broadcastInDim S2x256x1024 ![] bcast_S_S2x256x1024 main_cst_30
  let main_v81 : IVec S2x256x1024 1 := cmpf .olt main_v79 main_v80
  let main_c_31 : IVec S_ 1 := constantI S_ 1 1#1
  let main_v82 : IVec S_ 1 := (fun x v => Host.reduce IntOp.andi x v reducesTo_S2x256x1024_S_d0_1_2 h_S_) main_v81 main_c_31
  let main_v83 : IVec S_ 1 := andi main_v78 main_v82
  let main_v84 : FVec F S2x1024 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S2x256 .f32) (main_arg12 : FVec F S2x256x256 .f32) (main_arg13 : FVec F S2x256 .f32) (main_arg14 : FVec F S2x256 .f32) (main_arg15 : FVec F S2x256 .f32) (main_arg16 : FVec F S2x256x1024 .f32) (main_arg17 : FVec F S2x1024 .f32) (main_arg18 : FVec F S2x1024x256 .f32) (main_arg19 : FVec F S2x256 .f32) (main_v48 : IVec S_ 1) (main_v49 : FVec F S2x256x256 .f32) (main_v50 : FVec F S2x256x256 .f32) : IVec S_ 1 :=
  let main_v51 : IVec S2x256x256 1 := cmpf .olt main_v49 main_v50
  let main_c_19 : IVec S_ 1 := constantI S_ 1 1#1
  let main_v52 : IVec S_ 1 := (fun x v => Host.reduce IntOp.andi x v reducesTo_S2x256x256_S_d0_1_2 h_S_) main_v51 main_c_19
  let main_v53 : IVec S_ 1 := andi main_v48 main_v52
  let main_v54 : FVec F S2x256 .f32 := Host.absf main_arg11
  let main_cst_20 : FVec F S_ .f32 := constant S_ .f32 0x7F800000#32
  let main_v55 : FVec F S2x256 .f32 := broadcastInDim S2x256 ![] bcast_S_S2x256 main_cst_20
  let main_v56 : IVec S2x256 1 := cmpf .olt main_v54 main_v55
  let main_c_21 : IVec S_ 1 := constantI S_ 1 1#1
  let main_v57 : IVec S_ 1 := (fun x v => Host.reduce IntOp.andi x v reducesTo_S2x256_S_d0_1 h_S_) main_v56 main_c_21
  let main_v58 : IVec S_ 1 := andi main_v53 main_v57
  let main_v59 : FVec F S2x256x256 .f32 := Host.absf main_arg12
  let main_cst_22 : FVec F S_ .f32 := constant S_ .f32 0x7F800000#32
  let main_v60 : FVec F S2x256x256 .f32 := broadcastInDim S2x256x256 ![] bcast_S_S2x256x256 main_cst_22
  let main_v61 : IVec S2x256x256 1 := cmpf .olt main_v59 main_v60
  let main_c_23 : IVec S_ 1 := constantI S_ 1 1#1
  let main_v62 : IVec S_ 1 := (fun x v => Host.reduce IntOp.andi x v reducesTo_S2x256x256_S_d0_1_2 h_S_) main_v61 main_c_23
  let main_v63 : IVec S_ 1 := andi main_v58 main_v62
  let main_v64 : FVec F S2x256 .f32 := Host.absf main_arg13
  let main_cst_24 : FVec F S_ .f32 := constant S_ .f32 0x7F800000#32
  let main_v65 : FVec F S2x256 .f32 := broadcastInDim S2x256 ![] bcast_S_S2x256 main_cst_24
  let main_v66 : IVec S2x256 1 := cmpf .olt main_v64 main_v65
  let main_c_25 : IVec S_ 1 := constantI S_ 1 1#1
  let main_v67 : IVec S_ 1 := (fun x v => Host.reduce IntOp.andi x v reducesTo_S2x256_S_d0_1 h_S_) main_v66 main_c_25
  fn_part4 (F := F) main_arg14 main_arg15 main_arg16 main_arg17 main_arg18 main_arg19 main_v63 main_v67

def fn_part2 {F : FTy → Type} [FloatOps F] (main_arg7 : FVec F S2x256 .f32) (main_arg8 : FVec F S2x256x256 .f32) (main_arg9 : FVec F S2x256 .f32) (main_arg10 : FVec F S2x256x256 .f32) (main_arg11 : FVec F S2x256 .f32) (main_arg12 : FVec F S2x256x256 .f32) (main_arg13 : FVec F S2x256 .f32) (main_arg14 : FVec F S2x256 .f32) (main_arg15 : FVec F S2x256 .f32) (main_arg16 : FVec F S2x256x1024 .f32) (main_arg17 : FVec F S2x1024 .f32) (main_arg18 : FVec F S2x1024x256 .f32) (main_arg19 : FVec F S2x256 .f32) (main_v33 : IVec S_ 1) : IVec S_ 1 :=
  let main_v34 : FVec F S2x256 .f32 := Host.absf main_arg7
  let main_cst_12 : FVec F S_ .f32 := constant S_ .f32 0x7F800000#32
  let main_v35 : FVec F S2x256 .f32 := broadcastInDim S2x256 ![] bcast_S_S2x256 main_cst_12
  let main_v36 : IVec S2x256 1 := cmpf .olt main_v34 main_v35
  let main_c_13 : IVec S_ 1 := constantI S_ 1 1#1
  let main_v37 : IVec S_ 1 := (fun x v => Host.reduce IntOp.andi x v reducesTo_S2x256_S_d0_1 h_S_) main_v36 main_c_13
  let main_v38 : IVec S_ 1 := andi main_v33 main_v37
  let main_v39 : FVec F S2x256x256 .f32 := Host.absf main_arg8
  let main_cst_14 : FVec F S_ .f32 := constant S_ .f32 0x7F800000#32
  let main_v40 : FVec F S2x256x256 .f32 := broadcastInDim S2x256x256 ![] bcast_S_S2x256x256 main_cst_14
  let main_v41 : IVec S2x256x256 1 := cmpf .olt main_v39 main_v40
  let main_c_15 : IVec S_ 1 := constantI S_ 1 1#1
  let main_v42 : IVec S_ 1 := (fun x v => Host.reduce IntOp.andi x v reducesTo_S2x256x256_S_d0_1_2 h_S_) main_v41 main_c_15
  let main_v43 : IVec S_ 1 := andi main_v38 main_v42
  let main_v44 : FVec F S2x256 .f32 := Host.absf main_arg9
  let main_cst_16 : FVec F S_ .f32 := constant S_ .f32 0x7F800000#32
  let main_v45 : FVec F S2x256 .f32 := broadcastInDim S2x256 ![] bcast_S_S2x256 main_cst_16
  let main_v46 : IVec S2x256 1 := cmpf .olt main_v44 main_v45
  let main_c_17 : IVec S_ 1 := constantI S_ 1 1#1
  let main_v47 : IVec S_ 1 := (fun x v => Host.reduce IntOp.andi x v reducesTo_S2x256_S_d0_1 h_S_) main_v46 main_c_17
  let main_v48 : IVec S_ 1 := andi main_v43 main_v47
  let main_v49 : FVec F S2x256x256 .f32 := Host.absf main_arg10
  let main_cst_18 : FVec F S_ .f32 := constant S_ .f32 0x7F800000#32
  let main_v50 : FVec F S2x256x256 .f32 := broadcastInDim S2x256x256 ![] bcast_S_S2x256x256 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S2x256 .f32) (main_arg5 : FVec F S2x256 .f32) (main_arg6 : FVec F S2x256x256 .f32) (main_arg7 : FVec F S2x256 .f32) (main_arg8 : FVec F S2x256x256 .f32) (main_arg9 : FVec F S2x256 .f32) (main_arg10 : FVec F S2x256x256 .f32) (main_arg11 : FVec F S2x256 .f32) (main_arg12 : FVec F S2x256x256 .f32) (main_arg13 : FVec F S2x256 .f32) (main_arg14 : FVec F S2x256 .f32) (main_arg15 : FVec F S2x256 .f32) (main_arg16 : FVec F S2x256x1024 .f32) (main_arg17 : FVec F S2x1024 .f32) (main_arg18 : FVec F S2x1024x256 .f32) (main_arg19 : FVec F S2x256 .f32) (main_v13 : IVec S_ 1) (main_v16 : IVec S34x256 1) : IVec S_ 1 :=
  let main_c_5 : IVec S_ 1 := constantI S_ 1 1#1
  let main_v17 : IVec S_ 1 := (fun x v => Host.reduce IntOp.andi x v reducesTo_S34x256_S_d0_1 h_S_) main_v16 main_c_5
  let main_v18 : IVec S_ 1 := andi main_v13 main_v17
  let main_v19 : FVec F S2x256 .f32 := Host.absf main_arg4
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2x256 .f32 := Host.absf main_arg5
  let main_cst_8 : FVec F S_ .f32 := constant S_ .f32 0x7F800000#32
  let main_v25 : FVec F S2x256 .f32 := broadcastInDim S2x256 ![] bcast_S_S2x256 main_cst_8
  let main_v26 : IVec S2x256 1 := cmpf .olt main_v24 main_v25
  let main_c_9 : IVec S_ 1 := constantI S_ 1 1#1
  let main_v27 : IVec S_ 1 := (fun x v => Host.reduce IntOp.andi x v reducesTo_S2x256_S_d0_1 h_S_) main_v26 main_c_9
  let main_v28 : IVec S_ 1 := andi main_v23 main_v27
  let main_v29 : FVec F S2x256x256 .f32 := Host.absf main_arg6
  let main_cst_10 : FVec F S_ .f32 := constant S_ .f32 0x7F800000#32
  let main_v30 : FVec F S2x256x256 .f32 := broadcastInDim S2x256x256 ![] bcast_S_S2x256x256 main_cst_10
  let main_v31 : IVec S2x256x256 1 := cmpf .olt main_v29 main_v30
  let main_c_11 : IVec S_ 1 := constantI S_ 1 1#1
  let main_v32 : IVec S_ 1 := (fun x v => Host.reduce IntOp.andi x v reducesTo_S2x256x256_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S8x128x8 .f32) (main_arg1 : FVec F S64x256 .f32) (main_arg2 : FVec F S256 .f32) (main_arg3 : FVec F S34x256 .f32) (main_arg4 : FVec F S2x256 .f32) (main_arg5 : FVec F S2x256 .f32) (main_arg6 : FVec F S2x256x256 .f32) (main_arg7 : FVec F S2x256 .f32) (main_arg8 : FVec F S2x256x256 .f32) (main_arg9 : FVec F S2x256 .f32) (main_arg10 : FVec F S2x256x256 .f32) (main_arg11 : FVec F S2x256 .f32) (main_arg12 : FVec F S2x256x256 .f32) (main_arg13 : FVec F S2x256 .f32) (main_arg14 : FVec F S2x256 .f32) (main_arg15 : FVec F S2x256 .f32) (main_arg16 : FVec F S2x256x1024 .f32) (main_arg17 : FVec F S2x1024 .f32) (main_arg18 : FVec F S2x1024x256 .f32) (main_arg19 : FVec F S2x256 .f32) : IVec S_ 1 :=
  let main_v0 : FVec F S8x128x8 .f32 := Host.absf main_arg0
  let main_cst : FVec F S_ .f32 := constant S_ .f32 0x7F800000#32
  let main_v1 : FVec F S8x128x8 .f32 := broadcastInDim S8x128x8 ![] bcast_S_S8x128x8 main_cst
  let main_v2 : IVec S8x128x8 1 := cmpf .olt main_v0 main_v1
  let main_c : IVec S_ 1 := constantI S_ 1 1#1
  let main_v3 : IVec S_ 1 := (fun x v => Host.reduce IntOp.andi x v reducesTo_S8x128x8_S_d0_1_2 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S34x256 .f32 := Host.absf main_arg3
  let main_cst_4 : FVec F S_ .f32 := constant S_ .f32 0x7F800000#32
  let main_v15 : FVec F S34x256 .f32 := broadcastInDim S34x256 ![] bcast_S_S34x256 main_cst_4
  let main_v16 : IVec S34x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S8x128x8 : Shape := ⟨3, ![8, 128, 8]⟩
abbrev S64x256 : Shape := ⟨2, ![64, 256]⟩
abbrev S256 : Shape := ⟨1, ![256]⟩
abbrev S34x256 : Shape := ⟨2, ![34, 256]⟩
abbrev S2x256 : Shape := ⟨2, ![2, 256]⟩
abbrev S2x256x256 : Shape := ⟨3, ![2, 256, 256]⟩
abbrev S2x256x1024 : Shape := ⟨3, ![2, 256, 1024]⟩
abbrev S2x1024 : Shape := ⟨2, ![2, 1024]⟩
abbrev S2x1024x256 : Shape := ⟨3, ![2, 1024, 256]⟩
abbrev S4x40x8 : Shape := ⟨3, ![4, 40, 8]⟩
abbrev S32x40 : Shape := ⟨2, ![32, 40]⟩
abbrev S256x8 : Shape := ⟨2, ![256, 8]⟩
abbrev S_ : Shape := ⟨0, ![]⟩
abbrev S8x15x8 : Shape := ⟨3, ![8, 15, 8]⟩
abbrev S8x143x8 : Shape := ⟨3, ![8, 143, 8]⟩
abbrev S1x256 : Shape := ⟨2, ![1, 256]⟩
abbrev S4x40x8x1 : Shape := ⟨4, ![4, 40, 8, 1]⟩
abbrev S8x4x40x8x8 : Shape := ⟨5, ![8, 4, 40, 8, 8]⟩
abbrev S32x40x64 : Shape := ⟨3, ![32, 40, 64]⟩
abbrev S40x256 : Shape := ⟨2, ![40, 256]⟩
abbrev S1 : Shape := ⟨1, ![1]⟩
abbrev S32x32x256 : Shape := ⟨3, ![32, 32, 256]⟩
abbrev S2x40x64 : Shape := ⟨3, ![2, 40, 64]⟩
abbrev S2x32x256 : Shape := ⟨3, ![2, 32, 256]⟩
abbrev S1x40x64 : Shape := ⟨3, ![1, 40, 64]⟩
abbrev S40x64 : Shape := ⟨2, ![40, 64]⟩
abbrev S40 : Shape := ⟨1, ![40]⟩
abbrev S40x1 : Shape := ⟨2, ![40, 1]⟩
abbrev S1x256x256 : Shape := ⟨3, ![1, 256, 256]⟩
abbrev S256x256 : Shape := ⟨2, ![256, 256]⟩
abbrev S40x32 : Shape := ⟨2, ![40, 32]⟩
abbrev S40x40 : Shape := ⟨2, ![40, 40]⟩
abbrev S8x40 : Shape := ⟨2, ![8, 40]⟩
abbrev S16x40 : Shape := ⟨2, ![16, 40]⟩
abbrev S1x16x40 : Shape := ⟨3, ![1, 16, 40]⟩
abbrev S8x1x40 : Shape := ⟨3, ![8, 1, 40]⟩
abbrev S8x16x40 : Shape := ⟨3, ![8, 16, 40]⟩
abbrev S128x40 : Shape := ⟨2, ![128, 40]⟩
abbrev S128 : Shape := ⟨1, ![128]⟩
abbrev S128x1 : Shape := ⟨2, ![128, 1]⟩
abbrev S128x32 : Shape := ⟨2, ![128, 32]⟩
abbrev S128x256 : Shape := ⟨2, ![128, 256]⟩
abbrev S16x256 : Shape := ⟨2, ![16, 256]⟩
abbrev S1x16x256 : Shape := ⟨3, ![1, 16, 256]⟩
abbrev S8x16x256 : Shape := ⟨3, ![8, 16, 256]⟩
abbrev S1x256x1024 : Shape := ⟨3, ![1, 256, 1024]⟩
abbrev S256x1024 : Shape := ⟨2, ![256, 1024]⟩
abbrev S128x1024 : Shape := ⟨2, ![128, 1024]⟩
abbrev S1x1024 : Shape := ⟨2, ![1, 1024]⟩
abbrev S1x1024x256 : Shape := ⟨3, ![1, 1024, 256]⟩
abbrev S1024x256 : Shape := ⟨2, ![1024, 256]⟩
abbrev S8x16 : Shape := ⟨2, ![8, 16]⟩
abbrev S8x16x1 : Shape := ⟨3, ![8, 16, 1]⟩
abbrev S8x256 : Shape := ⟨2, ![8, 256]⟩
abbrev S8x1x256 : Shape := ⟨3, ![8, 1, 256]⟩
abbrev S128x8 : Shape := ⟨2, ![128, 8]⟩
abbrev S8x16x8 : Shape := ⟨3, ![8, 16, 8]⟩
abbrev S8x8 : Shape := ⟨2, ![8, 8]⟩
abbrev S8x1x8 : Shape := ⟨3, ![8, 1, 8]⟩
abbrev S8x16x32 : Shape := ⟨3, ![8, 16, 32]⟩
abbrev S8x32 : Shape := ⟨2, ![8, 32]⟩
abbrev S8 : Shape := ⟨1, ![8]⟩
abbrev S8x1 : Shape := ⟨2, ![8, 1]⟩
abbrev S8x1024 : Shape := ⟨2, ![8, 1024]⟩
abbrev S1x8x256 : Shape := ⟨3, ![1, 8, 256]⟩
abbrev S24x40 : Shape := ⟨2, ![24, 40]⟩
abbrev S1x24x40 : Shape := ⟨3, ![1, 24, 40]⟩
abbrev S8x24x40 : Shape := ⟨3, ![8, 24, 40]⟩
abbrev S192x40 : Shape := ⟨2, ![192, 40]⟩
abbrev S192 : Shape := ⟨1, ![192]⟩
abbrev S192x1 : Shape := ⟨2, ![192, 1]⟩
abbrev S192x32 : Shape := ⟨2, ![192, 32]⟩
abbrev S192x256 : Shape := ⟨2, ![192, 256]⟩
abbrev S24x256 : Shape := ⟨2, ![24, 256]⟩
abbrev S1x24x256 : Shape := ⟨3, ![1, 24, 256]⟩
abbrev S8x24x256 : Shape := ⟨3, ![8, 24, 256]⟩
abbrev S192x1024 : Shape := ⟨2, ![192, 1024]⟩
abbrev S8x24 : Shape := ⟨2, ![8, 24]⟩
abbrev S8x24x1 : Shape := ⟨3, ![8, 24, 1]⟩
abbrev S192x8 : Shape := ⟨2, ![192, 8]⟩
abbrev S8x24x8 : Shape := ⟨3, ![8, 24, 8]⟩
abbrev S8x24x32 : Shape := ⟨3, ![8, 24, 32]⟩
abbrev S1x32x40 : Shape := ⟨3, ![1, 32, 40]⟩
abbrev S8x32x40 : Shape := ⟨3, ![8, 32, 40]⟩
abbrev S256x40 : Shape := ⟨2, ![256, 40]⟩
abbrev S256x1 : Shape := ⟨2, ![256, 1]⟩
abbrev S256x32 : Shape := ⟨2, ![256, 32]⟩
abbrev S32x256 : Shape := ⟨2, ![32, 256]⟩
abbrev S1x32x256 : Shape := ⟨3, ![1, 32, 256]⟩
abbrev S8x32x256 : Shape := ⟨3, ![8, 32, 256]⟩
abbrev S8x32x1 : Shape := ⟨3, ![8, 32, 1]⟩
abbrev S8x32x8 : Shape := ⟨3, ![8, 32, 8]⟩
abbrev S8x32x32 : Shape := ⟨3, ![8, 32, 32]⟩
abbrev S1x40x40 : Shape := ⟨3, ![1, 40, 40]⟩
abbrev S8x40x40 : Shape := ⟨3, ![8, 40, 40]⟩
abbrev S320x40 : Shape := ⟨2, ![320, 40]⟩
abbrev S320 : Shape := ⟨1, ![320]⟩
abbrev S320x1 : Shape := ⟨2, ![320, 1]⟩
abbrev S320x32 : Shape := ⟨2, ![320, 32]⟩
abbrev S320x256 : Shape := ⟨2, ![320, 256]⟩
abbrev S1x40x256 : Shape := ⟨3, ![1, 40, 256]⟩
abbrev S8x40x256 : Shape := ⟨3, ![8, 40, 256]⟩
abbrev S320x1024 : Shape := ⟨2, ![320, 1024]⟩
abbrev S8x40x1 : Shape := ⟨3, ![8, 40, 1]⟩
abbrev S320x8 : Shape := ⟨2, ![320, 8]⟩
abbrev S8x40x8 : Shape := ⟨3, ![8, 40, 8]⟩
abbrev S8x40x32 : Shape := ⟨3, ![8, 40, 32]⟩
abbrev S8x4x32x256 : Shape := ⟨4, ![8, 4, 32, 256]⟩
abbrev S8x32x4x256 : Shape := ⟨4, ![8, 32, 4, 256]⟩

abbrev nBuf : Space → Nat
  | .hbm => 46
  | .vmem => 27
  | .smem => 0
  | _ => 0

abbrev bufTy : (tb : Table) → Fin (tcTables nBuf tb) → BufTy
  | .hbm, ⟨0, _⟩ => ⟨S8x128x8, .f32⟩
  | .hbm, ⟨1, _⟩ => ⟨S64x256, .f32⟩
  | .hbm, ⟨2, _⟩ => ⟨S256, .f32⟩
  | .hbm, ⟨3, _⟩ => ⟨S34x256, .f32⟩
  | .hbm, ⟨4, _⟩ => ⟨S2x256, .f32⟩
  | .hbm, ⟨5, _⟩ => ⟨S2x256, .f32⟩
  | .hbm, ⟨6, _⟩ => ⟨S2x256x256, .f32⟩
  | .hbm, ⟨7, _⟩ => ⟨S2x256, .f32⟩
  | .hbm, ⟨8, _⟩ => ⟨S2x256x256, .f32⟩
  | .hbm, ⟨9, _⟩ => ⟨S2x256, .f32⟩
  | .hbm, ⟨10, _⟩ => ⟨S2x256x256, .f32⟩
  | .hbm, ⟨11, _⟩ => ⟨S2x256, .f32⟩
  | .hbm, ⟨12, _⟩ => ⟨S2x256x256, .f32⟩
  | .hbm, ⟨13, _⟩ => ⟨S2x256, .f32⟩
  | .hbm, ⟨14, _⟩ => ⟨S2x256, .f32⟩
  | .hbm, ⟨15, _⟩ => ⟨S2x256, .f32⟩
  | .hbm, ⟨16, _⟩ => ⟨S2x256x1024, .f32⟩
  | .hbm, ⟨17, _⟩ => ⟨S2x1024, .f32⟩
  | .hbm, ⟨18, _⟩ => ⟨S2x1024x256, .f32⟩
  | .hbm, ⟨19, _⟩ => ⟨S2x256, .f32⟩
  | .hbm, ⟨20, _⟩ => ⟨S4x40x8, .i32⟩
  | .hbm, ⟨21, _⟩ => ⟨S4x40x8, .i1⟩
  | .hbm, ⟨22, _⟩ => ⟨S32x40, .f32⟩
  | .hbm, ⟨23, _⟩ => ⟨S32x40, .f32⟩
  | .hbm, ⟨24, _⟩ => ⟨S32x40, .f32⟩
  | .hbm, ⟨25, _⟩ => ⟨S256x8, .f32⟩
  | .hbm, ⟨26, _⟩ => ⟨S_, .f32⟩
  | .hbm, ⟨27, _⟩ => ⟨S8x15x8, .f32⟩
  | .hbm, ⟨28, _⟩ => ⟨S8x143x8, .f32⟩
  | .hbm, ⟨29, _⟩ => ⟨S1x256, .f32⟩
  | .hbm, ⟨30, _⟩ => ⟨S_, .i32⟩
  | .hbm, ⟨31, _⟩ => ⟨S4x40x8, .i32⟩
  | .hbm, ⟨32, _⟩ => ⟨S4x40x8, .i32⟩
  | .hbm, ⟨33, _⟩ => ⟨S4x40x8, .i32⟩
  | .hbm, ⟨34, _⟩ => ⟨S4x40x8x1, .i32⟩
  | .hbm, ⟨35, _⟩ => ⟨S8x4x40x8x8, .f32⟩
  | .hbm, ⟨36, _⟩ => ⟨S32x40x64, .f32⟩
  | .hbm, ⟨37, _⟩ => ⟨S_, .f32⟩
  | .hbm, ⟨38, _⟩ => ⟨S40x256, .f32⟩
  | .hbm, ⟨39, _⟩ => ⟨S_, .i32⟩
  | .hbm, ⟨40, _⟩ => ⟨S1, .i32⟩
  | .hbm, ⟨41, _⟩ => ⟨S40x256, .f32⟩
  | .hbm, ⟨42, _⟩ => ⟨S32x32x256, .f32⟩
  | .hbm, ⟨43, _⟩ => ⟨S8x4x32x256, .f32⟩
  | .hbm, ⟨44, _⟩ => ⟨S8x32x4x256, .f32⟩
  | .hbm, ⟨45, _⟩ => ⟨S1024x256, .f32⟩
  | .local _ .vmem, ⟨0, _⟩ => ⟨S2x40x64, .f32⟩
  | .local _ .vmem, ⟨1, _⟩ => ⟨S2x40x64, .f32⟩
  | .local _ .vmem, ⟨2, _⟩ => ⟨S40x256, .f32⟩
  | .local _ .vmem, ⟨3, _⟩ => ⟨S32x40, .f32⟩
  | .local _ .vmem, ⟨4, _⟩ => ⟨S32x40, .f32⟩
  | .local _ .vmem, ⟨5, _⟩ => ⟨S32x40, .f32⟩
  | .local _ .vmem, ⟨6, _⟩ => ⟨S256x8, .f32⟩
  | .local _ .vmem, ⟨7, _⟩ => ⟨S64x256, .f32⟩
  | .local _ .vmem, ⟨8, _⟩ => ⟨S1x256, .f32⟩
  | .local _ .vmem, ⟨9, _⟩ => ⟨S2x256, .f32⟩
  | .local _ .vmem, ⟨10, _⟩ => ⟨S2x256, .f32⟩
  | .local _ .vmem, ⟨11, _⟩ => ⟨S2x256x256, .f32⟩
  | .local _ .vmem, ⟨12, _⟩ => ⟨S2x256, .f32⟩
  | .local _ .vmem, ⟨13, _⟩ => ⟨S2x256x256, .f32⟩
  | .local _ .vmem, ⟨14, _⟩ => ⟨S2x256, .f32⟩
  | .local _ .vmem, ⟨15, _⟩ => ⟨S2x256x256, .f32⟩
  | .local _ .vmem, ⟨16, _⟩ => ⟨S2x256, .f32⟩
  | .local _ .vmem, ⟨17, _⟩ => ⟨S2x256x256, .f32⟩
  | .local _ .vmem, ⟨18, _⟩ => ⟨S2x256, .f32⟩
  | .local _ .vmem, ⟨19, _⟩ => ⟨S2x256, .f32⟩
  | .local _ .vmem, ⟨20, _⟩ => ⟨S2x256, .f32⟩
  | .local _ .vmem, ⟨21, _⟩ => ⟨S2x256x1024, .f32⟩
  | .local _ .vmem, ⟨22, _⟩ => ⟨S2x1024, .f32⟩
  | .local _ .vmem, ⟨23, _⟩ => ⟨S2x1024x256, .f32⟩
  | .local _ .vmem, ⟨24, _⟩ => ⟨S2x256, .f32⟩
  | .local _ .vmem, ⟨25, _⟩ => ⟨S2x32x256, .f32⟩
  | .local _ .vmem, ⟨26, _⟩ => ⟨S2x32x256, .f32⟩
  | _, _ => ⟨S8x128x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_c_0 : Ref sig .tc := ⟨.hbm, 21, rfl⟩
abbrev main_cst : Ref sig .tc := ⟨.hbm, 22, rfl⟩
abbrev main_cst_1 : Ref sig .tc := ⟨.hbm, 23, rfl⟩
abbrev main_cst_2 : Ref sig .tc := ⟨.hbm, 24, rfl⟩
abbrev main_cst_3 : Ref sig .tc := ⟨.hbm, 25, rfl⟩
abbrev main_cst_4 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_c_5 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_6 : Ref sig .tc := ⟨.hbm, 37, rfl⟩
abbrev main_v9 : Ref sig .tc := ⟨.hbm, 38, rfl⟩
abbrev main_c_7 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg24_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem24_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x40x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x256x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2x256x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S2x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S2x1024x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S2x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S2x32x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== KernelIdeal.lean ====
variable {F : FTy → Type} [FloatOps F] [Named F]
def κ : String → Option EReal := fun
  | "iscale" => some (((Real.sqrt 32)⁻¹ : ℝ) : EReal)
  | "mask" => some ⊥
  | _ => none
-- ==== ReferenceIdeal.lean ====
abbrev S8x128x8 : Shape := ⟨3, ![8, 128, 8]⟩
abbrev S64x256 : Shape := ⟨2, ![64, 256]⟩
abbrev S256 : Shape := ⟨1, ![256]⟩
abbrev S34x256 : Shape := ⟨2, ![34, 256]⟩
abbrev S2x256 : Shape := ⟨2, ![2, 256]⟩
abbrev S2x256x256 : Shape := ⟨3, ![2, 256, 256]⟩
abbrev S2x256x1024 : Shape := ⟨3, ![2, 256, 1024]⟩
abbrev S2x1024 : Shape := ⟨2, ![2, 1024]⟩
abbrev S2x1024x256 : Shape := ⟨3, ![2, 1024, 256]⟩
abbrev S136x8 : Shape := ⟨2, ![136, 8]⟩
abbrev S128x34 : Shape := ⟨2, ![128, 34]⟩
abbrev S1x128x34 : Shape := ⟨3, ![1, 128, 34]⟩
abbrev S128 : Shape := ⟨1, ![128]⟩
abbrev S_ : Shape := ⟨0, ![]⟩
abbrev S8x15x8 : Shape := ⟨3, ![8, 15, 8]⟩
abbrev S8x143x8 : Shape := ⟨3, ![8, 143, 8]⟩
abbrev S136x8x1 : Shape := ⟨3, ![136, 8, 1]⟩
abbrev S8x136x8x8 : Shape := ⟨4, ![8, 136, 8, 8]⟩
abbrev S8x136x64 : Shape := ⟨3, ![8, 136, 64]⟩
abbrev S8x136x256 : Shape := ⟨3, ![8, 136, 256]⟩
abbrev S1x1x256 : Shape := ⟨3, ![1, 1, 256]⟩
abbrev S128x34x1 : Shape := ⟨3, ![128, 34, 1]⟩
abbrev S8x128x34x256 : Shape := ⟨4, ![8, 128, 34, 256]⟩
abbrev S1x1x34x256 : Shape := ⟨4, ![1, 1, 34, 256]⟩
abbrev S1024x34x256 : Shape := ⟨3, ![1024, 34, 256]⟩
abbrev S8x128x34 : Shape := ⟨3, ![8, 128, 34]⟩
abbrev S1024x34 : Shape := ⟨2, ![1024, 34]⟩
abbrev S1x256 : Shape := ⟨2, ![1, 256]⟩
abbrev S1024x34x1 : Shape := ⟨3, ![1024, 34, 1]⟩
abbrev S1x256x256 : Shape := ⟨3, ![1, 256, 256]⟩
abbrev S256x256 : Shape := ⟨2, ![256, 256]⟩
abbrev S1024x34x8x32 : Shape := ⟨4, ![1024, 34, 8, 32]⟩
abbrev S1024x8x34x34 : Shape := ⟨4, ![1024, 8, 34, 34]⟩
abbrev S1024x1x1x34 : Shape := ⟨4, ![1024, 1, 1, 34]⟩
abbrev S1024x8x34 : Shape := ⟨3, ![1024, 8, 34]⟩
abbrev S1024x8x34x1 : Shape := ⟨4, ![1024, 8, 34, 1]⟩
abbrev S1024x8x32x34 : Shape := ⟨4, ![1024, 8, 32, 34]⟩
abbrev S1x256x1024 : Shape := ⟨3, ![1, 256, 1024]⟩
abbrev S256x1024 : Shape := ⟨2, ![256, 1024]⟩
abbrev S1024x34x1024 : Shape := ⟨3, ![1024, 34, 1024]⟩
abbrev S1x1024 : Shape := ⟨2, ![1, 1024]⟩
abbrev S1024 : Shape := ⟨1, ![1024]⟩
abbrev S1x1x1024 : Shape := ⟨3, ![1, 1, 1024]⟩
abbrev S1x1024x256 : Shape := ⟨3, ![1, 1024, 256]⟩
abbrev S1024x256 : Shape := ⟨2, ![1024, 256]⟩
abbrev S8x4352x256 : Shape := ⟨3, ![8, 4352, 256]⟩
abbrev S128x1 : Shape := ⟨2, ![128, 1]⟩
abbrev S8x128x256 : Shape := ⟨3, ![8, 128, 256]⟩

abbrev nBuf : Space → Nat
  | .hbm => 374
  | .vmem => 0
  | .smem => 0
  | _ => 0

abbrev hbmTy0_0 (i : Nat) : BufTy := match i % 128 with
  | 0 => ⟨S8x128x8, .f32⟩
  | 1 => ⟨S64x256, .f32⟩
  | 2 => ⟨S256, .f32⟩
  | 3 => ⟨S34x256, .f32⟩
  | 4 => ⟨S2x256, .f32⟩
  | 5 => ⟨S2x256, .f32⟩
  | 6 => ⟨S2x256x256, .f32⟩
  | 7 => ⟨S2x256, .f32⟩
  | 8 => ⟨S2x256x256, .f32⟩
  | 9 => ⟨S2x256, .f32⟩
  | 10 => ⟨S2x256x256, .f32⟩
  | 11 => ⟨S2x256, .f32⟩
  | 12 => ⟨S2x256x256, .f32⟩
  | 13 => ⟨S2x256, .f32⟩
  | 14 => ⟨S2x256, .f32⟩
  | 15 => ⟨S2x256, .f32⟩
  | 16 => ⟨S2x256x1024, .f32⟩
  | 17 => ⟨S2x1024, .f32⟩
  | 18 => ⟨S2x1024x256, .f32⟩
  | 19 => ⟨S2x256, .f32⟩
  | 20 => ⟨S136x8, .i32⟩
  | 21 => ⟨S136x8, .i1⟩
  | 22 => ⟨S128x34, .i32⟩
  | 23 => ⟨S128x34, .i1⟩
  | 24 => ⟨S128x34, .i1⟩
  | 25 => ⟨S1x128x34, .i1⟩
  | 26 => ⟨S128, .i32⟩
  | 27 => ⟨S128, .i1⟩
  | 28 => ⟨S_, .f32⟩
  | 29 => ⟨S8x15x8, .f32⟩
  | 30 => ⟨S8x143x8, .f32⟩
  | 31 => ⟨S_, .i32⟩
  | 32 => ⟨S136x8, .i32⟩
  | 33 => ⟨S136x8, .i32⟩
  | 34 => ⟨S136x8, .i32⟩
  | 35 => ⟨S136x8x1, .i32⟩
  | 36 => ⟨S8x136x8x8, .f32⟩
  | 37 => ⟨S8x136x64, .f32⟩
  | 38 => ⟨S8x136x256, .f32⟩
  | 39 => ⟨S1x1x256, .f32⟩
  | 40 => ⟨S8x136x256, .f32⟩
  | 41 => ⟨S8x136x256, .f32⟩
  | 42 => ⟨S_, .i32⟩
  | 43 => ⟨S128x34, .i32⟩
  | 44 => ⟨S128x34, .i32⟩
  | 45 => ⟨S128x34, .i32⟩
  | 46 => ⟨S128x34x1, .i32⟩
  | 47 => ⟨S8x128x34x256, .f32⟩
  | 48 => ⟨S1x1x34x256, .f32⟩
  | 49 => ⟨S8x128x34x256, .f32⟩
  | 50 => ⟨S8x128x34x256, .f32⟩
  | 51 => ⟨S1024x34x256, .f32⟩
  | 52 => ⟨S8x128x34, .i1⟩
  | 53 => ⟨S1024x34, .i1⟩
  | 54 => ⟨S1x256, .f32⟩
  | 55 => ⟨S256, .f32⟩
  | 56 => ⟨S1x256, .f32⟩
  | 57 => ⟨S256, .f32⟩
  | 58 => ⟨S_, .f32⟩
  | 59 => ⟨S1024x34, .f32⟩
  | 60 => ⟨S1024x34x1, .f32⟩
  | 61 => ⟨S_, .f32⟩
  | 62 => ⟨S1024x34x1, .f32⟩
  | 63 => ⟨S1024x34x1, .f32⟩
  | 64 => ⟨S1024x34x256, .f32⟩
  | 65 => ⟨S1024x34x256, .f32⟩
  | 66 => ⟨S1024x34x256, .f32⟩
  | 67 => ⟨S_, .f32⟩
  | 68 => ⟨S1024x34, .f32⟩
  | 69 => ⟨S1024x34x1, .f32⟩
  | 70 => ⟨S_, .f32⟩
  | 71 => ⟨S1024x34x1, .f32⟩
  | 72 => ⟨S1024x34x1, .f32⟩
  | 73 => ⟨S1024x34x256, .f32⟩
  | 74 => ⟨S1024x34x256, .f32⟩
  | 75 => ⟨S_, .f32⟩
  | 76 => ⟨S1024x34x1, .f32⟩
  | 77 => ⟨S1024x34x1, .f32⟩
  | 78 => ⟨S1024x34x1, .f32⟩
  | 79 => ⟨S1024x34x256, .f32⟩
  | 80 => ⟨S1024x34x256, .f32⟩
  | 81 => ⟨S1x1x256, .f32⟩
  | 82 => ⟨S1024x34x256, .f32⟩
  | 83 => ⟨S1024x34x256, .f32⟩
  | 84 => ⟨S1x1x256, .f32⟩
  | 85 => ⟨S1024x34x256, .f32⟩
  | 86 => ⟨S1024x34x256, .f32⟩
  | 87 => ⟨S1x256x256, .f32⟩
  | 88 => ⟨S256x256, .f32⟩
  | 89 => ⟨S1024x34x256, .f32⟩
  | 90 => ⟨S1x256, .f32⟩
  | 91 => ⟨S256, .f32⟩
  | 92 => ⟨S1x1x256, .f32⟩
  | 93 => ⟨S1024x34x256, .f32⟩
  | 94 => ⟨S1024x34x256, .f32⟩
  | 95 => ⟨S1024x34x8x32, .f32⟩
  | 96 => ⟨S1x256x256, .f32⟩
  | 97 => ⟨S256x256, .f32⟩
  | 98 => ⟨S1024x34x256, .f32⟩
  | 99 => ⟨S1x256, .f32⟩
  | 100 => ⟨S256, .f32⟩
  | 101 => ⟨S1x1x256, .f32⟩
  | 102 => ⟨S1024x34x256, .f32⟩
  | 103 => ⟨S1024x34x256, .f32⟩
  | 104 => ⟨S1024x34x8x32, .f32⟩
  | 105 => ⟨S1x256x256, .f32⟩
  | 106 => ⟨S256x256, .f32⟩
  | 107 => ⟨S1024x34x256, .f32⟩
  | 108 => ⟨S1x256, .f32⟩
  | 109 => ⟨S256, .f32⟩
  | 110 => ⟨S1x1x256, .f32⟩
  | 111 => ⟨S1024x34x256, .f32⟩
  | 112 => ⟨S1024x34x256, .f32⟩
  | 113 => ⟨S1024x34x8x32, .f32⟩
  | 114 => ⟨S1024x8x34x34, .f32⟩
  | 115 => ⟨S_, .f32⟩
  | 116 => ⟨S_, .f32⟩
  | 117 => ⟨S1024x8x34x34, .f32⟩
  | 118 => ⟨S1024x8x34x34, .f32⟩
  | 119 => ⟨S1024x1x1x34, .i1⟩
  | 120 => ⟨S_, .f32⟩
  | 121 => ⟨S_, .f32⟩
  | 122 => ⟨S1024x8x34x34, .i1⟩
  | 123 => ⟨S1024x8x34x34, .f32⟩
  | 124 => ⟨S1024x8x34x34, .f32⟩
  | 125 => ⟨S_, .f32⟩
  | 126 => ⟨S1024x8x34, .f32⟩
  | 127 => ⟨S_, .f32⟩
  | _ => ⟨S8x128x8, .f32⟩

abbrev hbmTy0_1 (i : Nat) : BufTy := match i % 128 with
  | 0 => ⟨S1024x8x34, .f32⟩
  | 1 => ⟨S1024x8x34, .f32⟩
  | 2 => ⟨S1024x8x34x1, .f32⟩
  | 3 => ⟨S1024x8x34x34, .f32⟩
  | 4 => ⟨S1024x8x34x34, .f32⟩
  | 5 => ⟨S1024x8x34x34, .f32⟩
  | 6 => ⟨S_, .f32⟩
  | 7 => ⟨S1024x8x34, .f32⟩
  | 8 => ⟨S1024x8x34x1, .f32⟩
  | 9 => ⟨S1024x8x34x34, .f32⟩
  | 10 => ⟨S1024x8x34x34, .f32⟩
  | 11 => ⟨S1024x8x32x34, .f32⟩
  | 12 => ⟨S1024x34x8x32, .f32⟩
  | 13 => ⟨S1024x34x256, .f32⟩
  | 14 => ⟨S1x256x256, .f32⟩
  | 15 => ⟨S256x256, .f32⟩
  | 16 => ⟨S1024x34x256, .f32⟩
  | 17 => ⟨S1x256, .f32⟩
  | 18 => ⟨S256, .f32⟩
  | 19 => ⟨S1x1x256, .f32⟩
  | 20 => ⟨S1024x34x256, .f32⟩
  | 21 => ⟨S1024x34x256, .f32⟩
  | 22 => ⟨S1024x34x256, .f32⟩
  | 23 => ⟨S1x256, .f32⟩
  | 24 => ⟨S256, .f32⟩
  | 25 => ⟨S1x256, .f32⟩
  | 26 => ⟨S256, .f32⟩
  | 27 => ⟨S_, .f32⟩
  | 28 => ⟨S1024x34, .f32⟩
  | 29 => ⟨S1024x34x1, .f32⟩
  | 30 => ⟨S_, .f32⟩
  | 31 => ⟨S1024x34x1, .f32⟩
  | 32 => ⟨S1024x34x1, .f32⟩
  | 33 => ⟨S1024x34x256, .f32⟩
  | 34 => ⟨S1024x34x256, .f32⟩
  | 35 => ⟨S1024x34x256, .f32⟩
  | 36 => ⟨S_, .f32⟩
  | 37 => ⟨S1024x34, .f32⟩
  | 38 => ⟨S1024x34x1, .f32⟩
  | 39 => ⟨S_, .f32⟩
  | 40 => ⟨S1024x34x1, .f32⟩
  | 41 => ⟨S1024x34x1, .f32⟩
  | 42 => ⟨S1024x34x256, .f32⟩
  | 43 => ⟨S1024x34x256, .f32⟩
  | 44 => ⟨S_, .f32⟩
  | 45 => ⟨S1024x34x1, .f32⟩
  | 46 => ⟨S1024x34x1, .f32⟩
  | 47 => ⟨S1024x34x1, .f32⟩
  | 48 => ⟨S1024x34x256, .f32⟩
  | 49 => ⟨S1024x34x256, .f32⟩
  | 50 => ⟨S1x1x256, .f32⟩
  | 51 => ⟨S1024x34x256, .f32⟩
  | 52 => ⟨S1024x34x256, .f32⟩
  | 53 => ⟨S1x1x256, .f32⟩
  | 54 => ⟨S1024x34x256, .f32⟩
  | 55 => ⟨S1024x34x256, .f32⟩
  | 56 => ⟨S1x256x1024, .f32⟩
  | 57 => ⟨S256x1024, .f32⟩
  | 58 => ⟨S1024x34x1024, .f32⟩
  | 59 => ⟨S1x1024, .f32⟩
  | 60 => ⟨S1024, .f32⟩
  | 61 => ⟨S1x1x1024, .f32⟩
  | 62 => ⟨S1024x34x1024, .f32⟩
  | 63 => ⟨S1024x34x1024, .f32⟩
  | 64 => ⟨S_, .f32⟩
  | 65 => ⟨S1024x34x1024, .f32⟩
  | 66 => ⟨S1024x34x1024, .f32⟩
  | 67 => ⟨S1024x34x1024, .f32⟩
  | 68 => ⟨S_, .f32⟩
  | 69 => ⟨S1024x34x1024, .f32⟩
  | 70 => ⟨S1024x34x1024, .f32⟩
  | 71 => ⟨S1024x34x1024, .f32⟩
  | 72 => ⟨S1024x34x1024, .f32⟩
  | 73 => ⟨S1x1024x256, .f32⟩
  | 74 => ⟨S1024x256, .f32⟩
  | 75 => ⟨S1024x34x256, .f32⟩
  | 76 => ⟨S1x256, .f32⟩
  | 77 => ⟨S256, .f32⟩
  | 78 => ⟨S1x1x256, .f32⟩
  | 79 => ⟨S1024x34x256, .f32⟩
  | 80 => ⟨S1024x34x256, .f32⟩
  | 81 => ⟨S1024x34x256, .f32⟩
  | 82 => ⟨S1x256, .f32⟩
  | 83 => ⟨S256, .f32⟩
  | 84 => ⟨S1x256, .f32⟩
  | 85 => ⟨S256, .f32⟩
  | 86 => ⟨S_, .f32⟩
  | 87 => ⟨S1024x34, .f32⟩
  | 88 => ⟨S1024x34x1, .f32⟩
  | 89 => ⟨S_, .f32⟩
  | 90 => ⟨S1024x34x1, .f32⟩
  | 91 => ⟨S1024x34x1, .f32⟩
  | 92 => ⟨S1024x34x256, .f32⟩
  | 93 => ⟨S1024x34x256, .f32⟩
  | 94 => ⟨S1024x34x256, .f32⟩
  | 95 => ⟨S_, .f32⟩
  | 96 => ⟨S1024x34, .f32⟩
  | 97 => ⟨S1024x34x1, .f32⟩
  | 98 => ⟨S_, .f32⟩
  | 99 => ⟨S1024x34x1, .f32⟩
  | 100 => ⟨S1024x34x1, .f32⟩
  | 101 => ⟨S1024x34x256, .f32⟩
  | 102 => ⟨S1024x34x256, .f32⟩
  | 103 => ⟨S_, .f32⟩
  | 104 => ⟨S1024x34x1, .f32⟩
  | 105 => ⟨S1024x34x1, .f32⟩
  | 106 => ⟨S1024x34x1, .f32⟩
  | 107 => ⟨S1024x34x256, .f32⟩
  | 108 => ⟨S1024x34x256, .f32⟩
  | 109 => ⟨S1x1x256, .f32⟩
  | 110 => ⟨S1024x34x256, .f32⟩
  | 111 => ⟨S1024x34x256, .f32⟩
  | 112 => ⟨S1x1x256, .f32⟩
  | 113 => ⟨S1024x34x256, .f32⟩
  | 114 => ⟨S1024x34x256, .f32⟩
  | 115 => ⟨S1x256x256, .f32⟩
  | 116 => ⟨S256x256, .f32⟩
  | 117 => ⟨S1024x34x256, .f32⟩
  | 118 => ⟨S1x256, .f32⟩
  | 119 => ⟨S256, .f32⟩
  | 120 => ⟨S1x1x256, .f32⟩
  | 121 => ⟨S1024x34x256, .f32⟩
  | 122 => ⟨S1024x34x256, .f32⟩
  | 123 => ⟨S1024x34x8x32, .f32⟩
  | 124 => ⟨S1x256x256, .f32⟩
  | 125 => ⟨S256x256, .f32⟩
  | 126 => ⟨S1024x34x256, .f32⟩
  | 127 => ⟨S1x256, .f32⟩
  | _ => ⟨S8x128x8, .f32⟩

abbrev hbmTy0_2 (i : Nat) : BufTy := match i % 128 with
  | 0 => ⟨S256, .f32⟩
  | 1 => ⟨S1x1x256, .f32⟩
  | 2 => ⟨S1024x34x256, .f32⟩
  | 3 => ⟨S1024x34x256, .f32⟩
  | 4 => ⟨S1024x34x8x32, .f32⟩
  | 5 => ⟨S1x256x256, .f32⟩
  | 6 => ⟨S256x256, .f32⟩
  | 7 => ⟨S1024x34x256, .f32⟩
  | 8 => ⟨S1x256, .f32⟩
  | 9 => ⟨S256, .f32⟩
  | 10 => ⟨S1x1x256, .f32⟩
  | 11 => ⟨S1024x34x256, .f32⟩
  | 12 => ⟨S1024x34x256, .f32⟩
  | 13 => ⟨S1024x34x8x32, .f32⟩
  | 14 => ⟨S1024x8x34x34, .f32⟩
  | 15 => ⟨S_, .f32⟩
  | 16 => ⟨S_, .f32⟩
  | 17 => ⟨S1024x8x34x34, .f32⟩
  | 18 => ⟨S1024x8x34x34, .f32⟩
  | 19 => ⟨S1024x1x1x34, .i1⟩
  | 20 => ⟨S_, .f32⟩
  | 21 => ⟨S_, .f32⟩
  | 22 => ⟨S1024x8x34x34, .i1⟩
  | 23 => ⟨S1024x8x34x34, .f32⟩
  | 24 => ⟨S1024x8x34x34, .f32⟩
  | 25 => ⟨S_, .f32⟩
  | 26 => ⟨S1024x8x34, .f32⟩
  | 27 => ⟨S_, .f32⟩
  | 28 => ⟨S1024x8x34, .f32⟩
  | 29 => ⟨S1024x8x34, .f32⟩
  | 30 => ⟨S1024x8x34x1, .f32⟩
  | 31 => ⟨S1024x8x34x34, .f32⟩
  | 32 => ⟨S1024x8x34x34, .f32⟩
  | 33 => ⟨S1024x8x34x34, .f32⟩
  | 34 => ⟨S_, .f32⟩
  | 35 => ⟨S1024x8x34, .f32⟩
  | 36 => ⟨S1024x8x34x1, .f32⟩
  | 37 => ⟨S1024x8x34x34, .f32⟩
  | 38 => ⟨S1024x8x34x34, .f32⟩
  | 39 => ⟨S1024x8x32x34, .f32⟩
  | 40 => ⟨S1024x34x8x32, .f32⟩
  | 41 => ⟨S1024x34x256, .f32⟩
  | 42 => ⟨S1x256x256, .f32⟩
  | 43 => ⟨S256x256, .f32⟩
  | 44 => ⟨S1024x34x256, .f32⟩
  | 45 => ⟨S1x256, .f32⟩
  | 46 => ⟨S256, .f32⟩
  | 47 => ⟨S1x1x256, .f32⟩
  | 48 => ⟨S1024x34x256, .f32⟩
  | 49 => ⟨S1024x34x256, .f32⟩
  | 50 => ⟨S1024x34x256, .f32⟩
  | 51 => ⟨S1x256, .f32⟩
  | 52 => ⟨S256, .f32⟩
  | 53 => ⟨S1x256, .f32⟩
  | 54 => ⟨S256, .f32⟩
  | 55 => ⟨S_, .f32⟩
  | 56 => ⟨S1024x34, .f32⟩
  | 57 => ⟨S1024x34x1, .f32⟩
  | 58 => ⟨S_, .f32⟩
  | 59 => ⟨S1024x34x1, .f32⟩
  | 60 => ⟨S1024x34x1, .f32⟩
  | 61 => ⟨S1024x34x256, .f32⟩
  | 62 => ⟨S1024x34x256, .f32⟩
  | 63 => ⟨S1024x34x256, .f32⟩
  | 64 => ⟨S_, .f32⟩
  | 65 => ⟨S1024x34, .f32⟩
  | 66 => ⟨S1024x34x1, .f32⟩
  | 67 => ⟨S_, .f32⟩
  | 68 => ⟨S1024x34x1, .f32⟩
  | 69 => ⟨S1024x34x1, .f32⟩
  | 70 => ⟨S1024x34x256, .f32⟩
  | 71 => ⟨S1024x34x256, .f32⟩
  | 72 => ⟨S_, .f32⟩
  | 73 => ⟨S1024x34x1, .f32⟩
  | 74 => ⟨S1024x34x1, .f32⟩
  | 75 => ⟨S1024x34x1, .f32⟩
  | 76 => ⟨S1024x34x256, .f32⟩
  | 77 => ⟨S1024x34x256, .f32⟩
  | 78 => ⟨S1x1x256, .f32⟩
  | 79 => ⟨S1024x34x256, .f32⟩
  | 80 => ⟨S1024x34x256, .f32⟩
  | 81 => ⟨S1x1x256, .f32⟩
  | 82 => ⟨S1024x34x256, .f32⟩
  | 83 => ⟨S1024x34x256, .f32⟩
  | 84 => ⟨S1x256x1024, .f32⟩
  | 85 => ⟨S256x1024, .f32⟩
  | 86 => ⟨S1024x34x1024, .f32⟩
  | 87 => ⟨S1x1024, .f32⟩
  | 88 => ⟨S1024, .f32⟩
  | 89 => ⟨S1x1x1024, .f32⟩
  | 90 => ⟨S1024x34x1024, .f32⟩
  | 91 => ⟨S1024x34x1024, .f32⟩
  | 92 => ⟨S_, .f32⟩
  | 93 => ⟨S1024x34x1024, .f32⟩
  | 94 => ⟨S1024x34x1024, .f32⟩
  | 95 => ⟨S1024x34x1024, .f32⟩
  | 96 => ⟨S_, .f32⟩
  | 97 => ⟨S1024x34x1024, .f32⟩
  | 98 => ⟨S1024x34x1024, .f32⟩
  | 99 => ⟨S1024x34x1024, .f32⟩
  | 100 => ⟨S1024x34x1024, .f32⟩
  | 101 => ⟨S1x1024x256, .f32⟩
  | 102 => ⟨S1024x256, .f32⟩
  | 103 => ⟨S1024x34x256, .f32⟩
  | 104 => ⟨S1x256, .f32⟩
  | 105 => ⟨S256, .f32⟩
  | 106 => ⟨S1x1x256, .f32⟩
  | 107 => ⟨S1024x34x256, .f32⟩
  | 108 => ⟨S1024x34x256, .f32⟩
  | 109 => ⟨S1024x34x256, .f32⟩
  | 110 => ⟨S8x4352x256, .f32⟩
  | 111 => ⟨S_, .i32⟩
  | 112 => ⟨S128, .i32⟩
  | 113 => ⟨S128, .i32⟩
  | 114 => ⟨S128, .i32⟩
  | 115 => ⟨S128x1, .i32⟩
  | 116 => ⟨S8x128x256, .f32⟩
  | 117 => ⟨S1024x256, .f32⟩
  | _ => ⟨S8x128x8, .f32⟩

abbrev hbmTy (i : Nat) : BufTy := match i / 128 with
  | 0 => hbmTy0_0 i
  | 1 => hbmTy0_1 i
  | 2 => hbmTy0_2 i
  | _ => ⟨S8x128x8, .f32⟩

abbrev bufTy : (tb : Table) → Fin (tcTables nBuf tb) → BufTy
  | .hbm, ⟨i, _⟩ => hbmTy i
  | _, _ => ⟨S8x128x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_c_0 : Ref sig .tc := ⟨.hbm, 21, rfl⟩
abbrev main_c_1 : Ref sig .tc := ⟨.hbm, 22, rfl⟩
abbrev main_c_2 : Ref sig .tc := ⟨.hbm, 23, rfl⟩
abbrev main_c_3 : Ref sig .tc := ⟨.hbm, 24, rfl⟩
abbrev main_v0 : Ref sig .tc := ⟨.hbm, 25, rfl⟩
abbrev main_c_4 : Ref sig .tc := ⟨.hbm, 26, rfl⟩
abbrev main_c_5 : Ref sig .tc := ⟨.hbm, 27, rfl⟩
abbrev main_cst : Ref sig .tc := ⟨.hbm, 28, rfl⟩
abbrev main_v1 : Ref sig .tc := ⟨.hbm, 29, rfl⟩
abbrev main_v2 : Ref sig .tc := ⟨.hbm, 30, rfl⟩
abbrev main_c_6 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_c_7 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_8 : Ref sig .tc := ⟨.hbm, 58, rfl⟩
abbrev main_v28 : Ref sig .tc := ⟨.hbm, 59, rfl⟩
abbrev main_v29 : Ref sig .tc := ⟨.hbm, 60, rfl⟩
abbrev main_cst_9 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_10 : Ref sig .tc := ⟨.hbm, 67, rfl⟩
abbrev main_v35 : Ref sig .tc := ⟨.hbm, 68, rfl⟩
abbrev main_v36 : Ref sig .tc := ⟨.hbm, 69, rfl⟩
abbrev main_cst_11 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_12 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_13 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_14 : Ref sig .tc := ⟨.hbm, 120, rfl⟩
abbrev main_call0_v0 : Ref sig .tc := ⟨.hbm, 121, rfl⟩
abbrev main_call0_v1 : Ref sig .tc := ⟨.hbm, 122, rfl⟩
abbrev main_call0_v2 : Ref sig .tc := ⟨.hbm, 123, rfl⟩
abbrev main_v84 : Ref sig .tc := ⟨.hbm, 124, rfl⟩
abbrev main_cst_15 : Ref sig .tc := ⟨.hbm, 125, rfl⟩
abbrev main_v85 : Ref sig .tc := ⟨.hbm, 126, rfl⟩
abbrev main_cst_16 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_17 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_18 : Ref sig .tc := ⟨.hbm, 155, rfl⟩
abbrev main_v112 : Ref sig .tc := ⟨.hbm, 156, rfl⟩
abbrev main_v113 : Ref sig .tc := ⟨.hbm, 157, rfl⟩
abbrev main_cst_19 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_20 : Ref sig .tc := ⟨.hbm, 164, rfl⟩
abbrev main_v119 : Ref sig .tc := ⟨.hbm, 165, rfl⟩
abbrev main_v120 : Ref sig .tc := ⟨.hbm, 166, rfl⟩
abbrev main_cst_21 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_22 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_23 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_24 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_cst_25 : Ref sig .tc := ⟨.hbm, 214, rfl⟩
abbrev main_v164 : Ref sig .tc := ⟨.hbm, 215, rfl⟩
abbrev main_v165 : Ref sig .tc := ⟨.hbm, 216, rfl⟩
abbrev main_cst_26 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_cst_27 : Ref sig .tc := ⟨.hbm, 223, rfl⟩
abbrev main_v171 : Ref sig .tc := ⟨.hbm, 224, rfl⟩
abbrev main_v172 : Ref sig .tc := ⟨.hbm, 225, rfl⟩
abbrev main_cst_28 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_cst_29 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_cst_30 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_cst_31 : Ref sig .tc := ⟨.hbm, 276, rfl⟩
abbrev main_call1_v0 : Ref sig .tc := ⟨.hbm, 277, rfl⟩
abbrev main_call1_v1 : Ref sig .tc := ⟨.hbm, 278, rfl⟩
abbrev main_call1_v2 : Ref sig .tc := ⟨.hbm, 279, rfl⟩
abbrev main_v220 : Ref sig .tc := ⟨.hbm, 280, rfl⟩
abbrev main_cst_32 : Ref sig .tc := ⟨.hbm, 281, rfl⟩
abbrev main_v221 : Ref sig .tc := ⟨.hbm, 282, rfl⟩
abbrev main_cst_33 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_cst_34 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_cst_35 : Ref sig .tc := ⟨.hbm, 311, rfl⟩
abbrev main_v248 : Ref sig .tc := ⟨.hbm, 312, rfl⟩
abbrev main_v249 : Ref sig .tc := ⟨.hbm, 313, rfl⟩
abbrev main_cst_36 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_cst_37 : Ref sig .tc := ⟨.hbm, 320, rfl⟩
abbrev main_v255 : Ref sig .tc := ⟨.hbm, 321, rfl⟩
abbrev main_v256 : Ref sig .tc := ⟨.hbm, 322, rfl⟩
abbrev main_cst_38 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_cst_39 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_cst_40 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_cst_41 : Ref sig .tc := ⟨.hbm, 352, rfl⟩
abbrev main_v283 : Ref sig .tc := ⟨.hbm, 353, rfl⟩
abbrev main_v284 : Ref sig .tc := ⟨.hbm, 354, rfl⟩
abbrev main_v285 : Ref sig .tc := ⟨.hbm, 355, rfl⟩
abbrev main_v286 : Ref sig .tc := ⟨.hbm, 356, rfl⟩
abbrev main_v287 : Ref sig .tc := ⟨.hbm, 357, rfl⟩
abbrev main_v288 : Ref sig .tc := ⟨.hbm, 358, rfl⟩
abbrev main_v289 : Ref sig .tc := ⟨.hbm, 359, rfl⟩
abbrev main_v290 : Ref sig .tc := ⟨.hbm, 360, rfl⟩
abbrev main_v291 : Ref sig .tc := ⟨.hbm, 361, rfl⟩
abbrev main_v292 : Ref sig .tc := ⟨.hbm, 362, rfl⟩
abbrev main_v293 : Ref sig .tc := ⟨.hbm, 363, rfl⟩
abbrev main_v294 : Ref sig .tc := ⟨.hbm, 364, rfl⟩
abbrev main_v295 : Ref sig .tc := ⟨.hbm, 365, rfl⟩
abbrev main_v296 : Ref sig .tc := ⟨.hbm, 366, rfl⟩
abbrev main_c_42 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_v301 : Ref sig .tc := ⟨.hbm, 372, rfl⟩
abbrev main_v302 : Ref sig .tc := ⟨.hbm, 373, rfl⟩

abbrev nD : Nat := 1
abbrev τ : Topo := Topo.v7x

variable {F : FTy → Type} [FloatOps F]
-- ==== Proof.Chunk.lean ====
module

public import Idealize.ShloMosaic.Lib.ShapeFacts
public import Idealize.ShloMosaic.Lib.ValueIdxCore
public import Idealize.ShloMosaic.Lib.MatmulPlain
public import Idealize.ShloMosaic.Lib.ValueLayout

@[expose] public section

/-! # What one chunk of the kernel computes

The kernel's body treats two window sequences, each in four chunks of eight query positions. All eight pieces of text are
one computation at different extents; it is written here once, over any float type `F`, at extents that are variables:
`n` window positions are stored for each sequence, `M` is the number of query positions, and a chunk reads the first `ke`
positions for each of its eight queries, as `R = 8 * ke` rows. -/

noncomputable section

namespace Cert.Scale

open Idealize.ShloMosaic

/-- A vector's shape. -/
abbrev D1 (a : ℕ) : Shape := ⟨1, ![a]⟩
/-- A matrix's shape. -/
abbrev D2 (a b : ℕ) : Shape := ⟨2, ![a, b]⟩
/-- A stack of matrices' shape. -/
abbrev D3 (a b c : ℕ) : Shape := ⟨3, ![a, b, c]⟩

/-! ## The shape relations the operations ask for -/

theorem red2 (a b : ℕ) : (D2 a b).Reduces [1] (D1 a) := ⟨rfl, Nat.one_pos, fun x => by fin_cases x; rfl⟩
theorem red3 (a b c : ℕ) : (D3 a b c).Reduces [1] (D2 a c) := ⟨rfl, Nat.two_pos, fun x => by fin_cases x <;> rfl⟩
theorem castCol (a : ℕ) : (D1 a).ShapeCasts (D2 a 1) := by simp [Shape.ShapeCasts, Shape.numel, Fin.prod_univ_succ]
theorem cast13 (a b : ℕ) : (D3 1 a b).ShapeCasts (D2 a b) := by simp [Shape.ShapeCasts, Shape.numel, Fin.prod_univ_succ]
theorem cast31 (a b : ℕ) : (D2 a b).ShapeCasts (D3 1 a b) := by simp [Shape.ShapeCasts, Shape.numel, Fin.prod_univ_succ]
theorem castMid (a b : ℕ) : (D2 a b).ShapeCasts (D3 a 1 b) := by simp [Shape.ShapeCasts, Shape.numel, Fin.prod_univ_succ]
theorem castEnd (a b : ℕ) : (D2 a b).ShapeCasts (D3 a b 1) := by simp [Shape.ShapeCasts, Shape.numel, Fin.prod_univ_succ]
theorem castJoin {a b R : ℕ} (h : R = a * b) (c : ℕ) : (D3 a b c).ShapeCasts (D2 R c) := by
  subst h; simp [Shape.ShapeCasts, Shape.numel, Fin.prod_univ_succ, Nat.mul_assoc]
theorem castSplit {a b R : ℕ} (h : R = a * b) (c : ℕ) : (D2 R c).ShapeCasts (D3 a b c) := (castJoin h c).symm
theorem bcCol (a b : ℕ) : (D2 a 1).Broadcasts (D2 a b) :=
  ⟨Nat.le_refl 2, fun x => by fin_cases x <;> first | exact .inl rfl | exact .inr fun _ => rfl⟩
theorem bcRow (a b : ℕ) : (D2 1 b).Broadcasts (D2 a b) :=
  ⟨Nat.le_refl 2, fun x => by fin_cases x <;> first | exact .inl rfl | exact .inr fun _ => rfl⟩
theorem bcFirst (a b c : ℕ) : (D3 1 b c).Broadcasts (D3 a b c) :=
  ⟨Nat.le_refl 3, fun x => by fin_cases x <;> first | exact .inl rfl | exact .inr fun _ => rfl⟩
theorem bcMid (a b c : ℕ) : (D3 a 1 c).Broadcasts (D3 a b c) :=
  ⟨Nat.le_refl 3, fun x => by fin_cases x <;> first | exact .inl rfl | exact .inr fun _ => rfl⟩
theorem bcEnd (a b c : ℕ) : (D3 a b 1).Broadcasts (D3 a b c) :=
  ⟨Nat.le_refl 3, fun x => by fin_cases x <;> first | exact .inl rfl | exact .inr fun _ => rfl⟩
theorem sl2 {a b p q o u : ℕ} (h : o + p ≤ a) (h' : u + q ≤ b) : (D2 a b).Slices ![o, u] (D2 p q) :=
  ⟨rfl, fun x => by fin_cases x; exacts [h, h']⟩
theorem sl3 {a b c p o : ℕ} (h : o + p ≤ c) : (D3 a b c).Slices ![0, 0, o] (D3 a b p) :=
  ⟨rfl, fun x => by
    fin_cases x
    exacts [(Nat.zero_add a).le, (Nat.zero_add b).le, h]⟩
theorem cat8 (a : ℕ) : Shape.Concatenates [D2 a 32, D2 a 32, D2 a 32, D2 a 32, D2 a 32, D2 a 32, D2 a 32, D2 a 32] (D2 a 256) 1 := by
  refine ⟨by simp, ?_, rfl⟩
  intro s hs
  simp only [List.mem_cons, List.mem_nil_iff, or_false, or_self] at hs
  subst hs
  exact ⟨rfl, fun b hb => by fin_cases b; exacts [rfl, absurd rfl hb]⟩

variable {F : FTy → Type} [FloatOps F]

/-- A matrix of floats. -/
abbrev Mat (F : FTy → Type) (a b : ℕ) : Type := FVec F (D2 a b) .f32
/-- A stack of matrices of floats. -/
abbrev Cube (F : FTy → Type) (a b c : ℕ) : Type := FVec F (D3 a b c) .f32

/-! ## The pieces -/

/-- The mean of each row, as a column. -/
def meanCol (R : ℕ) (x : Mat F R 256) : Mat F R 1 :=
  divf (shapeCast (D2 R 1) (multiReduction .add [1] (D1 R) x 0x00000000#32 (red2 R 256) (.inl rfl) rfl) (castCol R))
    (broadcast (D2 R 1) (Scalar.ofBits .f32 0x43800000#32))

/-- Each row less its mean. -/
def centre (R : ℕ) (x : Mat F R 256) : Mat F R 256 := subf x (broadcastTo (D2 R 256) (meanCol R x) (bcCol R 256))

/-- Layer normalization of each row, with gain `g` and offset `b`. -/
def ln (R : ℕ) (x : Mat F R 256) (g b : Mat F 1 256) : Mat F R 256 :=
  addf (mulf (mulf (centre R x)
      (broadcastTo (D2 R 256) (rsqrt (addf (meanCol R (mulf (centre R x) (centre R x)))
        (broadcast (D2 R 1) (Scalar.ofBits .f32 0x3727C5AC#32)))) (bcCol R 256)))
      (broadcastTo (D2 R 256) g (bcRow R 256)))
    (broadcastTo (D2 R 256) b (bcRow R 256))

/-- A matrix product with one slab of weights. -/
def mm (R K N : ℕ) (x : Mat F R K) (w : Cube F 1 K N) : Mat F R N :=
  matmul (DotDims.plain R K N) none x (shapeCast (D2 K N) w (cast13 K N)) (constant (D2 R N) .f32 0x00000000#32)

/-- A row added to every row. -/
def addRow (R N : ℕ) (x : Mat F R N) (b : Mat F 1 N) : Mat F R N := addf x (broadcastTo (D2 R N) b (bcRow R N))

/-- A linear layer. -/
def lin (R K N : ℕ) (x : Mat F R K) (w : Cube F 1 K N) (b : Mat F 1 N) : Mat F R N := addRow R N (mm R K N x w) b

/-- The Gaussian error unit. -/
def gelu (R : ℕ) (h : Mat F R 1024) : Mat F R 1024 :=
  mulf (mulf (broadcast (D2 R 1024) (Scalar.ofBits .f32 0x3F000000#32)) h)
    (addf (broadcast (D2 R 1024) (Scalar.ofBits .f32 0x3F800000#32))
      (erf (mulf h (broadcast (D2 R 1024) (Scalar.ofBits .f32 0x3F3504F3#32)))))

/-- One encoder layer's weights as the body loads them: matrices as slabs, vectors as rows. -/
structure Layer (F : FTy → Type) where
  /-- gain of the first normalization -/
  g1 : Mat F 1 256
  /-- offset of the first normalization -/
  b1 : Mat F 1 256
  /-- query weights -/
  wq : Cube F 1 256 256
  /-- query offset -/
  bq : Mat F 1 256
  /-- key weights -/
  wk : Cube F 1 256 256
  /-- key offset -/
  bk : Mat F 1 256
  /-- value weights -/
  wv : Cube F 1 256 256
  /-- value offset -/
  bv : Mat F 1 256
  /-- output weights -/
  wo : Cube F 1 256 256
  /-- output offset -/
  bo : Mat F 1 256
  /-- gain of the second normalization -/
  g2 : Mat F 1 256
  /-- offset of the second normalization -/
  b2 : Mat F 1 256
  /-- first feed-forward weights -/
  w1 : Cube F 1 256 1024
  /-- first feed-forward offset -/
  c1 : Mat F 1 1024
  /-- second feed-forward weights -/
  w2 : Cube F 1 1024 256
  /-- second feed-forward offset -/
  c2 : Mat F 1 256

/-- The feed-forward half of a layer, added to its input. -/
def ff (R : ℕ) (L : Layer F) (x : Mat F R 256) : Mat F R 256 :=
  addRow R 256 (addf x (mm R 1024 256 (gelu R (lin R 256 1024 (ln R x L.g2 L.b2) L.w1 L.c1)) L.w2)) L.c2

/-- The output projection of an attention half, added to its input. -/
def proj (R : ℕ) (L : Layer F) (x o : Mat F R 256) : Mat F R 256 := addRow R 256 (addf x (mm R 256 256 o L.wo)) L.bo

/-- The embedded windows of one sequence: projection, offset and position. -/
def embed (n : ℕ) (win : Cube F 1 n 64) (wp : Mat F 64 256) (bp : Mat F 1 256) (pos : Mat F n 256) : Mat F n 256 :=
  addf (addRow n 256 (matmul (DotDims.plain n 64 256) none (shapeCast (D2 n 64) win (cast13 n 64)) wp
      (constant (D2 n 256) .f32 0x00000000#32)) (shapeCast (D2 1 256) bp rfl))
    (shapeCast (D2 n 256) pos rfl)

/-- The columns of head `h`. -/
def headCols (R h : ℕ) (hh : h < 8) (x : Mat F R 256) : Mat F R 32 :=
  extractStridedSlice (D2 R 32) ![0, 32 * h] x (sl2 (Nat.zero_add R).le (by omega))

/-- First layer, one head: the exponentials of the scaled scores of every pair of positions. -/
def expScores (sc : F .f32) (n h : ℕ) (hh : h < 8) (q k : Mat F n 256) : Mat F n n :=
  exp (mulf (matmul (DotDims.transposedRhs n 32 n) none (headCols n h hh q) (headCols n h hh k)
    (constant (D2 n n) .f32 0x00000000#32)) (broadcast (D2 n n) sc))

/-- The first `ke` of `n` rows; when that is all of them the body does not slice. -/
def firstRows (n ke m : ℕ) (hke : ke ≤ n) (x : Mat F n m) : Mat F ke m :=
  if h : n = ke then h ▸ x else extractStridedSlice (D2 ke m) ![0, 0] x (sl2 (by omega) (by omega))

/-- First layer, one head: for each of eight queries and each of its first `ke` positions, the exponentials of the scores
    masked by the query's row of `T`. -/
def maskedExp (n ke R : ℕ) (hR : R = 8 * ke) (hke : ke ≤ n) (E : Mat F n n) (T : Mat F 8 n) : Mat F R n :=
  shapeCast (D2 R n) (mulf (broadcastTo (D3 8 ke n)
      (shapeCast (D3 1 ke n) (firstRows n ke n hke E) (cast31 ke n)) (bcFirst 8 ke n))
    (broadcastTo (D3 8 ke n) (shapeCast (D3 8 1 n) T (castMid 8 n)) (bcMid 8 ke n))) (castJoin hR n)

/-- First layer, one head: the attention output, the weighted values over the weights' sum. -/
def head1 (n R h : ℕ) (hh : h < 8) (w : Mat F R n) (v : Mat F n 256) : Mat F R 32 :=
  divf (matmul (DotDims.plain R n 32) none w (headCols n h hh v) (constant (D2 R 32) .f32 0x00000000#32))
    (broadcastTo (D2 R 32) (shapeCast (D2 R 1) (multiReduction .add [1] (D1 R) w 0x00000000#32 (red2 R n) (.inl rfl) rfl) (castCol R))
      (bcCol R 32))

/-- Eight heads side by side. -/
def heads (R : ℕ) (f : (h : ℕ) → h < 8 → Mat F R 32) : Mat F R 256 :=
  concatenate (D2 R 256) 1 [⟨D2 R 32, f 0 (by decide)⟩, ⟨D2 R 32, f 1 (by decide)⟩, ⟨D2 R 32, f 2 (by decide)⟩,
    ⟨D2 R 32, f 3 (by decide)⟩, ⟨D2 R 32, f 4 (by decide)⟩, ⟨D2 R 32, f 5 (by decide)⟩, ⟨D2 R 32, f 6 (by decide)⟩,
    ⟨D2 R 32, f 7 (by decide)⟩] (cat8 R)

/-- The first `ke` positions of a sequence, once for each of eight queries. -/
def repeated (n ke R : ℕ) (hR : R = 8 * ke) (hke : ke ≤ n) (x : Mat F n 256) : Mat F R 256 :=
  shapeCast (D2 R 256) (broadcastTo (D3 8 ke 256) (shapeCast (D3 1 ke 256) (shapeCast (D3 1 ke 256)
    (firstRows n ke 256 hke x) (cast31 ke 256)) rfl) (bcFirst 8 ke 256)) (castJoin hR 256)

/-- The first layer for eight queries: every query's copy of the sequence, attended under the query's mask. -/
def layer1 (sc : F .f32) (n ke R : ℕ) (hR : R = 8 * ke) (hke : ke ≤ n) (L : Layer F) (x : Mat F n 256) (T : Mat F 8 n) : Mat F R 256 :=
  ff R L (proj R L (repeated n ke R hR hke x) (heads R fun h hh =>
    head1 n R h hh (maskedExp n ke R hR hke
      (expScores sc n h hh (lin n 256 256 (ln n x L.g1 L.b1) L.wq L.bq) (lin n 256 256 (ln n x L.g1 L.b1) L.wk L.bk)) T)
      (lin n 256 256 (ln n x L.g1 L.b1) L.wv L.bv)))

/-- Of every query's rows the one `d` marks: the rows weighted by `d` and added up. -/
def pick (ke R : ℕ) (hR : R = 8 * ke) (x : Mat F R 256) (d : Mat F 8 ke) : Mat F 8 256 :=
  multiReduction .add [1] (D2 8 256) (mulf (shapeCast (D3 8 ke 256) x (castSplit hR 256))
    (broadcastTo (D3 8 ke 256) (shapeCast (D3 8 ke 1) d (castEnd 8 ke)) (bcEnd 8 ke 256))) 0x00000000#32 (red3 8 ke 256) (.inl rfl) rfl

/-- Second layer: the scaled scores of each query's last position against its positions, every head, with the mask added. -/
def scores2 (sc : F .f32) (ke R : ℕ) (hR : R = 8 * ke) (q : Mat F 8 256) (k : Mat F R 256) (gh : Mat F 256 8) (am : Mat F 8 ke) : Cube F 8 ke 8 :=
  addf (shapeCast (D3 8 ke 8) (mulf (matmul (DotDims.plain R 256 8) none
      (shapeCast (D2 R 256) (mulf (shapeCast (D3 8 ke 256) k (castSplit hR 256))
        (broadcastTo (D3 8 ke 256) (shapeCast (D3 8 1 256) q (castMid 8 256)) (bcMid 8 ke 256))) (castJoin hR 256))
      gh (constant (D2 R 8) .f32 0x00000000#32)) (broadcast (D2 R 8) sc)) (castSplit hR 8))
    (broadcastTo (D3 8 ke 8) (shapeCast (D3 8 ke 1) am (castEnd 8 ke)) (bcEnd 8 ke 8))

/-- The exponentials of scores less their largest, down each column. -/
def expShift (ke : ℕ) (s : Cube F 8 ke 8) : Cube F 8 ke 8 :=
  exp (subf s (broadcastTo (D3 8 ke 8) (shapeCast (D3 8 1 8)
    (multiReduction .maximumf [1] (D2 8 8) s 0xFF800000#32 (red3 8 ke 8) (.inl rfl) rfl) (castMid 8 8)) (bcMid 8 ke 8)))

/-- Softmax down each column. -/
def softmax2 (ke : ℕ) (s : Cube F 8 ke 8) : Cube F 8 ke 8 :=
  divf (expShift ke s) (broadcastTo (D3 8 ke 8) (shapeCast (D3 8 1 8)
    (multiReduction .add [1] (D2 8 8) (expShift ke s) 0x00000000#32 (red3 8 ke 8) (.inl rfl) rfl) (castMid 8 8)) (bcMid 8 ke 8))

/-- Second layer, one head: the values weighted by that head's column of `p`. -/
def head2 (ke R : ℕ) (hR : R = 8 * ke) (h : ℕ) (hh : h < 8) (v : Mat F R 256) (p : Cube F 8 ke 8) : Mat F 8 32 :=
  multiReduction .add [1] (D2 8 32) (mulf
    (extractStridedSlice (D3 8 ke 32) ![0, 0, 32 * h] (shapeCast (D3 8 ke 256) v (castSplit hR 256)) (sl3 (by omega)))
    (broadcastTo (D3 8 ke 32) (extractStridedSlice (D3 8 ke 1) ![0, 0, h] p (sl3 (by omega))) (bcEnd 8 ke 32)))
    0x00000000#32 (red3 8 ke 32) (.inl rfl) rfl

/-- The second layer for eight queries, at each query's last position alone. -/
def layer2 (sc : F .f32) (ke R : ℕ) (hR : R = 8 * ke) (L : Layer F) (x : Mat F R 256) (gh : Mat F 256 8) (am d : Mat F 8 ke) : Mat F 8 256 :=
  ff 8 L (proj 8 L (pick ke R hR x d) (heads 8 fun h hh => head2 ke R hR h hh (lin R 256 256 (ln R x L.g1 L.b1) L.wv L.bv)
    (softmax2 ke (scores2 sc ke R hR (lin 8 256 256 (pick ke R hR (ln R x L.g1 L.b1) d) L.wq L.bq)
      (lin R 256 256 (ln R x L.g1 L.b1) L.wk L.bk) gh am))))

/-- Row block `8 c … 8 c + 7` of a table, its first `p` columns. -/
def rows8 (M n c p : ℕ) (h : 8 * c + 8 ≤ M) (hp : p ≤ n) (x : Mat F M n) : Mat F 8 p :=
  extractStridedSlice (D2 8 p) ![8 * c, 0] x (sl2 h (by omega))

/-- The additive mask from its table: `mk` where the table is negative, zero elsewhere. -/
def maskOf (mk : F .f32) (M n : ℕ) (a : Mat F M n) : Mat F M n :=
  select (cmpf .olt a (broadcast (D2 M n) (Scalar.ofBits .f32 0x00000000#32))) (broadcast (D2 M n) mk)
    (broadcast (D2 M n) (Scalar.ofBits .f32 0x00000000#32))

/-- One chunk: both layers for the queries `8 c … 8 c + 7` of one sequence of windows. -/
def chunk (sc mk : F .f32) (n M c ke R : ℕ) (hR : R = 8 * ke) (hke : ke ≤ n) (hc : 8 * c + 8 ≤ M) (L0 L1 : Layer F)
    (win : Cube F 1 n 64) (wp : Mat F 64 256) (bp : Mat F 1 256) (pos : Mat F n 256) (T am d : Mat F M n) (gh : Mat F 256 8) : Cube F 1 8 256 :=
  shapeCast (D3 1 8 256) (layer2 sc ke R hR L1 (layer1 sc n ke R hR hke L0 (embed n win wp bp pos) (rows8 M n c n hc le_rfl T)) gh
    (rows8 M n c ke hc hke (maskOf mk M n am)) (rows8 M n c ke hc hke d)) (cast31 8 256)

end Cert.Scale

end
-- ==== Proof.Pieces.lean ====
module

public import proofs.«01_k».proof.Proof.Chunk
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

/-!
# The pieces one run of the kernel's body stores

The body loads its twenty-four input blocks and stores eight pieces, four chunks for each of its two sequences. Here the
eight pieces are stated as `Cert.Scale.chunk` at four extents.
-/

-- the eight pieces' tiling of the output block is evaluated along an axis of 256
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Scale

variable {F : FTy → Type} [FloatOps F] [Named F]

local notation "𝕄" => MT nD τ sig Unit (Elt F) ℕ (UR sig nD τ) ℕ

/-! ## What the body loads -/

/-- The input blocks of one run of the body. -/
structure Blocks (F : FTy → Type) where
  /-- two sequences of windows -/
  win : Vec F S2x40x64 .f32
  /-- positions -/
  pos : Vec F S40x256 .f32
  /-- the 0/1 mask -/
  tm : Vec F S32x40 .f32
  /-- the additive mask's table -/
  am : Vec F S32x40 .f32
  /-- the last position of each query -/
  ds : Vec F S32x40 .f32
  /-- which columns belong to which head -/
  gh : Vec F S256x8 .f32
  /-- projection weights -/
  wp : Vec F S64x256 .f32
  /-- projection offset -/
  bp : Vec F S1x256 .f32
  /-- gains of the first normalizations -/
  g1 : Vec F S2x256 .f32
  /-- offsets of the first normalizations -/
  b1 : Vec F S2x256 .f32
  /-- query weights -/
  wq : Vec F S2x256x256 .f32
  /-- query offsets -/
  bq : Vec F S2x256 .f32
  /-- key weights -/
  wk : Vec F S2x256x256 .f32
  /-- key offsets -/
  bk : Vec F S2x256 .f32
  /-- value weights -/
  wv : Vec F S2x256x256 .f32
  /-- value offsets -/
  bv : Vec F S2x256 .f32
  /-- output weights -/
  wo : Vec F S2x256x256 .f32
  /-- output offsets -/
  bo : Vec F S2x256 .f32
  /-- gains of the second normalizations -/
  g2 : Vec F S2x256 .f32
  /-- offsets of the second normalizations -/
  b2 : Vec F S2x256 .f32
  /-- first feed-forward weights -/
  w1 : Vec F S2x256x1024 .f32
  /-- first feed-forward offsets -/
  c1 : Vec F S2x1024 .f32
  /-- second feed-forward weights -/
  w2 : Vec F S2x1024x256 .f32
  /-- second feed-forward offsets -/
  c2 : Vec F S2x256 .f32

/-- The whole of a matrix block. -/
def all2 (a b : ℕ) : Rect (D2 a b) := Rect.unit (s := D2 a b) ![0, 0] (D2 a b).size (fun x => by fin_cases x <;> exact (Nat.zero_add _).le)

/-- Slab `l` of a stack of two. -/
def slab (l a b : ℕ) (h : l < 2) : Rect (D3 2 a b) :=
  Rect.unit (s := D3 2 a b) ![l, 0, 0] (D3 1 a b).size (fun x => by
    fin_cases x
    exacts [h, (Nat.zero_add a).le, (Nat.zero_add b).le])

/-- Where chunk 0 of sequence 0 is stored. -/
abbrev o00 : Rect S2x32x256 := Rect.unit (s := S2x32x256) ![0, 0, 0] S1x8x256.size inb_S2x32x256_S1x8x256_0_0_0
/-- Where chunk 1 of sequence 0 is stored. -/
abbrev o01 : Rect S2x32x256 := Rect.unit (s := S2x32x256) ![0, 8, 0] S1x8x256.size inb_S2x32x256_S1x8x256_0_8_0
/-- Where chunk 2 of sequence 0 is stored. -/
abbrev o02 : Rect S2x32x256 := Rect.unit (s := S2x32x256) ![0, 16, 0] S1x8x256.size inb_S2x32x256_S1x8x256_0_16_0
/-- Where chunk 3 of sequence 0 is stored. -/
abbrev o03 : Rect S2x32x256 := Rect.unit (s := S2x32x256) ![0, 24, 0] S1x8x256.size inb_S2x32x256_S1x8x256_0_24_0
/-- Where chunk 0 of sequence 1 is stored. -/
abbrev o10 : Rect S2x32x256 := Rect.unit (s := S2x32x256) ![1, 0, 0] S1x8x256.size inb_S2x32x256_S1x8x256_1_0_0
/-- Where chunk 1 of sequence 1 is stored. -/
abbrev o11 : Rect S2x32x256 := Rect.unit (s := S2x32x256) ![1, 8, 0] S1x8x256.size inb_S2x32x256_S1x8x256_1_8_0
/-- Where chunk 2 of sequence 1 is stored. -/
abbrev o12 : Rect S2x32x256 := Rect.unit (s := S2x32x256) ![1, 16, 0] S1x8x256.size inb_S2x32x256_S1x8x256_1_16_0
/-- Where chunk 3 of sequence 1 is stored. -/
abbrev o13 : Rect S2x32x256 := Rect.unit (s := S2x32x256) ![1, 24, 0] S1x8x256.size inb_S2x32x256_S1x8x256_1_24_0

/-- Row `l` of a two-row table. -/
def rowOf (l N : ℕ) (h : l < 2) (x : Mat F 2 N) : Mat F 1 N :=
  extractStridedSlice (D2 1 N) ![l, 0] x (sl2 h (Nat.zero_add N).le)

/-- Row `l` of a loaded two-row block. -/
def rowAt (l N : ℕ) (h : l < 2) (x : Vec F (D2 2 N) .f32) : Mat F 1 N := rowOf l N h (View.ld x (all2 2 N))

/-- Layer `l`'s weights, out of the stacked weights of both layers. -/
def layerAt (l : ℕ) (h : l < 2) (x : Blocks F) : Layer F where
  g1 := rowAt l 256 h x.g1
  b1 := rowAt l 256 h x.b1
  wq := View.ld x.wq (slab l 256 256 h)
  bq := rowAt l 256 h x.bq
  wk := View.ld x.wk (slab l 256 256 h)
  bk := rowAt l 256 h x.bk
  wv := View.ld x.wv (slab l 256 256 h)
  bv := rowAt l 256 h x.bv
  wo := View.ld x.wo (slab l 256 256 h)
  bo := rowAt l 256 h x.bo
  g2 := rowAt l 256 h x.g2
  b2 := rowAt l 256 h x.b2
  w1 := View.ld x.w1 (slab l 256 1024 h)
  c1 := rowAt l 1024 h x.c1
  w2 := View.ld x.w2 (slab l 1024 256 h)
  c2 := rowAt l 256 h x.c2

/-- Chunk `c` of sequence `g`, of the loaded blocks; it reads the sequence's first `ke` windows. -/
def chunkAt (g c ke R : ℕ) (hR : R = 8 * ke) (hke : ke ≤ 40) (hg : g < 2) (hc : 8 * c + 8 ≤ 32) (x : Blocks F) : Cube F 1 8 256 :=
  chunk (Named.named κ "iscale" 0x3E3504F3#32) (Named.named κ "mask" 0xCE6E6B28#32) 40 32 c ke R hR hke hc
    (layerAt 0 (by decide) x) (layerAt 1 (by decide) x)
    (View.ld x.win (slab g 40 64 hg)) (View.ld x.wp (all2 64 256)) (View.ld x.bp (all2 1 256)) (View.ld x.pos (all2 40 256))
    (View.ld x.tm (all2 32 40)) (View.ld x.am (all2 32 40)) (View.ld x.ds (all2 32 40)) (View.ld x.gh (all2 256 8))

/-- The output block after the body: the eight stored pieces, the last first. -/
def outBlock (x : Blocks F) : S2x32x256.Idx → Elt F .f32 :=
  View.canon [⟨o13, chunkAt 1 3 40 320 rfl (by decide) (by decide) (by decide) x⟩,
    ⟨o12, chunkAt 1 2 32 256 rfl (by decide) (by decide) (by decide) x⟩,
    ⟨o11, chunkAt 1 1 24 192 rfl (by decide) (by decide) (by decide) x⟩,
    ⟨o10, chunkAt 1 0 16 128 rfl (by decide) (by decide) (by decide) x⟩,
    ⟨o03, chunkAt 0 3 40 320 rfl (by decide) (by decide) (by decide) x⟩,
    ⟨o02, chunkAt 0 2 32 256 rfl (by decide) (by decide) (by decide) x⟩,
    ⟨o01, chunkAt 0 1 24 192 rfl (by decide) (by decide) (by decide) x⟩,
    ⟨o00, chunkAt 0 0 16 128 rfl (by decide) (by decide) (by decide) x⟩]

/-- The eight pieces tile the block. -/
theorem cover (p0 p1 p2 p3 p4 p5 p6 p7 : Vec F S1x8x256 .f32) (y : S2x32x256.Idx) :
    ∃ pc ∈ ([⟨o13, p0⟩, ⟨o12, p1⟩,
      ⟨o11, p2⟩, ⟨o10, p3⟩,
      ⟨o03, p4⟩, ⟨o02, p5⟩,
      ⟨o01, p6⟩, ⟨o00, p7⟩] :
      List (View.Piece (Elt F) S2x32x256 .f32)), y ∈ pc.1.set :=
  View.cover_of_tiled [⟨o13, p0⟩, ⟨o12, p1⟩,
      ⟨o11, p2⟩, ⟨o10, p3⟩,
      ⟨o03, p4⟩, ⟨o02, p5⟩,
      ⟨o01, p6⟩, ⟨o00, p7⟩]
    S1x8x256.size (by rfl) y

/-! ## The values between the body's stretches

The printed body is cut into sixty-two stretches; these are the values that pass from one to another, in the body's own
order, and the eight stored pieces in terms of them. Each piece is the chunk stated above. -/

/-- A load's rectangle. -/
abbrev r0 : Rect S32x40 := Rect.unit (s := S32x40) ![0, 0] S32x40.size inb_S32x40_S32x40_0_0
/-- A load's rectangle. -/
abbrev r1 : Rect S256x8 := Rect.unit (s := S256x8) ![0, 0] S256x8.size inb_S256x8_S256x8_0_0
/-- A load's rectangle. -/
abbrev r2 : Rect S2x256 := Rect.unit (s := S2x256) ![0, 0] S2x256.size inb_S2x256_S2x256_0_0
/-- A load's rectangle. -/
abbrev r3 : Rect S2x1024 := Rect.unit (s := S2x1024) ![0, 0] S2x1024.size inb_S2x1024_S2x1024_0_0
/-- A load's rectangle. -/
abbrev r4 : Rect S40x256 := Rect.unit (s := S40x256) ![0, 0] S40x256.size inb_S40x256_S40x256_0_0
/-- A load's rectangle. -/
abbrev r5 : Rect S2x40x64 := Rect.unit (s := S2x40x64) ![0, 0, 0] S1x40x64.size inb_S2x40x64_S1x40x64_0_0_0
/-- A load's rectangle. -/
abbrev r6 : Rect S64x256 := Rect.unit (s := S64x256) ![0, 0] S64x256.size inb_S64x256_S64x256_0_0
/-- A load's rectangle. -/
abbrev r7 : Rect S1x256 := Rect.unit (s := S1x256) ![0, 0] S1x256.size inb_S1x256_S1x256_0_0
/-- A load's rectangle. -/
abbrev r8 : Rect S2x256x256 := Rect.unit (s := S2x256x256) ![0, 0, 0] S1x256x256.size inb_S2x256x256_S1x256x256_0_0_0
/-- A load's rectangle. -/
abbrev r9 : Rect S2x256x1024 := Rect.unit (s := S2x256x1024) ![0, 0, 0] S1x256x1024.size inb_S2x256x1024_S1x256x1024_0_0_0
/-- A load's rectangle. -/
abbrev r10 : Rect S2x1024x256 := Rect.unit (s := S2x1024x256) ![0, 0, 0] S1x1024x256.size inb_S2x1024x256_S1x1024x256_0_0_0
/-- A load's rectangle. -/
abbrev r11 : Rect S2x256x256 := Rect.unit (s := S2x256x256) ![1, 0, 0] S1x256x256.size inb_S2x256x256_S1x256x256_1_0_0
/-- A load's rectangle. -/
abbrev r12 : Rect S2x256x1024 := Rect.unit (s := S2x256x1024) ![1, 0, 0] S1x256x1024.size inb_S2x256x1024_S1x256x1024_1_0_0
/-- A load's rectangle. -/
abbrev r13 : Rect S2x1024x256 := Rect.unit (s := S2x1024x256) ![1, 0, 0] S1x1024x256.size inb_S2x1024x256_S1x1024x256_1_0_0
/-- A load's rectangle. -/
abbrev r18 : Rect S2x40x64 := Rect.unit (s := S2x40x64) ![1, 0, 0] S1x40x64.size inb_S2x40x64_S1x40x64_1_0_0

section Values

variable (a : Vec F S2x40x64 .f32) (b : Vec F S40x256 .f32) (c : Vec F S32x40 .f32) (d : Vec F S32x40 .f32) (e : Vec F S32x40 .f32) (f : Vec F S256x8 .f32) (g : Vec F S64x256 .f32) (h : Vec F S1x256 .f32) (i : Vec F S2x256 .f32) (j : Vec F S2x256 .f32) (k : Vec F S2x256x256 .f32) (l : Vec F S2x256 .f32) (m : Vec F S2x256x256 .f32) (n : Vec F S2x256 .f32) (o : Vec F S2x256x256 .f32) (p : Vec F S2x256 .f32) (q : Vec F S2x256x256 .f32) (r : Vec F S2x256 .f32) (s : Vec F S2x256 .f32) (t : Vec F S2x256 .f32) (u : Vec F S2x256x1024 .f32) (v : Vec F S2x1024 .f32) (w : Vec F S2x1024x256 .f32) (x : Vec F S2x256 .f32)

/-- A value handed from one stretch of the body to the next. -/
def val249 : FVec F S32x40 .f32 :=
  k0_pay2 (View.ld d r0)
/-- A value handed from one stretch of the body to the next. -/
def val250 : FVec F S40x256 .f32 :=
  k0_pay3 (View.ld b r4)
/-- A value handed from one stretch of the body to the next. -/
def val251 : FVec F S40x64 .f32 :=
  k0_pay4 (View.ld a r5)
/-- A value handed from one stretch of the body to the next. -/
def val252 : FVec F S40x256 .f32 :=
  k0_pay5 (val250 b) (val251 a) (View.ld g r6) (View.ld h r7)
/-- A value handed from one stretch of the body to the next. -/
def val253 : FVec F S40x256 .f32 :=
  k0_pay7 (View.ld i r2) (View.ld j r2) (View.ld l r2) (val250 b) (val251 a) (View.ld g r6) (View.ld h r7) (View.ld k
    r8)
/-- A value handed from one stretch of the body to the next. -/
def val254 : FVec F S40x256 .f32 :=
  k0_pay8 (View.ld i r2) (View.ld j r2) (View.ld n r2) (val250 b) (val251 a) (View.ld g r6) (View.ld h r7) (View.ld m
    r8)
/-- A value handed from one stretch of the body to the next. -/
def val255 : FVec F S40x256 .f32 :=
  k0_pay9 (View.ld p r2) (k0_pay6 (View.ld i r2) (View.ld j r2) (val250 b) (val251 a) (View.ld g r6) (View.ld h r7))
    (View.ld o r8)
/-- A value handed from one stretch of the body to the next. -/
def val256 : FVec F S40x40 .f32 :=
  k0_pay10 (val253 a b g h i j k l) (val254 a b g h i j m n)
/-- A value handed from one stretch of the body to the next. -/
def val257 : FVec F S40x40 .f32 :=
  k0_pay11 (val253 a b g h i j k l) (val254 a b g h i j m n)
/-- A value handed from one stretch of the body to the next. -/
def val258 : FVec F S40x40 .f32 :=
  k0_pay12 (val253 a b g h i j k l) (val254 a b g h i j m n)
/-- A value handed from one stretch of the body to the next. -/
def val259 : FVec F S40x40 .f32 :=
  k0_pay13 (val253 a b g h i j k l) (val254 a b g h i j m n)
/-- A value handed from one stretch of the body to the next. -/
def val260 : FVec F S40x40 .f32 :=
  k0_pay14 (val253 a b g h i j k l) (val254 a b g h i j m n)
/-- A value handed from one stretch of the body to the next. -/
def val261 : FVec F S40x40 .f32 :=
  k0_pay15 (val253 a b g h i j k l) (val254 a b g h i j m n)
/-- A value handed from one stretch of the body to the next. -/
def val262 : FVec F S40x40 .f32 :=
  k0_pay18 (k0_pay16 (val253 a b g h i j k l)) (k0_pay17 (val254 a b g h i j m n)) (constant S40x40 .f32 0x00000000#32)
/-- A value handed from one stretch of the body to the next. -/
def val263 : FVec F S40x40 .f32 :=
  k0_pay19 (val253 a b g h i j k l) (val254 a b g h i j m n)
/-- A value handed from one stretch of the body to the next. -/
def val264 : FVec F S8x40 .f32 :=
  k0_pay20 (View.ld c r0)
/-- A value handed from one stretch of the body to the next. -/
def val265 : FVec F S128x32 .f32 :=
  k0_pay21 (View.ld c r0) (val255 a b g h i j o p) (val256 a b g h i j k l m n)
/-- A value handed from one stretch of the body to the next. -/
def val266 : FVec F S128x32 .f32 :=
  k0_pay22 (View.ld c r0) (val255 a b g h i j o p) (val257 a b g h i j k l m n)
/-- A value handed from one stretch of the body to the next. -/
def val267 : FVec F S128x32 .f32 :=
  k0_pay23 (View.ld c r0) (val255 a b g h i j o p) (val258 a b g h i j k l m n)
/-- A value handed from one stretch of the body to the next. -/
def val268 : FVec F S128x32 .f32 :=
  k0_pay25 (val255 a b g h i j o p) (val264 c) (k0_pay24 (val259 a b g h i j k l m n))
/-- A value handed from one stretch of the body to the next. -/
def val269 : FVec F S128x32 .f32 :=
  k0_pay26 (val255 a b g h i j o p) (val260 a b g h i j k l m n) (val264 c)
/-- A value handed from one stretch of the body to the next. -/
def val270 : FVec F S128x32 .f32 :=
  k0_pay27 (val255 a b g h i j o p) (val261 a b g h i j k l m n) (val264 c)
/-- A value handed from one stretch of the body to the next. -/
def val271 : FVec F S128x32 .f32 :=
  k0_pay28 (val255 a b g h i j o p) (val262 a b g h i j k l m n) (val264 c)
/-- A value handed from one stretch of the body to the next. -/
def val272 : FVec F S16x40 .f32 :=
  k0_pay29 (val263 a b g h i j k l m n)
/-- A value handed from one stretch of the body to the next. -/
def val273 : FVec F S128x256 .f32 :=
  k0_pay30 (View.ld r r2) (val252 a b g h) (val255 a b g h i j o p) (val264 c) (val265 a b c g h i j k l m n o p)
    (val266 a b c g h i j k l m n o p) (val267 a b c g h i j k l m n o p) (val268 a b c g h i j k l m n o p) (val269 a b
    c g h i j k l m n o p) (val270 a b c g h i j k l m n o p) (val271 a b c g h i j k l m n o p) (val272 a b g h i j k l
    m n) (View.ld q r8)
/-- A value handed from one stretch of the body to the next. -/
def val274 : FVec F S128x256 .f32 :=
  k0_pay31 (View.ld s r2) (View.ld t r2) (View.ld r r2) (val252 a b g h) (val255 a b g h i j o p) (val264 c) (val265 a b
    c g h i j k l m n o p) (val266 a b c g h i j k l m n o p) (val267 a b c g h i j k l m n o p) (val268 a b c g h i j k
    l m n o p) (val269 a b c g h i j k l m n o p) (val270 a b c g h i j k l m n o p) (val271 a b c g h i j k l m n o p)
    (val272 a b g h i j k l m n) (View.ld q r8)
/-- A value handed from one stretch of the body to the next. -/
def val275 : FVec F S128x256 .f32 :=
  k0_pay33 (View.ld i r2) (View.ld j r2) (View.ld v r3) (View.ld x r2) (val273 a b c g h i j k l m n o p q r) (val274 a
    b c g h i j k l m n o p q r s t) (View.ld u r9) (View.ld w r10)
/-- A value handed from one stretch of the body to the next. -/
def val276 : FVec F S8x256 .f32 :=
  k0_pay37 (k0_pay34 (View.ld p r2) (val275 a b c g h i j k l m n o p q r s t u v w x) (View.ld o r11)) (k0_pay36
    (val249 d) (View.ld e r0) (View.ld f r1) (View.ld l r2) (View.ld n r2) (val275 a b c g h i j k l m n o p q r s t u v
    w x) (View.ld m r11) (View.ld k r11))
/-- A value handed from one stretch of the body to the next. -/
def val277 : FVec F S8x256 .f32 :=
  k0_pay38 (k0_pay32 (View.ld v r3) (View.ld x r2) (val273 a b c g h i j k l m n o p q r) (val274 a b c g h i j k l m n
    o p q r s t) (View.ld u r9) (View.ld w r10)) (k0_pay35 (View.ld e r0))
/-- A value handed from one stretch of the body to the next. -/
def val278 : FVec F S8x40 .f32 :=
  k0_pay43 (View.ld c r0)
/-- A value handed from one stretch of the body to the next. -/
def val279 : FVec F S192x32 .f32 :=
  k0_pay44 (View.ld c r0) (val255 a b g h i j o p) (val256 a b g h i j k l m n)
/-- A value handed from one stretch of the body to the next. -/
def val280 : FVec F S192x32 .f32 :=
  k0_pay45 (View.ld c r0) (val255 a b g h i j o p) (val257 a b g h i j k l m n)
/-- A value handed from one stretch of the body to the next. -/
def val281 : FVec F S192x32 .f32 :=
  k0_pay46 (View.ld c r0) (val255 a b g h i j o p) (val258 a b g h i j k l m n)
/-- A value handed from one stretch of the body to the next. -/
def val282 : FVec F S192x32 .f32 :=
  k0_pay48 (val255 a b g h i j o p) (val278 c) (k0_pay47 (val259 a b g h i j k l m n))
/-- A value handed from one stretch of the body to the next. -/
def val283 : FVec F S192x32 .f32 :=
  k0_pay49 (val255 a b g h i j o p) (val260 a b g h i j k l m n) (val278 c)
/-- A value handed from one stretch of the body to the next. -/
def val284 : FVec F S192x32 .f32 :=
  k0_pay50 (val255 a b g h i j o p) (val261 a b g h i j k l m n) (val278 c)
/-- A value handed from one stretch of the body to the next. -/
def val285 : FVec F S192x32 .f32 :=
  k0_pay51 (val255 a b g h i j o p) (val262 a b g h i j k l m n) (val278 c)
/-- A value handed from one stretch of the body to the next. -/
def val286 : FVec F S24x40 .f32 :=
  k0_pay52 (val263 a b g h i j k l m n)
/-- A value handed from one stretch of the body to the next. -/
def val287 : FVec F S192x256 .f32 :=
  k0_pay53 (View.ld r r2) (val252 a b g h) (val255 a b g h i j o p) (val278 c) (val279 a b c g h i j k l m n o p)
    (val280 a b c g h i j k l m n o p) (val281 a b c g h i j k l m n o p) (val282 a b c g h i j k l m n o p) (val283 a b
    c g h i j k l m n o p) (val284 a b c g h i j k l m n o p) (val285 a b c g h i j k l m n o p) (val286 a b g h i j k l
    m n) (View.ld q r8)
/-- A value handed from one stretch of the body to the next. -/
def val288 : FVec F S192x256 .f32 :=
  k0_pay54 (View.ld s r2) (View.ld t r2) (View.ld r r2) (val252 a b g h) (val255 a b g h i j o p) (val278 c) (val279 a b
    c g h i j k l m n o p) (val280 a b c g h i j k l m n o p) (val281 a b c g h i j k l m n o p) (val282 a b c g h i j k
    l m n o p) (val283 a b c g h i j k l m n o p) (val284 a b c g h i j k l m n o p) (val285 a b c g h i j k l m n o p)
    (val286 a b g h i j k l m n) (View.ld q r8)
/-- A value handed from one stretch of the body to the next. -/
def val289 : FVec F S192x256 .f32 :=
  k0_pay56 (View.ld i r2) (View.ld j r2) (View.ld v r3) (View.ld x r2) (val287 a b c g h i j k l m n o p q r) (val288 a
    b c g h i j k l m n o p q r s t) (View.ld u r9) (View.ld w r10)
/-- A value handed from one stretch of the body to the next. -/
def val290 : FVec F S8x256 .f32 :=
  k0_pay60 (k0_pay57 (View.ld p r2) (val289 a b c g h i j k l m n o p q r s t u v w x) (View.ld o r11)) (k0_pay59
    (val249 d) (View.ld e r0) (View.ld f r1) (View.ld l r2) (View.ld n r2) (val289 a b c g h i j k l m n o p q r s t u v
    w x) (View.ld m r11) (View.ld k r11))
/-- A value handed from one stretch of the body to the next. -/
def val291 : FVec F S8x256 .f32 :=
  k0_pay61 (k0_pay55 (View.ld v r3) (View.ld x r2) (val287 a b c g h i j k l m n o p q r) (val288 a b c g h i j k l m n
    o p q r s t) (View.ld u r9) (View.ld w r10)) (k0_pay58 (View.ld e r0))
/-- A value handed from one stretch of the body to the next. -/
def val292 : FVec F S8x40 .f32 :=
  k0_pay66 (View.ld c r0)
/-- A value handed from one stretch of the body to the next. -/
def val293 : FVec F S256x32 .f32 :=
  k0_pay67 (View.ld c r0) (val255 a b g h i j o p) (val256 a b g h i j k l m n)
/-- A value handed from one stretch of the body to the next. -/
def val294 : FVec F S256x32 .f32 :=
  k0_pay68 (View.ld c r0) (val255 a b g h i j o p) (val257 a b g h i j k l m n)
/-- A value handed from one stretch of the body to the next. -/
def val295 : FVec F S256x32 .f32 :=
  k0_pay69 (View.ld c r0) (val255 a b g h i j o p) (val258 a b g h i j k l m n)
/-- A value handed from one stretch of the body to the next. -/
def val296 : FVec F S256x32 .f32 :=
  k0_pay71 (val255 a b g h i j o p) (val292 c) (k0_pay70 (val259 a b g h i j k l m n))
/-- A value handed from one stretch of the body to the next. -/
def val297 : FVec F S256x32 .f32 :=
  k0_pay72 (val255 a b g h i j o p) (val260 a b g h i j k l m n) (val292 c)
/-- A value handed from one stretch of the body to the next. -/
def val298 : FVec F S256x32 .f32 :=
  k0_pay73 (val255 a b g h i j o p) (val261 a b g h i j k l m n) (val292 c)
/-- A value handed from one stretch of the body to the next. -/
def val299 : FVec F S256x32 .f32 :=
  k0_pay74 (val255 a b g h i j o p) (val262 a b g h i j k l m n) (val292 c)
/-- A value handed from one stretch of the body to the next. -/
def val300 : FVec F S32x40 .f32 :=
  k0_pay75 (val263 a b g h i j k l m n)
/-- A value handed from one stretch of the body to the next. -/
def val301 : FVec F S256x256 .f32 :=
  k0_pay76 (View.ld r r2) (val252 a b g h) (val255 a b g h i j o p) (val292 c) (val293 a b c g h i j k l m n o p)
    (val294 a b c g h i j k l m n o p) (val295 a b c g h i j k l m n o p) (val296 a b c g h i j k l m n o p) (val297 a b
    c g h i j k l m n o p) (val298 a b c g h i j k l m n o p) (val299 a b c g h i j k l m n o p) (val300 a b g h i j k l
    m n) (View.ld q r8)
/-- A value handed from one stretch of the body to the next. -/
def val302 : FVec F S256x256 .f32 :=
  k0_pay77 (View.ld s r2) (View.ld t r2) (View.ld r r2) (val252 a b g h) (val255 a b g h i j o p) (val292 c) (val293 a b
    c g h i j k l m n o p) (val294 a b c g h i j k l m n o p) (val295 a b c g h i j k l m n o p) (val296 a b c g h i j k
    l m n o p) (val297 a b c g h i j k l m n o p) (val298 a b c g h i j k l m n o p) (val299 a b c g h i j k l m n o p)
    (val300 a b g h i j k l m n) (View.ld q r8)
/-- A value handed from one stretch of the body to the next. -/
def val303 : FVec F S256x256 .f32 :=
  k0_pay79 (View.ld i r2) (View.ld j r2) (View.ld v r3) (View.ld x r2) (val301 a b c g h i j k l m n o p q r) (val302 a
    b c g h i j k l m n o p q r s t) (View.ld u r9) (View.ld w r10)
/-- A value handed from one stretch of the body to the next. -/
def val304 : FVec F S8x256 .f32 :=
  k0_pay83 (k0_pay80 (View.ld p r2) (val303 a b c g h i j k l m n o p q r s t u v w x) (View.ld o r11)) (k0_pay82
    (val249 d) (View.ld e r0) (View.ld f r1) (View.ld l r2) (View.ld n r2) (val303 a b c g h i j k l m n o p q r s t u v
    w x) (View.ld m r11) (View.ld k r11))
/-- A value handed from one stretch of the body to the next. -/
def val305 : FVec F S8x256 .f32 :=
  k0_pay84 (k0_pay78 (View.ld v r3) (View.ld x r2) (val301 a b c g h i j k l m n o p q r) (val302 a b c g h i j k l m n
    o p q r s t) (View.ld u r9) (View.ld w r10)) (k0_pay81 (View.ld e r0))
/-- A value handed from one stretch of the body to the next. -/
def val306 : FVec F S8x40 .f32 :=
  k0_pay89 (View.ld c r0)
/-- A value handed from one stretch of the body to the next. -/
def val307 : FVec F S320x32 .f32 :=
  k0_pay90 (View.ld c r0) (val255 a b g h i j o p) (val256 a b g h i j k l m n)
/-- A value handed from one stretch of the body to the next. -/
def val308 : FVec F S320x32 .f32 :=
  k0_pay91 (View.ld c r0) (val255 a b g h i j o p) (val257 a b g h i j k l m n)
/-- A value handed from one stretch of the body to the next. -/
def val309 : FVec F S320x32 .f32 :=
  k0_pay92 (View.ld c r0) (val255 a b g h i j o p) (val258 a b g h i j k l m n)
/-- A value handed from one stretch of the body to the next. -/
def val310 : FVec F S320x32 .f32 :=
  k0_pay95 (val255 a b g h i j o p) (k0_pay93 (val259 a b g h i j k l m n)) (k0_pay94 (View.ld c r0))
/-- A value handed from one stretch of the body to the next. -/
def val311 : FVec F S320x32 .f32 :=
  k0_pay96 (val255 a b g h i j o p) (val260 a b g h i j k l m n) (val306 c)
/-- A value handed from one stretch of the body to the next. -/
def val312 : FVec F S320x32 .f32 :=
  k0_pay97 (val255 a b g h i j o p) (val261 a b g h i j k l m n) (val306 c)
/-- A value handed from one stretch of the body to the next. -/
def val313 : FVec F S320x32 .f32 :=
  k0_pay98 (val255 a b g h i j o p) (val262 a b g h i j k l m n) (val306 c)
/-- A value handed from one stretch of the body to the next. -/
def val314 : FVec F S320x40 .f32 :=
  k0_pay99 (val263 a b g h i j k l m n) (val306 c)
/-- A value handed from one stretch of the body to the next. -/
def val315 : FVec F S320 .f32 :=
  k0_pay100 (val263 a b g h i j k l m n) (val306 c)
/-- A value handed from one stretch of the body to the next. -/
def val316 : FVec F S320x256 .f32 :=
  k0_pay101 (View.ld r r2) (val252 a b g h) (val255 a b g h i j o p) (val307 a b c g h i j k l m n o p) (val308 a b c g
    h i j k l m n o p) (val309 a b c g h i j k l m n o p) (val310 a b c g h i j k l m n o p) (val311 a b c g h i j k l m
    n o p) (val312 a b c g h i j k l m n o p) (val313 a b c g h i j k l m n o p) (val314 a b c g h i j k l m n) (val315
    a b c g h i j k l m n) (View.ld q r8)
/-- A value handed from one stretch of the body to the next. -/
def val317 : FVec F S320x1024 .f32 :=
  k0_pay102 (View.ld s r2) (View.ld t r2) (View.ld r r2) (View.ld v r3) (val252 a b g h) (val255 a b g h i j o p)
    (val307 a b c g h i j k l m n o p) (val308 a b c g h i j k l m n o p) (val309 a b c g h i j k l m n o p) (val310 a b
    c g h i j k l m n o p) (val311 a b c g h i j k l m n o p) (val312 a b c g h i j k l m n o p) (val313 a b c g h i j k
    l m n o p) (val314 a b c g h i j k l m n) (val315 a b c g h i j k l m n) (View.ld q r8) (View.ld u r9)
/-- A value handed from one stretch of the body to the next. -/
def val318 : FVec F S320x256 .f32 :=
  k0_pay104 (View.ld i r2) (View.ld j r2) (View.ld x r2) (val316 a b c g h i j k l m n o p q r) (val317 a b c g h i j k
    l m n o p q r s t u v) (Scalar.ofBits .f32 0x3F000000#32) (View.ld w r10)
/-- A value handed from one stretch of the body to the next. -/
def val319 : FVec F S320x256 .f32 :=
  k0_pay105 (View.ld i r2) (View.ld j r2) (View.ld n r2) (View.ld x r2) (val316 a b c g h i j k l m n o p q r) (val317 a
    b c g h i j k l m n o p q r s t u v) (Scalar.ofBits .f32 0x3F000000#32) (View.ld w r10) (View.ld m r11)
/-- A value handed from one stretch of the body to the next. -/
def val320 : FVec F S40x256 .f32 :=
  k0_pay117 (val250 b) (View.ld a r18) (View.ld g r6) (View.ld h r7)
/-- A value handed from one stretch of the body to the next. -/
def val321 : FVec F S40x256 .f32 :=
  k0_pay118 (View.ld i r2) (View.ld j r2) (val250 b) (View.ld a r18) (View.ld g r6) (View.ld h r7)
/-- A value handed from one stretch of the body to the next. -/
def val322 : FVec F S40x256 .f32 :=
  k0_pay119 (View.ld i r2) (View.ld j r2) (View.ld l r2) (val250 b) (View.ld a r18) (View.ld g r6) (View.ld h r7)
    (View.ld k r8)
/-- A value handed from one stretch of the body to the next. -/
def val323 : FVec F S40x256 .f32 :=
  k0_pay120 (View.ld n r2) (val321 a b g h i j) (View.ld m r8)
/-- A value handed from one stretch of the body to the next. -/
def val324 : FVec F S40x256 .f32 :=
  k0_pay121 (View.ld p r2) (val321 a b g h i j) (View.ld o r8)
/-- A value handed from one stretch of the body to the next. -/
def val325 : FVec F S40x40 .f32 :=
  k0_pay122 (View.ld n r2) (val321 a b g h i j) (val322 a b g h i j k l) (View.ld m r8)
/-- A value handed from one stretch of the body to the next. -/
def val326 : FVec F S40x40 .f32 :=
  k0_pay123 (View.ld n r2) (val321 a b g h i j) (val322 a b g h i j k l) (View.ld m r8)
/-- A value handed from one stretch of the body to the next. -/
def val327 : FVec F S40x40 .f32 :=
  k0_pay124 (View.ld n r2) (val321 a b g h i j) (val322 a b g h i j k l) (View.ld m r8)
/-- A value handed from one stretch of the body to the next. -/
def val328 : FVec F S40x40 .f32 :=
  k0_pay125 (View.ld n r2) (val321 a b g h i j) (val322 a b g h i j k l) (View.ld m r8)
/-- A value handed from one stretch of the body to the next. -/
def val329 : FVec F S40x40 .f32 :=
  k0_pay126 (View.ld n r2) (val321 a b g h i j) (val322 a b g h i j k l) (View.ld m r8)
/-- A value handed from one stretch of the body to the next. -/
def val330 : FVec F S40x40 .f32 :=
  k0_pay129 (k0_pay127 (val322 a b g h i j k l)) (k0_pay128 (View.ld n r2) (val321 a b g h i j) (View.ld m r8))
/-- A value handed from one stretch of the body to the next. -/
def val331 : FVec F S40x40 .f32 :=
  k0_pay130 (val322 a b g h i j k l) (val323 a b g h i j m n)
/-- A value handed from one stretch of the body to the next. -/
def val332 : FVec F S40x40 .f32 :=
  k0_pay131 (val322 a b g h i j k l) (val323 a b g h i j m n)
/-- A value handed from one stretch of the body to the next. -/
def val333 : FVec F S8x40 .f32 :=
  k0_pay132 (View.ld c r0)
/-- A value handed from one stretch of the body to the next. -/
def val334 : FVec F S128x32 .f32 :=
  k0_pay133 (View.ld c r0) (val324 a b g h i j o p) (val325 a b g h i j k l m n)
/-- A value handed from one stretch of the body to the next. -/
def val335 : FVec F S128x32 .f32 :=
  k0_pay134 (View.ld c r0) (val324 a b g h i j o p) (val326 a b g h i j k l m n)
/-- A value handed from one stretch of the body to the next. -/
def val336 : FVec F S128x32 .f32 :=
  k0_pay136 (val324 a b g h i j o p) (k0_pay135 (View.ld c r0) (val327 a b g h i j k l m n))
/-- A value handed from one stretch of the body to the next. -/
def val337 : FVec F S128x32 .f32 :=
  k0_pay137 (val324 a b g h i j o p) (val328 a b g h i j k l m n) (val333 c)
/-- A value handed from one stretch of the body to the next. -/
def val338 : FVec F S128x32 .f32 :=
  k0_pay138 (val324 a b g h i j o p) (val329 a b g h i j k l m n) (val333 c)
/-- A value handed from one stretch of the body to the next. -/
def val339 : FVec F S128x32 .f32 :=
  k0_pay139 (val324 a b g h i j o p) (val330 a b g h i j k l m n) (val333 c)
/-- A value handed from one stretch of the body to the next. -/
def val340 : FVec F S128x40 .f32 :=
  k0_pay140 (val331 a b g h i j k l m n) (val333 c)
/-- A value handed from one stretch of the body to the next. -/
def val341 : FVec F S128x256 .f32 :=
  k0_pay141 (View.ld r r2) (val320 a b g h) (val324 a b g h i j o p) (val332 a b g h i j k l m n) (val333 c) (val334 a b
    c g h i j k l m n o p) (val335 a b c g h i j k l m n o p) (val336 a b c g h i j k l m n o p) (val337 a b c g h i j k
    l m n o p) (val338 a b c g h i j k l m n o p) (val339 a b c g h i j k l m n o p) (val340 a b c g h i j k l m n)
    (View.ld q r8)
/-- A value handed from one stretch of the body to the next. -/
def val342 : FVec F S1x256 .f32 :=
  k0_pay142 (View.ld s r2)
/-- A value handed from one stretch of the body to the next. -/
def val343 : FVec F S1x256 .f32 :=
  k0_pay143 (View.ld t r2)
/-- A value handed from one stretch of the body to the next. -/
def val344 : FVec F S128x256 .f32 :=
  k0_pay144 (View.ld r r2) (val320 a b g h) (val324 a b g h i j o p) (val332 a b g h i j k l m n) (val333 c) (val334 a b
    c g h i j k l m n o p) (val335 a b c g h i j k l m n o p) (val336 a b c g h i j k l m n o p) (val337 a b c g h i j k
    l m n o p) (val338 a b c g h i j k l m n o p) (val339 a b c g h i j k l m n o p) (val340 a b c g h i j k l m n)
    (View.ld q r8)
/-- A value handed from one stretch of the body to the next. -/
def val345 : FVec F S128x1 .f32 :=
  k0_pay145 (View.ld r r2) (val320 a b g h) (val324 a b g h i j o p) (val332 a b g h i j k l m n) (val333 c) (val334 a b
    c g h i j k l m n o p) (val335 a b c g h i j k l m n o p) (val336 a b c g h i j k l m n o p) (val337 a b c g h i j k
    l m n o p) (val338 a b c g h i j k l m n o p) (val339 a b c g h i j k l m n o p) (val340 a b c g h i j k l m n)
    (View.ld q r8)
/-- A value handed from one stretch of the body to the next. -/
def val346 : FVec F S1x256 .f32 :=
  k0_pay147 (View.ld i r2)
/-- A value handed from one stretch of the body to the next. -/
def val347 : FVec F S1x256 .f32 :=
  k0_pay148 (View.ld j r2)
/-- A value handed from one stretch of the body to the next. -/
def val348 : FVec F S128x256 .f32 :=
  k0_pay149 (View.ld v r3) (View.ld x r2) (val341 a b c g h i j k l m n o p q r) (val342 s) (val343 t) (val344 a b c g h
    i j k l m n o p q r) (val345 a b c g h i j k l m n o p q r) (View.ld u r9) (View.ld w r10)
/-- A value handed from one stretch of the body to the next. -/
def val349 : FVec F S128x1 .f32 :=
  k0_pay150 (View.ld v r3) (View.ld x r2) (val341 a b c g h i j k l m n o p q r) (val342 s) (val343 t) (val344 a b c g h
    i j k l m n o p q r) (val345 a b c g h i j k l m n o p q r) (View.ld u r9) (View.ld w r10)
/-- A value handed from one stretch of the body to the next. -/
def val350 : FVec F S8x16 .f32 :=
  k0_pay153 (View.ld e r0)
/-- A value handed from one stretch of the body to the next. -/
def val351 : FVec F S8x256 .f32 :=
  k0_pay156 (k0_pay152 (View.ld p r2) (val346 i) (val347 j) (val348 a b c g h i j k l m n o p q r s t u v w x) (val349 a
    b c g h i j k l m n o p q r s t u v w x) (View.ld o r11)) (k0_pay154 (val249 d) (View.ld e r0) (View.ld f r1)
    (View.ld l r2) (View.ld n r2) (val346 i) (val347 j) (val348 a b c g h i j k l m n o p q r s t u v w x) (val349 a b c
    g h i j k l m n o p q r s t u v w x) (View.ld m r11) (View.ld k r11)) (k0_pay155 (val249 d) (View.ld e r0) (View.ld
    f r1) (View.ld l r2) (View.ld n r2) (val346 i) (val347 j) (val348 a b c g h i j k l m n o p q r s t u v w x) (val349
    a b c g h i j k l m n o p q r s t u v w x) (View.ld m r11) (View.ld k r11))
/-- A value handed from one stretch of the body to the next. -/
def val352 : FVec F S8x16x256 .f32 :=
  k0_pay157 (k0_pay146 (View.ld v r3) (View.ld x r2) (val341 a b c g h i j k l m n o p q r) (val342 s) (val343 t)
    (val344 a b c g h i j k l m n o p q r) (val345 a b c g h i j k l m n o p q r) (View.ld u r9) (View.ld w r10))
/-- A value handed from one stretch of the body to the next. -/
def val353 : FVec F S8x40 .f32 :=
  k0_pay163 (View.ld c r0)
/-- A value handed from one stretch of the body to the next. -/
def val354 : FVec F S192x32 .f32 :=
  k0_pay164 (View.ld c r0) (val324 a b g h i j o p) (val325 a b g h i j k l m n)
/-- A value handed from one stretch of the body to the next. -/
def val355 : FVec F S192x32 .f32 :=
  k0_pay165 (View.ld c r0) (val324 a b g h i j o p) (val326 a b g h i j k l m n)
/-- A value handed from one stretch of the body to the next. -/
def val356 : FVec F S192x32 .f32 :=
  k0_pay167 (val324 a b g h i j o p) (k0_pay166 (View.ld c r0) (val327 a b g h i j k l m n))
/-- A value handed from one stretch of the body to the next. -/
def val357 : FVec F S192x32 .f32 :=
  k0_pay168 (val324 a b g h i j o p) (val328 a b g h i j k l m n) (val353 c)
/-- A value handed from one stretch of the body to the next. -/
def val358 : FVec F S192x32 .f32 :=
  k0_pay169 (val324 a b g h i j o p) (val329 a b g h i j k l m n) (val353 c)
/-- A value handed from one stretch of the body to the next. -/
def val359 : FVec F S192x32 .f32 :=
  k0_pay170 (val324 a b g h i j o p) (val330 a b g h i j k l m n) (val353 c)
/-- A value handed from one stretch of the body to the next. -/
def val360 : FVec F S192x40 .f32 :=
  k0_pay171 (val331 a b g h i j k l m n) (val353 c)
/-- A value handed from one stretch of the body to the next. -/
def val361 : FVec F S192x256 .f32 :=
  k0_pay172 (View.ld r r2) (val320 a b g h) (val324 a b g h i j o p) (val332 a b g h i j k l m n) (val353 c) (val354 a b
    c g h i j k l m n o p) (val355 a b c g h i j k l m n o p) (val356 a b c g h i j k l m n o p) (val357 a b c g h i j k
    l m n o p) (val358 a b c g h i j k l m n o p) (val359 a b c g h i j k l m n o p) (val360 a b c g h i j k l m n)
    (View.ld q r8)
/-- A value handed from one stretch of the body to the next. -/
def val362 : FVec F S1x256 .f32 :=
  k0_pay173 (View.ld s r2)
/-- A value handed from one stretch of the body to the next. -/
def val363 : FVec F S1x256 .f32 :=
  k0_pay174 (View.ld t r2)
/-- A value handed from one stretch of the body to the next. -/
def val364 : FVec F S192x256 .f32 :=
  k0_pay175 (View.ld r r2) (val320 a b g h) (val324 a b g h i j o p) (val332 a b g h i j k l m n) (val353 c) (val354 a b
    c g h i j k l m n o p) (val355 a b c g h i j k l m n o p) (val356 a b c g h i j k l m n o p) (val357 a b c g h i j k
    l m n o p) (val358 a b c g h i j k l m n o p) (val359 a b c g h i j k l m n o p) (val360 a b c g h i j k l m n)
    (View.ld q r8)
/-- A value handed from one stretch of the body to the next. -/
def val365 : FVec F S192x1 .f32 :=
  k0_pay176 (View.ld r r2) (val320 a b g h) (val324 a b g h i j o p) (val332 a b g h i j k l m n) (val353 c) (val354 a b
    c g h i j k l m n o p) (val355 a b c g h i j k l m n o p) (val356 a b c g h i j k l m n o p) (val357 a b c g h i j k
    l m n o p) (val358 a b c g h i j k l m n o p) (val359 a b c g h i j k l m n o p) (val360 a b c g h i j k l m n)
    (View.ld q r8)
/-- A value handed from one stretch of the body to the next. -/
def val366 : FVec F S1x256 .f32 :=
  k0_pay178 (View.ld i r2)
/-- A value handed from one stretch of the body to the next. -/
def val367 : FVec F S1x256 .f32 :=
  k0_pay179 (View.ld j r2)
/-- A value handed from one stretch of the body to the next. -/
def val368 : FVec F S192x256 .f32 :=
  k0_pay180 (View.ld v r3) (View.ld x r2) (val361 a b c g h i j k l m n o p q r) (val362 s) (val363 t) (val364 a b c g h
    i j k l m n o p q r) (val365 a b c g h i j k l m n o p q r) (View.ld u r9) (View.ld w r10)
/-- A value handed from one stretch of the body to the next. -/
def val369 : FVec F S192x1 .f32 :=
  k0_pay181 (View.ld v r3) (View.ld x r2) (val361 a b c g h i j k l m n o p q r) (val362 s) (val363 t) (val364 a b c g h
    i j k l m n o p q r) (val365 a b c g h i j k l m n o p q r) (View.ld u r9) (View.ld w r10)
/-- A value handed from one stretch of the body to the next. -/
def val370 : FVec F S8x24 .f32 :=
  k0_pay184 (View.ld e r0)
/-- A value handed from one stretch of the body to the next. -/
def val371 : FVec F S8x256 .f32 :=
  k0_pay187 (k0_pay183 (View.ld p r2) (val366 i) (val367 j) (val368 a b c g h i j k l m n o p q r s t u v w x) (val369 a
    b c g h i j k l m n o p q r s t u v w x) (View.ld o r11)) (k0_pay185 (val249 d) (View.ld e r0) (View.ld f r1)
    (View.ld l r2) (View.ld n r2) (val366 i) (val367 j) (val368 a b c g h i j k l m n o p q r s t u v w x) (val369 a b c
    g h i j k l m n o p q r s t u v w x) (View.ld m r11) (View.ld k r11)) (k0_pay186 (val249 d) (View.ld e r0) (View.ld
    f r1) (View.ld l r2) (View.ld n r2) (val366 i) (val367 j) (val368 a b c g h i j k l m n o p q r s t u v w x) (val369
    a b c g h i j k l m n o p q r s t u v w x) (View.ld m r11) (View.ld k r11))
/-- A value handed from one stretch of the body to the next. -/
def val372 : FVec F S8x24x256 .f32 :=
  k0_pay188 (k0_pay177 (View.ld v r3) (View.ld x r2) (val361 a b c g h i j k l m n o p q r) (val362 s) (val363 t)
    (val364 a b c g h i j k l m n o p q r) (val365 a b c g h i j k l m n o p q r) (View.ld u r9) (View.ld w r10))
/-- A value handed from one stretch of the body to the next. -/
def val373 : FVec F S8x40 .f32 :=
  k0_pay194 (View.ld c r0)
/-- A value handed from one stretch of the body to the next. -/
def val374 : FVec F S256x32 .f32 :=
  k0_pay195 (View.ld c r0) (val324 a b g h i j o p) (val325 a b g h i j k l m n)
/-- A value handed from one stretch of the body to the next. -/
def val375 : FVec F S256x32 .f32 :=
  k0_pay196 (View.ld c r0) (val324 a b g h i j o p) (val326 a b g h i j k l m n)
/-- A value handed from one stretch of the body to the next. -/
def val376 : FVec F S256x32 .f32 :=
  k0_pay198 (val324 a b g h i j o p) (k0_pay197 (View.ld c r0) (val327 a b g h i j k l m n))
/-- A value handed from one stretch of the body to the next. -/
def val377 : FVec F S256x32 .f32 :=
  k0_pay199 (val324 a b g h i j o p) (val328 a b g h i j k l m n) (val373 c)
/-- A value handed from one stretch of the body to the next. -/
def val378 : FVec F S256x32 .f32 :=
  k0_pay200 (val324 a b g h i j o p) (val329 a b g h i j k l m n) (val373 c)
/-- A value handed from one stretch of the body to the next. -/
def val379 : FVec F S256x32 .f32 :=
  k0_pay201 (val324 a b g h i j o p) (val330 a b g h i j k l m n) (val373 c)
/-- A value handed from one stretch of the body to the next. -/
def val380 : FVec F S256x40 .f32 :=
  k0_pay202 (val331 a b g h i j k l m n) (val373 c)
/-- A value handed from one stretch of the body to the next. -/
def val381 : FVec F S256x256 .f32 :=
  k0_pay203 (View.ld r r2) (val320 a b g h) (val324 a b g h i j o p) (val332 a b g h i j k l m n) (val373 c) (val374 a b
    c g h i j k l m n o p) (val375 a b c g h i j k l m n o p) (val376 a b c g h i j k l m n o p) (val377 a b c g h i j k
    l m n o p) (val378 a b c g h i j k l m n o p) (val379 a b c g h i j k l m n o p) (val380 a b c g h i j k l m n)
    (View.ld q r8)
/-- A value handed from one stretch of the body to the next. -/
def val382 : FVec F S1x256 .f32 :=
  k0_pay204 (View.ld s r2)
/-- A value handed from one stretch of the body to the next. -/
def val383 : FVec F S1x256 .f32 :=
  k0_pay205 (View.ld t r2)
/-- A value handed from one stretch of the body to the next. -/
def val384 : FVec F S256x256 .f32 :=
  k0_pay206 (View.ld r r2) (val320 a b g h) (val324 a b g h i j o p) (val332 a b g h i j k l m n) (val373 c) (val374 a b
    c g h i j k l m n o p) (val375 a b c g h i j k l m n o p) (val376 a b c g h i j k l m n o p) (val377 a b c g h i j k
    l m n o p) (val378 a b c g h i j k l m n o p) (val379 a b c g h i j k l m n o p) (val380 a b c g h i j k l m n)
    (View.ld q r8)
/-- A value handed from one stretch of the body to the next. -/
def val385 : FVec F S256x1 .f32 :=
  k0_pay207 (View.ld r r2) (val320 a b g h) (val324 a b g h i j o p) (val332 a b g h i j k l m n) (val373 c) (val374 a b
    c g h i j k l m n o p) (val375 a b c g h i j k l m n o p) (val376 a b c g h i j k l m n o p) (val377 a b c g h i j k
    l m n o p) (val378 a b c g h i j k l m n o p) (val379 a b c g h i j k l m n o p) (val380 a b c g h i j k l m n)
    (View.ld q r8)
/-- A value handed from one stretch of the body to the next. -/
def val386 : FVec F S1x256 .f32 :=
  k0_pay209 (View.ld i r2)
/-- A value handed from one stretch of the body to the next. -/
def val387 : FVec F S1x256 .f32 :=
  k0_pay210 (View.ld j r2)
/-- A value handed from one stretch of the body to the next. -/
def val388 : FVec F S256x256 .f32 :=
  k0_pay211 (View.ld v r3) (View.ld x r2) (val381 a b c g h i j k l m n o p q r) (val382 s) (val383 t) (val384 a b c g h
    i j k l m n o p q r) (val385 a b c g h i j k l m n o p q r) (View.ld u r9) (View.ld w r10)
/-- A value handed from one stretch of the body to the next. -/
def val389 : FVec F S256x1 .f32 :=
  k0_pay212 (View.ld v r3) (View.ld x r2) (val381 a b c g h i j k l m n o p q r) (val382 s) (val383 t) (val384 a b c g h
    i j k l m n o p q r) (val385 a b c g h i j k l m n o p q r) (View.ld u r9) (View.ld w r10)
/-- A value handed from one stretch of the body to the next. -/
def val390 : FVec F S8x32 .f32 :=
  k0_pay215 (View.ld e r0)
/-- A value handed from one stretch of the body to the next. -/
def val391 : FVec F S8x256 .f32 :=
  k0_pay218 (k0_pay214 (View.ld p r2) (val386 i) (val387 j) (val388 a b c g h i j k l m n o p q r s t u v w x) (val389 a
    b c g h i j k l m n o p q r s t u v w x) (View.ld o r11)) (k0_pay216 (val249 d) (View.ld e r0) (View.ld f r1)
    (View.ld l r2) (View.ld n r2) (val386 i) (val387 j) (val388 a b c g h i j k l m n o p q r s t u v w x) (val389 a b c
    g h i j k l m n o p q r s t u v w x) (View.ld m r11) (View.ld k r11)) (k0_pay217 (val249 d) (View.ld e r0) (View.ld
    f r1) (View.ld l r2) (View.ld n r2) (val386 i) (val387 j) (val388 a b c g h i j k l m n o p q r s t u v w x) (val389
    a b c g h i j k l m n o p q r s t u v w x) (View.ld m r11) (View.ld k r11))
/-- A value handed from one stretch of the body to the next. -/
def val392 : FVec F S8x32x256 .f32 :=
  k0_pay219 (k0_pay208 (View.ld v r3) (View.ld x r2) (val381 a b c g h i j k l m n o p q r) (val382 s) (val383 t)
    (val384 a b c g h i j k l m n o p q r) (val385 a b c g h i j k l m n o p q r) (View.ld u r9) (View.ld w r10))
/-- A value handed from one stretch of the body to the next. -/
def val393 : FVec F S8x40 .f32 :=
  k0_pay225 (View.ld c r0)
/-- A value handed from one stretch of the body to the next. -/
def val394 : FVec F S320x32 .f32 :=
  k0_pay226 (View.ld c r0) (val324 a b g h i j o p) (val325 a b g h i j k l m n)
/-- A value handed from one stretch of the body to the next. -/
def val395 : FVec F S320x32 .f32 :=
  k0_pay227 (View.ld c r0) (val324 a b g h i j o p) (val326 a b g h i j k l m n)
/-- A value handed from one stretch of the body to the next. -/
def val396 : FVec F S320x32 .f32 :=
  k0_pay230 (val324 a b g h i j o p) (k0_pay228 (View.ld c r0) (val327 a b g h i j k l m n)) (k0_pay229 (View.ld c r0)
    (val327 a b g h i j k l m n))
/-- A value handed from one stretch of the body to the next. -/
def val397 : FVec F S320x32 .f32 :=
  k0_pay231 (val324 a b g h i j o p) (val328 a b g h i j k l m n) (val393 c)
/-- A value handed from one stretch of the body to the next. -/
def val398 : FVec F S320x32 .f32 :=
  k0_pay232 (val324 a b g h i j o p) (val329 a b g h i j k l m n) (val393 c)
/-- A value handed from one stretch of the body to the next. -/
def val399 : FVec F S320x32 .f32 :=
  k0_pay233 (val324 a b g h i j o p) (val330 a b g h i j k l m n) (val393 c)
/-- A value handed from one stretch of the body to the next. -/
def val400 : FVec F S320x32 .f32 :=
  k0_pay235 (val324 a b g h i j o p) (val331 a b g h i j k l m n) (val393 c)
/-- A value handed from one stretch of the body to the next. -/
def val401 : FVec F S320x32 .f32 :=
  k0_pay236 (val331 a b g h i j k l m n) (val393 c)
/-- A value handed from one stretch of the body to the next. -/
def val402 : FVec F S320x256 .f32 :=
  k0_pay237 (View.ld r r2) (val320 a b g h) (val324 a b g h i j o p) (val332 a b g h i j k l m n) (val393 c) (val394 a b
    c g h i j k l m n o p) (val395 a b c g h i j k l m n o p) (val396 a b c g h i j k l m n o p) (val397 a b c g h i j k
    l m n o p) (val398 a b c g h i j k l m n o p) (val399 a b c g h i j k l m n o p) (val400 a b c g h i j k l m n o p)
    (val401 a b c g h i j k l m n) (View.ld q r8)
/-- A value handed from one stretch of the body to the next. -/
def val403 : FVec F S320x256 .f32 :=
  k0_pay238 (View.ld s r2) (View.ld t r2) (View.ld r r2) (val320 a b g h) (val324 a b g h i j o p) (val332 a b g h i j k
    l m n) (val393 c) (val394 a b c g h i j k l m n o p) (val395 a b c g h i j k l m n o p) (val396 a b c g h i j k l m
    n o p) (val397 a b c g h i j k l m n o p) (val398 a b c g h i j k l m n o p) (val399 a b c g h i j k l m n o p)
    (val400 a b c g h i j k l m n o p) (val401 a b c g h i j k l m n) (View.ld q r8)
/-- A value handed from one stretch of the body to the next. -/
def val404 : FVec F S320x256 .f32 :=
  k0_pay240 (View.ld i r2) (View.ld j r2) (View.ld v r3) (View.ld x r2) (val402 a b c g h i j k l m n o p q r) (val403 a
    b c g h i j k l m n o p q r s t) (View.ld u r9) (View.ld w r10)
/-- A value handed from one stretch of the body to the next. -/
def val405 : FVec F S8x256 .f32 :=
  k0_pay244 (k0_pay241 (View.ld p r2) (val404 a b c g h i j k l m n o p q r s t u v w x) (View.ld o r11)) (k0_pay243
    (val249 d) (View.ld e r0) (View.ld f r1) (View.ld l r2) (View.ld n r2) (val404 a b c g h i j k l m n o p q r s t u v
    w x) (View.ld m r11) (View.ld k r11))
/-- A value handed from one stretch of the body to the next. -/
def val406 : FVec F S8x256 .f32 :=
  k0_pay245 (k0_pay239 (View.ld v r3) (View.ld x r2) (val402 a b c g h i j k l m n o p q r) (val403 a b c g h i j k l m
    n o p q r s t) (View.ld u r9) (View.ld w r10)) (k0_pay242 (View.ld e r0))

/-- The piece the body stores for chunk 3 of sequence 1, value by value. -/
def piece13 : Vec F S1x8x256 .f32 :=
  k0_pay1 (View.ld x r2) (k0_pay246 (View.ld r r2) (val405 a b c d e f g h i j k l m n o p q r s t u v w x) (val406 a b
    c e g h i j k l m n o p q r s t u v w x) (View.ld q r11)) (k0_pay247 (View.ld s r2) (View.ld t r2) (View.ld r r2)
    (View.ld v r3) (val405 a b c d e f g h i j k l m n o p q r s t u v w x) (val406 a b c e g h i j k l m n o p q r s t
    u v w x) (View.ld q r11) (View.ld u r12)) (k0_pay248 (View.ld w r13))

/-- The piece the body stores for chunk 2 of sequence 1, value by value. -/
def piece12 : Vec F S1x8x256 .f32 :=
  k0_pay224 (View.ld x r2) (k0_pay220 (View.ld r r2) (val390 e) (val391 a b c d e f g h i j k l m n o p q r s t u v w x)
    (val392 a b c g h i j k l m n o p q r s t u v w x) (View.ld q r11)) (k0_pay222 (View.ld s r2) (View.ld t r2)
    (View.ld r r2) (View.ld v r3) (val390 e) (val391 a b c d e f g h i j k l m n o p q r s t u v w x) (val392 a b c g h
    i j k l m n o p q r s t u v w x) (View.ld q r11) (View.ld u r12)) (k0_pay223 (View.ld s r2) (View.ld t r2) (View.ld
    r r2) (View.ld v r3) (val390 e) (val391 a b c d e f g h i j k l m n o p q r s t u v w x) (val392 a b c g h i j k l m
    n o p q r s t u v w x) (View.ld q r11) (View.ld u r12)) (View.ld w r13)

/-- The piece the body stores for chunk 1 of sequence 1, value by value. -/
def piece11 : Vec F S1x8x256 .f32 :=
  k0_pay193 (View.ld x r2) (k0_pay189 (View.ld r r2) (val370 e) (val371 a b c d e f g h i j k l m n o p q r s t u v w x)
    (val372 a b c g h i j k l m n o p q r s t u v w x) (View.ld q r11)) (k0_pay191 (View.ld s r2) (View.ld t r2)
    (View.ld r r2) (View.ld v r3) (val370 e) (val371 a b c d e f g h i j k l m n o p q r s t u v w x) (val372 a b c g h
    i j k l m n o p q r s t u v w x) (View.ld q r11) (View.ld u r12)) (k0_pay192 (View.ld s r2) (View.ld t r2) (View.ld
    r r2) (View.ld v r3) (val370 e) (val371 a b c d e f g h i j k l m n o p q r s t u v w x) (val372 a b c g h i j k l m
    n o p q r s t u v w x) (View.ld q r11) (View.ld u r12)) (View.ld w r13)

/-- The piece the body stores for chunk 0 of sequence 1, value by value. -/
def piece10 : Vec F S1x8x256 .f32 :=
  k0_pay162 (View.ld x r2) (k0_pay158 (View.ld r r2) (val350 e) (val351 a b c d e f g h i j k l m n o p q r s t u v w x)
    (val352 a b c g h i j k l m n o p q r s t u v w x) (View.ld q r11)) (k0_pay160 (View.ld s r2) (View.ld t r2)
    (View.ld r r2) (View.ld v r3) (val350 e) (val351 a b c d e f g h i j k l m n o p q r s t u v w x) (val352 a b c g h
    i j k l m n o p q r s t u v w x) (View.ld q r11) (View.ld u r12)) (k0_pay161 (View.ld s r2) (View.ld t r2) (View.ld
    r r2) (View.ld v r3) (val350 e) (val351 a b c d e f g h i j k l m n o p q r s t u v w x) (val352 a b c g h i j k l m
    n o p q r s t u v w x) (View.ld q r11) (View.ld u r12)) (View.ld w r13)

/-- The piece the body stores for chunk 3 of sequence 0, value by value. -/
def piece03 : Vec F S1x8x256 .f32 :=
  k0_pay116 (k0_pay115 (View.ld v r3) (View.ld x r2) (k0_pay112 (View.ld r r2) (k0_pay103 (View.ld x r2) (val316 a b c g
    h i j k l m n o p q r) (val317 a b c g h i j k l m n o p q r s t u v) (Scalar.ofBits .f32 0x3F000000#32) (View.ld w
    r10)) (k0_pay106 (View.ld e r0)) (k0_pay107 (val249 d) (View.ld e r0) (View.ld f r1) (View.ld l r2) (val318 a b c g
    h i j k l m n o p q r s t u v w x) (val319 a b c g h i j k l m n o p q r s t u v w x) (View.ld k r11)) (k0_pay108
    (View.ld p r2) (val318 a b c g h i j k l m n o p q r s t u v w x) (View.ld o r11)) (k0_pay109 (val249 d) (View.ld e
    r0) (View.ld f r1) (View.ld l r2) (View.ld p r2) (val318 a b c g h i j k l m n o p q r s t u v w x) (val319 a b c g
    h i j k l m n o p q r s t u v w x) (View.ld o r11) (View.ld k r11)) (k0_pay110 (View.ld p r2) (val318 a b c g h i j
    k l m n o p q r s t u v w x) (View.ld o r11)) (k0_pay111 (val249 d) (View.ld e r0) (View.ld f r1) (View.ld l r2)
    (val318 a b c g h i j k l m n o p q r s t u v w x) (val319 a b c g h i j k l m n o p q r s t u v w x) (View.ld k
    r11)) (View.ld q r11)) (k0_pay113 (View.ld s r2)) (k0_pay114 (View.ld t r2)) (View.ld u r12) (View.ld w r13))

/-- The piece the body stores for chunk 2 of sequence 0, value by value. -/
def piece02 : Vec F S1x8x256 .f32 :=
  k0_pay88 (View.ld x r2) (k0_pay85 (View.ld r r2) (val304 a b c d e f g h i j k l m n o p q r s t u v w x) (val305 a b
    c e g h i j k l m n o p q r s t u v w x) (View.ld q r11)) (k0_pay86 (View.ld s r2) (View.ld t r2) (View.ld r r2)
    (View.ld v r3) (val304 a b c d e f g h i j k l m n o p q r s t u v w x) (val305 a b c e g h i j k l m n o p q r s t
    u v w x) (View.ld q r11) (View.ld u r12)) (k0_pay87 (View.ld w r13))

/-- The piece the body stores for chunk 1 of sequence 0, value by value. -/
def piece01 : Vec F S1x8x256 .f32 :=
  k0_pay65 (View.ld x r2) (k0_pay62 (View.ld r r2) (val290 a b c d e f g h i j k l m n o p q r s t u v w x) (val291 a b
    c e g h i j k l m n o p q r s t u v w x) (View.ld q r11)) (k0_pay63 (View.ld s r2) (View.ld t r2) (View.ld r r2)
    (View.ld v r3) (val290 a b c d e f g h i j k l m n o p q r s t u v w x) (val291 a b c e g h i j k l m n o p q r s t
    u v w x) (View.ld q r11) (View.ld u r12)) (k0_pay64 (View.ld w r13))

/-- The piece the body stores for chunk 0 of sequence 0, value by value. -/
def piece00 : Vec F S1x8x256 .f32 :=
  k0_pay42 (View.ld x r2) (k0_pay39 (View.ld r r2) (val276 a b c d e f g h i j k l m n o p q r s t u v w x) (val277 a b
    c e g h i j k l m n o p q r s t u v w x) (View.ld q r11)) (k0_pay40 (View.ld s r2) (View.ld t r2) (View.ld r r2)
    (View.ld v r3) (val276 a b c d e f g h i j k l m n o p q r s t u v w x) (val277 a b c e g h i j k l m n o p q r s t
    u v w x) (View.ld q r11) (View.ld u r12)) (k0_pay41 (View.ld w r13))

/-- The output block, value by value. -/
def outValues : S2x32x256.Idx → Elt F .f32 :=
  View.canon [⟨o13, piece13 a b c d e f g h i j k l m n o p q r s t u v w x⟩,
    ⟨o12, piece12 a b c d e f g h i j k l m n o p q r s t u v w x⟩,
    ⟨o11, piece11 a b c d e f g h i j k l m n o p q r s t u v w x⟩,
    ⟨o10, piece10 a b c d e f g h i j k l m n o p q r s t u v w x⟩,
    ⟨o03, piece03 a b c d e f g h i j k l m n o p q r s t u v w x⟩,
    ⟨o02, piece02 a b c d e f g h i j k l m n o p q r s t u v w x⟩,
    ⟨o01, piece01 a b c d e f g h i j k l m n o p q r s t u v w x⟩,
    ⟨o00, piece00 a b c d e f g h i j k l m n o p q r s t u v w x⟩]

end Values

/-- A value of the body at the blocks `x`. -/
abbrev Blocks.piece {T : Type} (x : Blocks F)
    (f : Vec F S2x40x64 .f32 → Vec F S40x256 .f32 → Vec F S32x40 .f32 → Vec F S32x40 .f32 → Vec F S32x40 .f32 → Vec F S256x8 .f32 → Vec F S64x256 .f32 → Vec F S1x256 .f32 → Vec F S2x256 .f32 → Vec F S2x256 .f32 → Vec F S2x256x256 .f32 → Vec F S2x256 .f32 → Vec F S2x256x256 .f32 → Vec F S2x256 .f32 → Vec F S2x256x256 .f32 → Vec F S2x256 .f32 → Vec F S2x256x256 .f32 → Vec F S2x256 .f32 → Vec F S2x256 .f32 → Vec F S2x256 .f32 → Vec F S2x256x1024 .f32 → Vec F S2x1024 .f32 → Vec F S2x1024x256 .f32 → Vec F S2x256 .f32 → T) : T :=
  f x.win x.pos x.tm x.am x.ds x.gh x.wp x.bp x.g1 x.b1 x.wq x.bq x.wk x.bk x.wv x.bv x.wo x.bo x.g2 x.b2 x.w1 x.c1 x.w2 x.c2

theorem piece13_eq (x : Blocks F) : x.piece piece13 =
    chunkAt 1 3 40 320 rfl (by decide) (by decide) (by decide) x := by
  rfl

theorem piece12_eq (x : Blocks F) : x.piece piece12 =
    chunkAt 1 2 32 256 rfl (by decide) (by decide) (by decide) x := by
  rfl

theorem piece11_eq (x : Blocks F) : x.piece piece11 =
    chunkAt 1 1 24 192 rfl (by decide) (by decide) (by decide) x := by
  rfl

theorem piece10_eq (x : Blocks F) : x.piece piece10 =
    chunkAt 1 0 16 128 rfl (by decide) (by decide) (by decide) x := by
  rfl

theorem piece03_eq (x : Blocks F) : x.piece piece03 =
    chunkAt 0 3 40 320 rfl (by decide) (by decide) (by decide) x := by
  rfl

theorem piece02_eq (x : Blocks F) : x.piece piece02 =
    chunkAt 0 2 32 256 rfl (by decide) (by decide) (by decide) x := by
  rfl

theorem piece01_eq (x : Blocks F) : x.piece piece01 =
    chunkAt 0 1 24 192 rfl (by decide) (by decide) (by decide) x := by
  rfl

theorem piece00_eq (x : Blocks F) : x.piece piece00 =
    chunkAt 0 0 16 128 rfl (by decide) (by decide) (by decide) x := by
  rfl

theorem outValues_eq (x : Blocks F) : x.piece outValues = outBlock x := by
  unfold Blocks.piece outValues outBlock
  exact congrArg View.canon (congrArg₂ List.cons (congrArg (Sigma.mk o13) (piece13_eq x))
    (congrArg₂ List.cons (congrArg (Sigma.mk o12) (piece12_eq x))
    (congrArg₂ List.cons (congrArg (Sigma.mk o11) (piece11_eq x))
    (congrArg₂ List.cons (congrArg (Sigma.mk o10) (piece10_eq x))
    (congrArg₂ List.cons (congrArg (Sigma.mk o03) (piece03_eq x))
    (congrArg₂ List.cons (congrArg (Sigma.mk o02) (piece02_eq x))
    (congrArg₂ List.cons (congrArg (Sigma.mk o01) (piece01_eq x))
    (congrArg₂ List.cons (congrArg (Sigma.mk o00) (piece00_eq x))
    rfl))))))))

end Cert.KernelIdeal.Own

end
-- ==== Proof.BodyRun.lean ====
module

public import proofs.«01_k».proof.Proof.Pieces
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

/-!
# One run of the kernel's body

Run on any twenty-four input blocks, the body leaves them, and leaves its output block at `outBlock` of them.
-/

-- the eight pieces' tiling of the output block is evaluated along an axis of 256
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Scale

variable {F : FTy → Type} [FloatOps F] [Named F]

local notation "𝕄" => MT nD τ sig Unit (Elt F) ℕ (UR sig nD τ) ℕ

-- the body's sixty-two stretches, some two thousand operations, are run in one go
set_option maxHeartbeats 60000000 in
/-- The body, on input blocks `x` and an output block holding anything, ends with the inputs as they were and the output
    at `outBlock x`. -/
theorem body_run (c : Dev nD) (E : Set ℕ) (i : grid0.Coords)
    (arg1 : Memref sig .tc .vmem S2x40x64 .f32) (harg1 : arg1.IsWhole)
    (arg2 : Memref sig .tc .vmem S40x256 .f32) (harg2 : arg2.IsWhole)
    (arg3 : Memref sig .tc .vmem S32x40 .f32) (harg3 : arg3.IsWhole)
    (arg4 : Memref sig .tc .vmem S32x40 .f32) (harg4 : arg4.IsWhole)
    (arg5 : Memref sig .tc .vmem S32x40 .f32) (harg5 : arg5.IsWhole)
    (arg6 : Memref sig .tc .vmem S256x8 .f32) (harg6 : arg6.IsWhole)
    (arg7 : Memref sig .tc .vmem S64x256 .f32) (harg7 : arg7.IsWhole)
    (arg8 : Memref sig .tc .vmem S1x256 .f32) (harg8 : arg8.IsWhole)
    (arg9 : Memref sig .tc .vmem S2x256 .f32) (harg9 : arg9.IsWhole)
    (arg10 : Memref sig .tc .vmem S2x256 .f32) (harg10 : arg10.IsWhole)
    (arg11 : Memref sig .tc .vmem S2x256x256 .f32) (harg11 : arg11.IsWhole)
    (arg12 : Memref sig .tc .vmem S2x256 .f32) (harg12 : arg12.IsWhole)
    (arg13 : Memref sig .tc .vmem S2x256x256 .f32) (harg13 : arg13.IsWhole)
    (arg14 : Memref sig .tc .vmem S2x256 .f32) (harg14 : arg14.IsWhole)
    (arg15 : Memref sig .tc .vmem S2x256x256 .f32) (harg15 : arg15.IsWhole)
    (arg16 : Memref sig .tc .vmem S2x256 .f32) (harg16 : arg16.IsWhole)
    (arg17 : Memref sig .tc .vmem S2x256x256 .f32) (harg17 : arg17.IsWhole)
    (arg18 : Memref sig .tc .vmem S2x256 .f32) (harg18 : arg18.IsWhole)
    (arg19 : Memref sig .tc .vmem S2x256 .f32) (harg19 : arg19.IsWhole)
    (arg20 : Memref sig .tc .vmem S2x256 .f32) (harg20 : arg20.IsWhole)
    (arg21 : Memref sig .tc .vmem S2x256x1024 .f32) (harg21 : arg21.IsWhole)
    (arg22 : Memref sig .tc .vmem S2x1024 .f32) (harg22 : arg22.IsWhole)
    (arg23 : Memref sig .tc .vmem S2x1024x256 .f32) (harg23 : arg23.IsWhole)
    (arg24 : Memref sig .tc .vmem S2x256 .f32) (harg24 : arg24.IsWhole)
    (arg25 : Memref sig .tc .vmem S2x32x256 .f32) (harg25 : arg25.IsWhole)
    (x : Blocks F) (K : PUnit → sProp 𝕄) :
    iprop(
      owns (c : Thread nD τ) arg1 fullShare x.win ∗ owns (c : Thread nD τ) arg2 fullShare x.pos ∗
      owns (c : Thread nD τ) arg3 fullShare x.tm ∗ owns (c : Thread nD τ) arg4 fullShare x.am ∗
      owns (c : Thread nD τ) arg5 fullShare x.ds ∗ owns (c : Thread nD τ) arg6 fullShare x.gh ∗
      owns (c : Thread nD τ) arg7 fullShare x.wp ∗ owns (c : Thread nD τ) arg8 fullShare x.bp ∗
      owns (c : Thread nD τ) arg9 fullShare x.g1 ∗ owns (c : Thread nD τ) arg10 fullShare x.b1 ∗
      owns (c : Thread nD τ) arg11 fullShare x.wq ∗ owns (c : Thread nD τ) arg12 fullShare x.bq ∗
      owns (c : Thread nD τ) arg13 fullShare x.wk ∗ owns (c : Thread nD τ) arg14 fullShare x.bk ∗
      owns (c : Thread nD τ) arg15 fullShare x.wv ∗ owns (c : Thread nD τ) arg16 fullShare x.bv ∗
      owns (c : Thread nD τ) arg17 fullShare x.wo ∗ owns (c : Thread nD τ) arg18 fullShare x.bo ∗
      owns (c : Thread nD τ) arg19 fullShare x.g2 ∗ owns (c : Thread nD τ) arg20 fullShare x.b2 ∗
      owns (c : Thread nD τ) arg21 fullShare x.w1 ∗ owns (c : Thread nD τ) arg22 fullShare x.c1 ∗
      owns (c : Thread nD τ) arg23 fullShare x.w2 ∗ owns (c : Thread nD τ) arg24 fullShare x.c2 ∗
      (∃ d, owns (c : Thread nD τ) arg25 fullShare d) ∗ (iprop(
      owns (c : Thread nD τ) arg1 fullShare x.win ∗ owns (c : Thread nD τ) arg2 fullShare x.pos ∗
      owns (c : Thread nD τ) arg3 fullShare x.tm ∗ owns (c : Thread nD τ) arg4 fullShare x.am ∗
      owns (c : Thread nD τ) arg5 fullShare x.ds ∗ owns (c : Thread nD τ) arg6 fullShare x.gh ∗
      owns (c : Thread nD τ) arg7 fullShare x.wp ∗ owns (c : Thread nD τ) arg8 fullShare x.bp ∗
      owns (c : Thread nD τ) arg9 fullShare x.g1 ∗ owns (c : Thread nD τ) arg10 fullShare x.b1 ∗
      owns (c : Thread nD τ) arg11 fullShare x.wq ∗ owns (c : Thread nD τ) arg12 fullShare x.bq ∗
      owns (c : Thread nD τ) arg13 fullShare x.wk ∗ owns (c : Thread nD τ) arg14 fullShare x.bk ∗
      owns (c : Thread nD τ) arg15 fullShare x.wv ∗ owns (c : Thread nD τ) arg16 fullShare x.bv ∗
      owns (c : Thread nD τ) arg17 fullShare x.wo ∗ owns (c : Thread nD τ) arg18 fullShare x.bo ∗
      owns (c : Thread nD τ) arg19 fullShare x.g2 ∗ owns (c : Thread nD τ) arg20 fullShare x.b2 ∗
      owns (c : Thread nD τ) arg21 fullShare x.w1 ∗ owns (c : Thread nD τ) arg22 fullShare x.c1 ∗
      owns (c : Thread nD τ) arg23 fullShare x.w2 ∗ owns (c : Thread nD τ) arg24 fullShare x.c2 ∗
      owns (c : Thread nD τ) arg25 fullShare (outBlock x)) -∗ K ⟨⟩))
      ⊢ wp frame (wpE (defs₀ (F := F)) Variants.none c none) E (cc0_body i
        arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 harg16
        arg17 harg17 arg18 harg18 arg19 harg19 arg20 harg20 arg21 harg21 arg22 harg22 arg23 harg23
        arg24 harg24 arg25 harg25) K := by
  rw [← outValues_eq]
  obtain ⟨x0, x1, x2, x3, x4, x5, x6, x7, x8, x9, x10, x11, x12, x13, x14, x15, x16, x17, x18, x19, x20, x21, x22, x23⟩ := x
  dsimp only [Blocks.piece]
  simp only [cc0_body_eq_skeleton]; unfold cc0_body_skel
  simp only [
    k0_part1_eq_skeleton, k0_part2_eq_skeleton, k0_part3_eq_skeleton, k0_part4_eq_skeleton,
    k0_part5_eq_skeleton, k0_part6_eq_skeleton, k0_part7_eq_skeleton, k0_part8_eq_skeleton,
    k0_part9_eq_skeleton, k0_part10_eq_skeleton, k0_part11_eq_skeleton, k0_part12_eq_skeleton,
    k0_part13_eq_skeleton, k0_part14_eq_skeleton, k0_part15_eq_skeleton, k0_part16_eq_skeleton,
    k0_part17_eq_skeleton, k0_part18_eq_skeleton, k0_part19_eq_skeleton, k0_part20_eq_skeleton,
    k0_part21_eq_skeleton, k0_part22_eq_skeleton, k0_part23_eq_skeleton, k0_part24_eq_skeleton,
    k0_part25_eq_skeleton, k0_part26_eq_skeleton, k0_part27_eq_skeleton, k0_part28_eq_skeleton,
    k0_part29_eq_skeleton, k0_part30_eq_skeleton, k0_part31_eq_skeleton, k0_part32_eq_skeleton,
    k0_part33_eq_skeleton, k0_part34_eq_skeleton, k0_part35_eq_skeleton, k0_part36_eq_skeleton,
    k0_part37_eq_skeleton, k0_part38_eq_skeleton, k0_part39_eq_skeleton, k0_part40_eq_skeleton,
    k0_part41_eq_skeleton, k0_part42_eq_skeleton, k0_part43_eq_skeleton, k0_part44_eq_skeleton,
    k0_part45_eq_skeleton, k0_part46_eq_skeleton, k0_part47_eq_skeleton, k0_part48_eq_skeleton,
    k0_part49_eq_skeleton, k0_part50_eq_skeleton, k0_part51_eq_skeleton, k0_part52_eq_skeleton,
    k0_part53_eq_skeleton, k0_part54_eq_skeleton, k0_part55_eq_skeleton, k0_part56_eq_skeleton,
    k0_part57_eq_skeleton, k0_part58_eq_skeleton, k0_part59_eq_skeleton, k0_part60_eq_skeleton,
    k0_part61_eq_skeleton, k0_part62_eq_skeleton]
  unfold owns
  iintro ⟨
    ⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩,
    ⟨%f11, %hf11, H11⟩, ⟨%f12, %hf12, H12⟩, ⟨%f13, %hf13, H13⟩, ⟨%f14, %hf14, H14⟩, ⟨%f15, %hf15, H15⟩,
    ⟨%f16, %hf16, H16⟩, ⟨%f17, %hf17, H17⟩, ⟨%f18, %hf18, H18⟩, ⟨%f19, %hf19, H19⟩, ⟨%f20, %hf20, H20⟩,
    ⟨%f21, %hf21, H21⟩, ⟨%f22, %hf22, H22⟩, ⟨%f23, %hf23, H23⟩, ⟨%d24, %f24, -, H24⟩, Hk⟩
  subst hf0 hf1 hf2 hf3 hf4 hf5 hf6 hf7 hf8 hf9 hf10 hf11 hf12 hf13 hf14 hf15 hf16 hf17 hf18 hf19 hf20 hf21 hf22 hf23
  sl_exec
  sl_step
  iapply Hk
  isplitl [H0]; · iexists f0; isplitr; (ipureintro; rfl); iexact H0
  isplitl [H1]; · iexists f1; isplitr; (ipureintro; rfl); iexact H1
  isplitl [H2]; · iexists f2; isplitr; (ipureintro; rfl); iexact H2
  isplitl [H3]; · iexists f3; isplitr; (ipureintro; rfl); iexact H3
  isplitl [H4]; · iexists f4; isplitr; (ipureintro; rfl); iexact H4
  isplitl [H5]; · iexists f5; isplitr; (ipureintro; rfl); iexact H5
  isplitl [H6]; · iexists f6; isplitr; (ipureintro; rfl); iexact H6
  isplitl [H7]; · iexists f7; isplitr; (ipureintro; rfl); iexact H7
  isplitl [H8]; · iexists f8; isplitr; (ipureintro; rfl); iexact H8
  isplitl [H9]; · iexists f9; isplitr; (ipureintro; rfl); iexact H9
  isplitl [H10]; · iexists f10; isplitr; (ipureintro; rfl); iexact H10
  isplitl [H11]; · iexists f11; isplitr; (ipureintro; rfl); iexact H11
  isplitl [H12]; · iexists f12; isplitr; (ipureintro; rfl); iexact H12
  isplitl [H13]; · iexists f13; isplitr; (ipureintro; rfl); iexact H13
  isplitl [H14]; · iexists f14; isplitr; (ipureintro; rfl); iexact H14
  isplitl [H15]; · iexists f15; isplitr; (ipureintro; rfl); iexact H15
  isplitl [H16]; · iexists f16; isplitr; (ipureintro; rfl); iexact H16
  isplitl [H17]; · iexists f17; isplitr; (ipureintro; rfl); iexact H17
  isplitl [H18]; · iexists f18; isplitr; (ipureintro; rfl); iexact H18
  isplitl [H19]; · iexists f19; isplitr; (ipureintro; rfl); iexact H19
  isplitl [H20]; · iexists f20; isplitr; (ipureintro; rfl); iexact H20
  isplitl [H21]; · iexists f21; isplitr; (ipureintro; rfl); iexact H21
  isplitl [H22]; · iexists f22; isplitr; (ipureintro; rfl); iexact H22
  isplitl [H23]; · iexists f23; isplitr; (ipureintro; rfl); iexact H23
  iexists _; isplitr
  swap; · iexact H24
  ipureintro
  refine (View.read_writes_eq_canon _ _ _ (cover _ _ _ _ _ _ _ _)).trans ?_
  rfl

end Cert.KernelIdeal.Own

end
-- ==== Proof.Region.lean ====
module

public import proofs.«01_k».proof.Proof.BodyRun
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

/-!
# The launch, and the run of `main` around it

`main` computes the launch's operands, launches the kernel over sixteen points, and lays the output out. Every fair run
ends with the output array as the pipeline computes it from `outBlock`, every other array as found, and every counter zero.
-/

-- the eight pieces' tiling of the output block is evaluated along an axis of 256
set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Scale

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## `main` around the launch -/

/-- Every buffer as the launch finds it on device `c`. -/
abbrev V0 (c : Dev nD) : Valuation τ sig (Elt F) := StableHlo.after (List.flatten [hostOps0]) fun b => m (c, b)

/-- The same at a reference. -/
abbrev V (c : Dev nD) (b : Ref sig .tc) : Buf (Elt F) ((c : Thread nD τ).loc b) := V0 m c (Proc.devRef .tc b)

theorem pre_fresh : (hostOps0 : List (HloOp τ sig (Elt F))).Forall fun op => op.fresh = ∅ := by
  simp only [List.Forall]; repeat' constructor

theorem post_fresh : (hostOps1 : List (HloOp τ sig (Elt F))).Forall fun op => op.fresh = ∅ := by
  simp only [List.Forall]; repeat' constructor

-- twenty-two operations before the launch
set_option maxHeartbeats 800000 in
theorem around (𝒱₀ : Variants) :
    Pipeline.HMainK (Ix := Unit) (Name := ℕ) (U := UR sig nD τ) (Lvl := ℕ) cfgs 0 defs₀ 𝒱₀ m (main (F := F)) (V m)
      fun _ => Pipeline.chain ([hostOps1].map StableHlo.seq) :=
  Pipeline.hmain_around cfgs 0 defs₀ 𝒱₀ m main [hostOps0] [hostOps1] (by simp only [List.Forall]; exact hostOps0_sub)
    (by simp only [List.Forall]; exact pre_fresh) main_chain

theorem post_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rw [List.mem_singleton] at hops
  subst hops
  exact Pipeline.sub_ucRefs op ((List.forall_iff_forall_mem.mp hostOps1_sub) op hop)

theorem post_allocates_nothing : ∀ ops ∈ ([hostOps1] : List (List (HloOp τ sig (Elt F)))), ∀ op ∈ ops, op.fresh = ∅ := by
  intro ops hops op hop
  rw [List.mem_singleton] at hops
  subst hops
  exact (List.forall_iff_forall_mem.mp post_fresh) op hop

theorem arrays_are_no_results : ∀ w, Pipeline.arrRef spec0 w ≠ main_v13 ∧ Pipeline.arrRef spec0 w ≠ main_v14 ∧
    Pipeline.arrRef spec0 w ≠ main_v15 := by decide

theorem post_keeps : ∀ ops ∈ ([hostOps1] : List (List (HloOp τ sig (Elt F)))), ∀ op ∈ ops,
    ∀ w, Proc.devRef .tc (Pipeline.arrRef spec0 w) ∉ op.writes := by
  intro ops hops op hop w
  rw [List.mem_singleton] at hops
  subst hops
  obtain ⟨h13, h14, h15⟩ := arrays_are_no_results w
  simp only [hostOps1, List.mem_cons, List.mem_nil_iff, or_false] at hop
  rcases hop with rfl | rfl | rfl <;> simp only [StableHlo.unary_writes, StableHlo.reshape_writes, Finset.mem_singleton]
  · exact StableHlo.devRef_ne_of_ne h13
  · exact StableHlo.devRef_ne_of_ne h14
  · exact StableHlo.devRef_ne_of_ne h15

/-- The buffers the lines before the launch write. -/
abbrev written : List (Ref sig .tc) :=
  [main_c, main_c_0, main_cst, main_cst_1, main_cst_2, main_cst_3, main_cst_4, main_v0, main_v1, main_v2, main_c_5, main_v3,
    main_v4, main_v5, main_v6, main_v7, main_v8, main_cst_6, main_v9, main_c_7, main_v10, main_v11]

/-- Any other buffer the launch finds as `main` was given it. -/
theorem kept (c : Dev nD) (b : Ref sig .tc) (hb : ∀ r ∈ written, b ≠ r) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.nullary_writes, StableHlo.unary_writes, StableHlo.binary_writes, StableHlo.ternary_writes,
      StableHlo.reshape_writes, Finset.mem_singleton]
    repeat' apply And.intro
    all_goals exact StableHlo.devRef_ne_of_ne (hb _ (by simp))))

/-- A buffer neither staged nor written ends as `main` was given it. -/
theorem bypassing (dats : (p : Fin _) → (c : Dev nD) → Dat τ (Elt F) Unit ℕ (UR sig nD τ) ℕ (cfgs p) c) (c : Dev nD)
    (b : Ref sig .tc) (hb : ∀ r ∈ written, b ≠ r) (hpost : ∀ r ∈ [main_v13, main_v14, main_v15], b ≠ r)
    (harr : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.nullary_writes, StableHlo.unary_writes, StableHlo.binary_writes, StableHlo.ternary_writes,
      StableHlo.reshape_writes, Finset.mem_singleton]
      repeat' apply And.intro
      all_goals exact StableHlo.devRef_ne_of_ne (hpost _ (by simp)))),
    Pipeline.withArrays_of_ne _ c (V0 m c) _ b harr]
  exact kept m c b hb

/-! ## The blocks, and the pipeline's data -/

/-- Window `w`'s block at point `t`. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The input blocks at point `t`. -/
abbrev blocks (c : Dev nD) (t : Fin cfg0.N) : Blocks F :=
  ⟨iblk m c 0 t, iblk m c 1 t, iblk m c 2 t, iblk m c 3 t, iblk m c 4 t, iblk m c 5 t, iblk m c 6 t, iblk m c 7 t,
    iblk m c 8 t, iblk m c 9 t, iblk m c 10 t, iblk m c 11 t, iblk m c 12 t, iblk m c 13 t, iblk m c 14 t,
    iblk m c 15 t, iblk m c 16 t, iblk m c 17 t, iblk m c 18 t, iblk m c 19 t, iblk m c 20 t, iblk m c 21 t,
    iblk m c 22 t, iblk m c 23 t⟩

/-- The pipeline's data: every input window keeps its block, the output window ends at `outBlock` of the inputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => outBlock (blocks m c t)
    | ⟨_ + 25, h⟩ => absurd h (Nat.not_lt.2 (Nat.le_add_left _ _))
  Φ _ := Pipeline.ΦA spec0 c
  q _ := fullShare
  owed _ := 0

theorem arrays_eq (c : Dev nD) (w : Fin cfg0.W) : (dats m 0 c).A w = V m c (Pipeline.arrRef spec0 w) := by
  dsimp only [dats]

/-- An input window's buffer holds its block at every point, fetched there or not. -/
theorem before_of (c : Dev nD) (w : Fin cfg0.W) (hin : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dats m 0 c).after w t) = iblk m c w t)
    (t : Fin cfg0.N) (d) : (dats m 0 c).before w t d = (dats m 0 c).fetched w t d :=
  (dats m 0 c).before_in_eq_fetched w hin hlive hclip
    (fun t => by rw [hkeep]; unfold Dat.blockOf iblk; rw [arrays_eq]) t d

theorem before0 (c : Dev nD) (t : Fin cfg0.N) (d) : (dats m 0 c).before 0 t d = iblk m c 0 t :=
  (before_of m c 0 rfl (fun _ => rfl) (fun _ _ _ => rfl) (fun t => by dsimp only [dats]) t d).trans
    (by unfold Dat.fetched Dat.blockOf iblk; rw [arrays_eq]; rfl)
theorem before1 (c : Dev nD) (t : Fin cfg0.N) (d) : (dats m 0 c).before 1 t d = iblk m c 1 t :=
  (before_of m c 1 rfl (fun _ => rfl) (fun _ _ _ => rfl) (fun t => by dsimp only [dats]) t d).trans
    (by unfold Dat.fetched Dat.blockOf iblk; rw [arrays_eq]; rfl)
theorem before2 (c : Dev nD) (t : Fin cfg0.N) (d) : (dats m 0 c).before 2 t d = iblk m c 2 t :=
  (before_of m c 2 rfl (fun _ => rfl) (fun _ _ _ => rfl) (fun t => by dsimp only [dats]) t d).trans
    (by unfold Dat.fetched Dat.blockOf iblk; rw [arrays_eq]; rfl)
theorem before3 (c : Dev nD) (t : Fin cfg0.N) (d) : (dats m 0 c).before 3 t d = iblk m c 3 t :=
  (before_of m c 3 rfl (fun _ => rfl) (fun _ _ _ => rfl) (fun t => by dsimp only [dats]) t d).trans
    (by unfold Dat.fetched Dat.blockOf iblk; rw [arrays_eq]; rfl)
theorem before4 (c : Dev nD) (t : Fin cfg0.N) (d) : (dats m 0 c).before 4 t d = iblk m c 4 t :=
  (before_of m c 4 rfl (fun _ => rfl) (fun _ _ _ => rfl) (fun t => by dsimp only [dats]) t d).trans
    (by unfold Dat.fetched Dat.blockOf iblk; rw [arrays_eq]; rfl)
theorem before5 (c : Dev nD) (t : Fin cfg0.N) (d) : (dats m 0 c).before 5 t d = iblk m c 5 t :=
  (before_of m c 5 rfl (fun _ => rfl) (fun _ _ _ => rfl) (fun t => by dsimp only [dats]) t d).trans
    (by unfold Dat.fetched Dat.blockOf iblk; rw [arrays_eq]; rfl)
theorem before6 (c : Dev nD) (t : Fin cfg0.N) (d) : (dats m 0 c).before 6 t d = iblk m c 6 t :=
  (before_of m c 6 rfl (fun _ => rfl) (fun _ _ _ => rfl) (fun t => by dsimp only [dats]) t d).trans
    (by unfold Dat.fetched Dat.blockOf iblk; rw [arrays_eq]; rfl)
theorem before7 (c : Dev nD) (t : Fin cfg0.N) (d) : (dats m 0 c).before 7 t d = iblk m c 7 t :=
  (before_of m c 7 rfl (fun _ => rfl) (fun _ _ _ => rfl) (fun t => by dsimp only [dats]) t d).trans
    (by unfold Dat.fetched Dat.blockOf iblk; rw [arrays_eq]; rfl)
theorem before8 (c : Dev nD) (t : Fin cfg0.N) (d) : (dats m 0 c).before 8 t d = iblk m c 8 t :=
  (before_of m c 8 rfl (fun _ => rfl) (fun _ _ _ => rfl) (fun t => by dsimp only [dats]) t d).trans
    (by unfold Dat.fetched Dat.blockOf iblk; rw [arrays_eq]; rfl)
theorem before9 (c : Dev nD) (t : Fin cfg0.N) (d) : (dats m 0 c).before 9 t d = iblk m c 9 t :=
  (before_of m c 9 rfl (fun _ => rfl) (fun _ _ _ => rfl) (fun t => by dsimp only [dats]) t d).trans
    (by unfold Dat.fetched Dat.blockOf iblk; rw [arrays_eq]; rfl)
theorem before10 (c : Dev nD) (t : Fin cfg0.N) (d) : (dats m 0 c).before 10 t d = iblk m c 10 t :=
  (before_of m c 10 rfl (fun _ => rfl) (fun _ _ _ => rfl) (fun t => by dsimp only [dats]) t d).trans
    (by unfold Dat.fetched Dat.blockOf iblk; rw [arrays_eq]; rfl)
theorem before11 (c : Dev nD) (t : Fin cfg0.N) (d) : (dats m 0 c).before 11 t d = iblk m c 11 t :=
  (before_of m c 11 rfl (fun _ => rfl) (fun _ _ _ => rfl) (fun t => by dsimp only [dats]) t d).trans
    (by unfold Dat.fetched Dat.blockOf iblk; rw [arrays_eq]; rfl)
theorem before12 (c : Dev nD) (t : Fin cfg0.N) (d) : (dats m 0 c).before 12 t d = iblk m c 12 t :=
  (before_of m c 12 rfl (fun _ => rfl) (fun _ _ _ => rfl) (fun t => by dsimp only [dats]) t d).trans
    (by unfold Dat.fetched Dat.blockOf iblk; rw [arrays_eq]; rfl)
theorem before13 (c : Dev nD) (t : Fin cfg0.N) (d) : (dats m 0 c).before 13 t d = iblk m c 13 t :=
  (before_of m c 13 rfl (fun _ => rfl) (fun _ _ _ => rfl) (fun t => by dsimp only [dats]) t d).trans
    (by unfold Dat.fetched Dat.blockOf iblk; rw [arrays_eq]; rfl)
theorem before14 (c : Dev nD) (t : Fin cfg0.N) (d) : (dats m 0 c).before 14 t d = iblk m c 14 t :=
  (before_of m c 14 rfl (fun _ => rfl) (fun _ _ _ => rfl) (fun t => by dsimp only [dats]) t d).trans
    (by unfold Dat.fetched Dat.blockOf iblk; rw [arrays_eq]; rfl)
theorem before15 (c : Dev nD) (t : Fin cfg0.N) (d) : (dats m 0 c).before 15 t d = iblk m c 15 t :=
  (before_of m c 15 rfl (fun _ => rfl) (fun _ _ _ => rfl) (fun t => by dsimp only [dats]) t d).trans
    (by unfold Dat.fetched Dat.blockOf iblk; rw [arrays_eq]; rfl)
theorem before16 (c : Dev nD) (t : Fin cfg0.N) (d) : (dats m 0 c).before 16 t d = iblk m c 16 t :=
  (before_of m c 16 rfl (fun _ => rfl) (fun _ _ _ => rfl) (fun t => by dsimp only [dats]) t d).trans
    (by unfold Dat.fetched Dat.blockOf iblk; rw [arrays_eq]; rfl)
theorem before17 (c : Dev nD) (t : Fin cfg0.N) (d) : (dats m 0 c).before 17 t d = iblk m c 17 t :=
  (before_of m c 17 rfl (fun _ => rfl) (fun _ _ _ => rfl) (fun t => by dsimp only [dats]) t d).trans
    (by unfold Dat.fetched Dat.blockOf iblk; rw [arrays_eq]; rfl)
theorem before18 (c : Dev nD) (t : Fin cfg0.N) (d) : (dats m 0 c).before 18 t d = iblk m c 18 t :=
  (before_of m c 18 rfl (fun _ => rfl) (fun _ _ _ => rfl) (fun t => by dsimp only [dats]) t d).trans
    (by unfold Dat.fetched Dat.blockOf iblk; rw [arrays_eq]; rfl)
theorem before19 (c : Dev nD) (t : Fin cfg0.N) (d) : (dats m 0 c).before 19 t d = iblk m c 19 t :=
  (before_of m c 19 rfl (fun _ => rfl) (fun _ _ _ => rfl) (fun t => by dsimp only [dats]) t d).trans
    (by unfold Dat.fetched Dat.blockOf iblk; rw [arrays_eq]; rfl)
theorem before20 (c : Dev nD) (t : Fin cfg0.N) (d) : (dats m 0 c).before 20 t d = iblk m c 20 t :=
  (before_of m c 20 rfl (fun _ => rfl) (fun _ _ _ => rfl) (fun t => by dsimp only [dats]) t d).trans
    (by unfold Dat.fetched Dat.blockOf iblk; rw [arrays_eq]; rfl)
theorem before21 (c : Dev nD) (t : Fin cfg0.N) (d) : (dats m 0 c).before 21 t d = iblk m c 21 t :=
  (before_of m c 21 rfl (fun _ => rfl) (fun _ _ _ => rfl) (fun t => by dsimp only [dats]) t d).trans
    (by unfold Dat.fetched Dat.blockOf iblk; rw [arrays_eq]; rfl)
theorem before22 (c : Dev nD) (t : Fin cfg0.N) (d) : (dats m 0 c).before 22 t d = iblk m c 22 t :=
  (before_of m c 22 rfl (fun _ => rfl) (fun _ _ _ => rfl) (fun t => by dsimp only [dats]) t d).trans
    (by unfold Dat.fetched Dat.blockOf iblk; rw [arrays_eq]; rfl)
theorem before23 (c : Dev nD) (t : Fin cfg0.N) (d) : (dats m 0 c).before 23 t d = iblk m c 23 t :=
  (before_of m c 23 rfl (fun _ => rfl) (fun _ _ _ => rfl) (fun t => by dsimp only [dats]) t d).trans
    (by unfold Dat.fetched Dat.blockOf iblk; rw [arrays_eq]; rfl)

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

-- twenty-five windows' buffers are threaded through
set_option maxHeartbeats 800000 in
theorem body_at (c : Dev nD) (t : Fin cfg0.N) :
    bodyPre m c t ⊢ wp frame (wpE (defs₀ (F := F)) Variants.none c none) Set.univ (bodyAt0 t) fun _ => bodyPost m c t := by
  unfold bodyPre bodyPost bodyAt0
  simp only [before0, before1, before2, before3, before4, before5, before6, before7, before8, before9, before10, before11,
    before12, before13, before14, before15, before16, before17, before18, before19, before20, before21, before22,
    before23]
  rw [show (dats m 0 c).Φ t.succ = (dats m 0 c).Φ t.castSucc from rfl,
    show (dats m 0 c).owesAt () t.succ = (dats m 0 c).owesAt () t.castSucc from rfl]
  dsimp only [dats]
  iintro ⟨HΦ, Ho,
    ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩,
    ⟨%d18, H18⟩, ⟨%d19, H19⟩, ⟨%d20, H20⟩, ⟨%d21, H21⟩, ⟨%d22, H22⟩, ⟨%d23, H23⟩, ⟨%d24, H24⟩⟩
  iapply (body_run c Set.univ (grid0.coords t)
    _ _ _ _ _ _ _ _ _ _ _ _ _ _ _ _ _ _ _ _ _ _ _ _ _ _ _ _ _ _ _ _ _ _ _ _ _ _ _ _ _ _ _ _ _ _ _ _ _ _ (blocks m c t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  iintro ⟨
    H0, H1, H2, H3, H4, H5, H6, H7, H8, H9, H10, H11, H12, H13, H14, H15, H16, H17, H18, H19, H20, H21, H22, H23,
    H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

theorem body_row (t : Fin cfg0.N) : defs₀ (F := F) .tc cfg0.body (cfg0.bodyArgs t (cfg0.slots t)) = bodyAt0 t := by
  unfold defs₀; rw [Defs.onTc_tc]

-- twenty-five windows
set_option maxHeartbeats 800000 in
theorem body_obligation (c : Dev nD) :
    BodyObligation (dats (F := F) m 0 c) (defs₀ (F := F)) Variants.none () Set.univ := fun t => by
  rw [bigSep_W0, bigSep_W0, body_row]
  exact triple_restated (body_at m c t) rfl .rfl fun _ => .rfl

/-! ## The run -/

/-- What holds of a final state's arrays. -/
abbrev Post := Pipeline.FramePost cfgs (dats m) 0 (Pipeline.afterTail₀ cfgs (dats m) 0 (V0 m) [hostOps1])

-- the run's implicit data is found by unifying with this statement, which takes unfolding plain definitions in types
set_option backward.isDefEq.respectTransparency.types false in
set_option maxHeartbeats 800000 in
theorem run_quiescent : θ_run defs (onTc (τ := τ) (main (F := F))) (s₀ m ρ) fun r => Post m r ∧ r.2.sem = fun _ => 0 :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := post_sub) (hfresh := post_allocates_nothing)
    (hkeep := post_keeps) (hmain := around m Variants.none) (hA := arrays_eq m) (hΦ := fun _ _ => rfl)

/-- An input array, staged by window `w`, ends as `main` was given it. -/
theorem staged (r) (h : Post m r) (c : Dev nD) (w : Fin cfg0.W) (hin : (cfg0.win w).isOut = false)
    (hk : V m c (Pipeline.arrRef spec0 w) = m ((c : Thread nD τ).loc (Pipeline.arrRef spec0 w))) :
    r.2.mem ((c : Thread nD τ).loc (Pipeline.arrRef spec0 w)) = m ((c : Thread nD τ).loc (Pipeline.arrRef spec0 w)) :=
  ((h c).1 w).trans (((dats m 0 c).arrAt_in w hin _).trans ((arrays_eq m c w).trans hk))

-- twenty arrays
set_option maxHeartbeats 1500000 in
/-- Every array `main` was given ends unchanged. -/
theorem unchanged (r) (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  ⟨((h c).2 main_arg0 (Pipeline.mem_restRefs_of main_arg0 (by decide) (by decide))).trans
      (bypassing m (dats m) c main_arg0 (by decide) (by decide) (by decide)),
    staged m r h c 6 rfl (kept m c main_arg1 (by decide)),
    ((h c).2 main_arg2 (Pipeline.mem_restRefs_of main_arg2 (by decide) (by decide))).trans
      (bypassing m (dats m) c main_arg2 (by decide) (by decide) (by decide)),
    ((h c).2 main_arg3 (Pipeline.mem_restRefs_of main_arg3 (by decide) (by decide))).trans
      (bypassing m (dats m) c main_arg3 (by decide) (by decide) (by decide)),
    staged m r h c 8 rfl (kept m c main_arg4 (by decide)),
    staged m r h c 9 rfl (kept m c main_arg5 (by decide)),
    staged m r h c 10 rfl (kept m c main_arg6 (by decide)),
    staged m r h c 11 rfl (kept m c main_arg7 (by decide)),
    staged m r h c 12 rfl (kept m c main_arg8 (by decide)),
    staged m r h c 13 rfl (kept m c main_arg9 (by decide)),
    staged m r h c 14 rfl (kept m c main_arg10 (by decide)),
    staged m r h c 15 rfl (kept m c main_arg11 (by decide)),
    staged m r h c 16 rfl (kept m c main_arg12 (by decide)),
    staged m r h c 17 rfl (kept m c main_arg13 (by decide)),
    staged m r h c 18 rfl (kept m c main_arg14 (by decide)),
    staged m r h c 19 rfl (kept m c main_arg15 (by decide)),
    staged m r h c 20 rfl (kept m c main_arg16 (by decide)),
    staged m r h c 21 rfl (kept m c main_arg17 (by decide)),
    staged m r h c 22 rfl (kept m c main_arg18 (by decide)),
    staged m r h c 23 rfl (kept m c main_arg19 (by decide))⟩

end Cert.KernelIdeal.Own

end
-- ==== Proof.Printed.lean ====
module

public import proofs.«01_k».proof.Defs
public import proofs.«01_k».proof.Proof.Gen.Kernel
public import proofs.«01_k».proof.Proof.Gen.KernelIdeal
public import Idealize.ShloMosaic.Lib.Pipeline.Regions

@[expose] public section

/-!
# The kernel as printed is the idealized text with its named constants read as printed

The two programs differ in their named constants alone.
-/

noncomputable section

namespace Cert.Proof

open Idealize.ShloMosaic Idealize.SL.Sem

/-- A named constant read as the bits it was printed with. -/
abbrev printed : Named Bits := ⟨fun _ _ {φ} bits => Scalar.ofBits φ bits⟩

theorem defs_eq : Cert.Kernel.defs (F := Bits) = letI := printed; Cert.KernelIdeal.defs (F := Bits) := by
  chain_rfl

theorem main_eq : Cert.Kernel.main (F := Bits) = letI := printed; Cert.KernelIdeal.main (F := Bits) := by
  chain_rfl

end Cert.Proof

end
-- ==== Proof.Access.lean ====
module

public import proofs.«01_k».proof.Proof.Chunk
public import Idealize.ShloMosaic.Lib.Pointwise
public import Idealize.ShloMosaic.Lib.ValueLayoutCasts

@[expose] public section

/-! # The chunk's layout changes and sums, read at an index -/

noncomputable section

namespace Cert.Scale

open Idealize.ShloMosaic hiding ix1 ix2 ix3 ix4 ix5 Pointwise.shapeCast_apply
open Idealize.ShloMosaic.ValueIdx

variable {α : Type}

/-- Row `ke * a + p` of `R = 8 * ke` rows. -/
def at8 {ke R : ℕ} (hR : R = 8 * ke) (a : Fin 8) (p : Fin ke) : Fin R :=
  ⟨ke * a.val + p.val, by
    subst hR
    calc ke * a.val + p.val < ke * a.val + ke := Nat.add_lt_add_left p.isLt _
      _ = ke * (a.val + 1) := (Nat.mul_succ _ _).symm
      _ ≤ ke * 8 := Nat.mul_le_mul_left _ a.isLt
      _ = 8 * ke := Nat.mul_comm _ _⟩

/-! ## Reshapes -/

theorem castCol_at (a : ℕ) (x : (D1 a).Idx → α) (i : Fin a) : shapeCast (D2 a 1) x (castCol a) (ix2 i 0) = x (ix1 i) :=
  shapeCast_a_a1_apply x _ i 0

theorem cast13_at (a b : ℕ) (x : (D3 1 a b).Idx → α) (i : Fin a) (j : Fin b) :
    shapeCast (D2 a b) x (cast13 a b) (ix2 i j) = x (ix3 0 i j) := shapeCast_1ab_ab_apply x _ i j

theorem cast31_at (a b : ℕ) (x : (D2 a b).Idx → α) (i : Fin a) (j : Fin b) :
    shapeCast (D3 1 a b) x (cast31 a b) (ix3 0 i j) = x (ix2 i j) := shapeCast_ab_1ab_apply x _ 0 i j

theorem castMid_at (a b : ℕ) (x : (D2 a b).Idx → α) (i : Fin a) (j : Fin b) :
    shapeCast (D3 a 1 b) x (castMid a b) (ix3 i 0 j) = x (ix2 i j) :=
  shapeCast_apply x _ _ _ (by
    rw [Shape.rowMajor_val_three, Shape.rowMajor_val_two]
    show i.val * b + j.val = (i.val * 1 + 0) * b + j.val
    rw [Nat.mul_one, Nat.add_zero])

theorem castEnd_at (a b : ℕ) (x : (D2 a b).Idx → α) (i : Fin a) (j : Fin b) :
    shapeCast (D3 a b 1) x (castEnd a b) (ix3 i j 0) = x (ix2 i j) :=
  shapeCast_apply x _ _ _ (by
    rw [Shape.rowMajor_val_three, Shape.rowMajor_val_two]
    show i.val * b + j.val = (i.val * b + j.val) * 1 + 0
    rw [Nat.mul_one, Nat.add_zero])

theorem castJoin_at {ke R : ℕ} (hR : R = 8 * ke) (c : ℕ) (x : (D3 8 ke c).Idx → α) (a : Fin 8) (p : Fin ke) (j : Fin c) :
    shapeCast (D2 R c) x (castJoin hR c) (ix2 (at8 hR a p) j) = x (ix3 a p j) :=
  shapeCast_apply x _ _ _ (by
    rw [Shape.rowMajor_val_three, Shape.rowMajor_val_two]
    show (a.val * ke + p.val) * c + j.val = (ke * a.val + p.val) * c + j.val
    rw [Nat.mul_comm ke])

theorem castSplit_at {ke R : ℕ} (hR : R = 8 * ke) (c : ℕ) (x : (D2 R c).Idx → α) (a : Fin 8) (p : Fin ke) (j : Fin c) :
    shapeCast (D3 8 ke c) x (castSplit hR c) (ix3 a p j) = x (ix2 (at8 hR a p) j) :=
  shapeCast_apply x _ _ _ (by
    rw [Shape.rowMajor_val_three, Shape.rowMajor_val_two]
    show (ke * a.val + p.val) * c + j.val = (a.val * ke + p.val) * c + j.val
    rw [Nat.mul_comm ke])

/-! ## Broadcasts -/

theorem ite_one {a : ℕ} (i : Fin a) : i.val = if a = 1 then 0 else i.val := by
  split
  · have := i.isLt; omega
  · rfl

theorem bcCol_at (a b : ℕ) (x : (D2 a 1).Idx → α) (i : Fin a) (j : Fin b) :
    broadcastTo (D2 a b) x (bcCol a b) (ix2 i j) = x (ix2 i 0) :=
  broadcastTo_apply x _ _ _ fun ax => match ax with | ⟨0, _⟩ => ite_one i | ⟨1, _⟩ => rfl

theorem bcRow_at (a b : ℕ) (x : (D2 1 b).Idx → α) (i : Fin a) (j : Fin b) :
    broadcastTo (D2 a b) x (bcRow a b) (ix2 i j) = x (ix2 0 j) :=
  broadcastTo_apply x _ _ _ fun ax => match ax with | ⟨0, _⟩ => rfl | ⟨1, _⟩ => ite_one j

theorem bcFirst_at (a b c : ℕ) (x : (D3 1 b c).Idx → α) (i : Fin a) (j : Fin b) (k : Fin c) :
    broadcastTo (D3 a b c) x (bcFirst a b c) (ix3 i j k) = x (ix3 0 j k) :=
  broadcastTo_apply x _ _ _ fun ax => match ax with | ⟨0, _⟩ => rfl | ⟨1, _⟩ => ite_one j | ⟨2, _⟩ => ite_one k

theorem bcMid_at (a b c : ℕ) (x : (D3 a 1 c).Idx → α) (i : Fin a) (j : Fin b) (k : Fin c) :
    broadcastTo (D3 a b c) x (bcMid a b c) (ix3 i j k) = x (ix3 i 0 k) :=
  broadcastTo_apply x _ _ _ fun ax => match ax with | ⟨0, _⟩ => ite_one i | ⟨1, _⟩ => rfl | ⟨2, _⟩ => ite_one k

theorem bcEnd_at (a b c : ℕ) (x : (D3 a b 1).Idx → α) (i : Fin a) (j : Fin b) (k : Fin c) :
    broadcastTo (D3 a b c) x (bcEnd a b c) (ix3 i j k) = x (ix3 i j 0) :=
  broadcastTo_apply x _ _ _ fun ax => match ax with | ⟨0, _⟩ => ite_one i | ⟨1, _⟩ => ite_one j | ⟨2, _⟩ => rfl

/-! ## Slices -/

theorem sl2_at {a b p q o u : ℕ} (h : (D2 a b).Slices ![o, u] (D2 p q)) (x : (D2 a b).Idx → α) (i : Fin p) (j : Fin q)
    (i' : Fin a) (j' : Fin b) (hi : i'.val = o + i.val) (hj : j'.val = u + j.val) :
    extractStridedSlice (D2 p q) ![o, u] x h (ix2 i j) = x (ix2 i' j') :=
  extractStridedSlice_apply _ _ _ _ _ fun ax => match ax with | ⟨0, _⟩ => hi | ⟨1, _⟩ => hj

theorem sl3_at {a b c p o : ℕ} (h : (D3 a b c).Slices ![0, 0, o] (D3 a b p)) (x : (D3 a b c).Idx → α) (i : Fin a) (j : Fin b)
    (k : Fin p) (k' : Fin c) (hk : k'.val = o + k.val) :
    extractStridedSlice (D3 a b p) ![0, 0, o] x h (ix3 i j k) = x (ix3 i j k') :=
  extractStridedSlice_apply _ _ _ _ _ fun ax => match ax with
    | ⟨0, _⟩ => (Nat.zero_add _).symm | ⟨1, _⟩ => (Nat.zero_add _).symm | ⟨2, _⟩ => hk

/-! ## Sums and maxima -/

theorem sumRow_at (a b : ℕ) (x : Mat Ideal a b) (h) (i : Fin a) :
    multiReduction .add [1] (D1 a) x 0x00000000#32 (red2 a b) (.inl rfl) h (ix1 i) = ∑ j : Fin b, (x (ix2 i j) : EReal) := by
  rw [← ix1_eq_valueIdx]
  pointwise []
  simp only [ix2_eq_valueIdx]

theorem sumMid_at (a b c : ℕ) (x : Cube Ideal a b c) (h) (i : Fin a) (k : Fin c) :
    multiReduction .add [1] (D2 a c) x 0x00000000#32 (red3 a b c) (.inl rfl) h (ix2 i k) = ∑ j : Fin b, (x (ix3 i j k) : EReal) := by
  rw [← ix2_eq_valueIdx]
  pointwise []
  simp only [ix3_eq_valueIdx]

theorem maxMid_at (a b c : ℕ) (x : Cube Ideal a b c) (h) (i : Fin a) (k : Fin c) :
    multiReduction .maximumf [1] (D2 a c) x 0xFF800000#32 (red3 a b c) (.inl rfl) h (ix2 i k)
      = (Finset.univ : Finset (Fin b)).fold max (Ideal.ofBits .f32 0xFF800000#32) fun j => (x (ix3 i j k) : EReal) := by
  rw [← ix2_eq_valueIdx]
  pointwise []
  simp only [ix3_eq_valueIdx]

/-! ## Products -/

theorem plain_at (M K N : ℕ) (x : Mat Ideal M K) (y : Mat Ideal K N) (i : Fin M) (j : Fin N) :
    matmul (DotDims.plain M K N) none x y (constant (D2 M N) .f32 0x00000000#32) (ix2 i j)
      = ∑ k : Fin K, (x (ix2 i k) * y (ix2 k j) : EReal) := by
  refine (Ideal.matmul_plain_apply none x y (constant (D2 M N) .f32 0x00000000#32) i j).trans ?_
  show Ideal.ofBits .f32 0x00000000#32 + _ = _
  rw [Ideal.ofBits_zero_f32, zero_add]

theorem transposed_at (M K N : ℕ) (x : Mat Ideal M K) (y : Mat Ideal N K) (i : Fin M) (j : Fin N) :
    matmul (DotDims.transposedRhs M K N) none x y (constant (D2 M N) .f32 0x00000000#32) (ix2 i j)
      = ∑ k : Fin K, (x (ix2 i k) * y (ix2 j k) : EReal) := by
  refine (Ideal.matmul_transposedRhs_apply none x y (constant (D2 M N) .f32 0x00000000#32) i j).trans ?_
  show Ideal.ofBits .f32 0x00000000#32 + _ = _
  rw [Ideal.ofBits_zero_f32, zero_add]

/-! ## Eight heads side by side -/

theorem heads_at (R : ℕ) (f : (h : ℕ) → h < 8 → Mat Ideal R 32) (r : Fin R) (i : Fin 256) (d : Fin 32) (h : ℕ) (hh : h < 8)
    (hi : i.val = 32 * h + d.val) : heads R f (ix2 r i) = f h hh (ix2 r d) := by
  unfold heads
  have key : ∀ (k : ℕ) (hk : k < 8) (pre : ℕ) (_ : pre = 32 * k) (xs : List ((s : Shape) × (s.Idx → Ideal .f32)))
      (hl : k < xs.length) (hx : xs[k] = ⟨D2 R 32, f k hk⟩)
      (hc : Shape.Concatenates (xs.map (·.1)) (D2 R 256) 1)
      (hp : (((xs.take k).map (·.1)).map fun s => if h : s.rank = 2 then s.size ((1 : Fin 2).cast h.symm) else 0).sum = pre),
      i.val = 32 * k + d.val → concatenate (D2 R 256) 1 xs hc (ix2 r i) = f k hk (ix2 r d) := by
    intro k hk pre hpre xs hl hx hc hp e
    refine concatenate_apply_piece (t := D2 R 256) 1 xs hc (ix2 r i) k hl (D2 R 32) (f k hk) hx rfl pre hp (ix2 r d) ?_ ?_
    · intro b hb
      match b with
      | ⟨0, _⟩ => rfl
      | ⟨1, _⟩ => exact absurd rfl hb
    · show pre + d.val = i.val
      omega
  have hcase : h = 0 ∨ h = 1 ∨ h = 2 ∨ h = 3 ∨ h = 4 ∨ h = 5 ∨ h = 6 ∨ h = 7 := by omega
  rcases hcase with rfl | rfl | rfl | rfl | rfl | rfl | rfl | rfl <;>
    exact key _ _ _ rfl _ (by simp) rfl _ rfl hi

end Cert.Scale

end
-- ==== Proof.Spec.lean ====
module

public import Idealize.ShloMosaic.PureOps.Ideal
public import Idealize.ShloMosaic.Lib.IdealHost

@[expose] public section

/-! # The mathematics of the two programs, over the extended reals -/

noncomputable section

namespace Cert.Spec

open Idealize.ShloMosaic

/-! ## Extended reals that are real -/

/-- The extended real is a real. -/
def Re (x : EReal) : Prop := ∃ r : ℝ, x = r

theorem Re.coe (r : ℝ) : Re (r : EReal) := ⟨r, rfl⟩
theorem Re.zero : Re 0 := ⟨0, rfl⟩
theorem Re.one : Re 1 := ⟨1, rfl⟩
theorem Re.add {x y : EReal} : Re x → Re y → Re (x + y) := by
  rintro ⟨a, rfl⟩ ⟨b, rfl⟩; exact ⟨a + b, (EReal.coe_add a b).symm⟩
theorem Re.sub {x y : EReal} : Re x → Re y → Re (x - y) := by
  rintro ⟨a, rfl⟩ ⟨b, rfl⟩; exact ⟨a - b, (EReal.coe_sub a b).symm⟩
theorem Re.mul {x y : EReal} : Re x → Re y → Re (x * y) := by
  rintro ⟨a, rfl⟩ ⟨b, rfl⟩; exact ⟨a * b, (EReal.coe_mul a b).symm⟩
theorem Re.exp {x : EReal} : Re x → Re (Ideal.exp x) := by
  rintro ⟨a, rfl⟩; exact ⟨Real.exp a, rfl⟩
theorem Re.erf {x : EReal} : Re x → Re (Ideal.erf x) := by
  rintro ⟨a, rfl⟩; exact ⟨_, rfl⟩
theorem Re.sum {ι : Type} (s : Finset ι) (f : ι → EReal) (h : ∀ i ∈ s, Re (f i)) : Re (∑ i ∈ s, f i) :=
  Finset.sum_induction f Re (fun _ _ => Re.add) Re.zero h
theorem Re.div {x y : EReal} (hx : Re x) : Re y → y ≠ 0 → Re (Ideal.div x y) := by
  rintro ⟨b, rfl⟩ hy
  have hb : b ≠ 0 := fun h => hy (by rw [h]; rfl)
  rw [Ideal.div_coe hb]
  exact hx.mul (Re.coe _)
theorem Re.rsqrt {x : EReal} : Re x → 0 < x → Re (Ideal.rsqrt x) := by
  rintro ⟨a, rfl⟩ h
  have ha : 0 < a := EReal.coe_pos.mp h
  rw [Ideal.rsqrt_coe, if_neg ha.not_gt, if_neg ha.ne']
  exact Re.coe _
theorem Re.lt_top {x : EReal} : Re x → x < ⊤ := by rintro ⟨a, rfl⟩; exact EReal.coe_lt_top a
theorem Re.bot_lt {x : EReal} : Re x → ⊥ < x := by rintro ⟨a, rfl⟩; exact EReal.bot_lt_coe a
theorem Re.of_lt {x : EReal} (h : ⊥ < x) (h' : x < ⊤) : Re x :=
  ⟨x.toReal, (EReal.coe_toReal h'.ne h.ne').symm⟩
theorem Re.ite {c : Prop} [Decidable c] {x y : EReal} (hx : c → Re x) (hy : ¬ c → Re y) : Re (if c then x else y) := by
  split
  exacts [hx ‹_›, hy ‹_›]

theorem Re.coe_sum {ι : Type} (s : Finset ι) (f : ι → ℝ) : (∑ i ∈ s, (f i : EReal)) = ((∑ i ∈ s, f i : ℝ) : EReal) := by
  classical
  induction s using Finset.induction_on with
  | empty => rfl
  | insert a s ha ih => rw [Finset.sum_insert ha, Finset.sum_insert ha, EReal.coe_add, ih]

/-! ## The literals -/

theorem lit256 : Ideal.ofBits .f32 0x43800000#32 = ((256 : ℝ) : EReal) := by
  simp [Ideal.ofBits, Ideal.ieee, -EReal.coe_mul]; norm_num

theorem lit32 : Ideal.ofBits .f32 0x42000000#32 = ((32 : ℝ) : EReal) := by
  simp [Ideal.ofBits, Ideal.ieee, -EReal.coe_mul]; norm_num

theorem litHalf : Ideal.ofBits .f32 0x3F000000#32 = ((1 / 2 : ℝ) : EReal) := by
  simp [Ideal.ofBits, Ideal.ieee, -EReal.coe_mul]; norm_num

theorem litEps : ∃ r : ℝ, 0 < r ∧ Ideal.ofBits .f32 0x3727C5AC#32 = (r : EReal) :=
  ⟨2748779 / 274877906944, by norm_num, by simp [Ideal.ofBits, Ideal.ieee, -EReal.coe_mul]; norm_num⟩

theorem litRoot : Re (Ideal.ofBits .f32 0x3F3504F3#32) :=
  ⟨11863283 / 16777216, by simp [Ideal.ofBits, Ideal.ieee, -EReal.coe_mul]; norm_num⟩

theorem litBot : Ideal.ofBits .f32 0xFF800000#32 = ⊥ := by
  simp [Ideal.ofBits, Ideal.ieee]

theorem litNegOne : Ideal.ofBits .f32 0xCE6E6B28#32 < 0 := by
  have : Ideal.ofBits .f32 0xCE6E6B28#32 = ((-1000000000 : ℝ) : EReal) := by
    simp [Ideal.ofBits, Ideal.ieee, -EReal.coe_mul, -EReal.coe_neg]; norm_num
  rw [this]; exact EReal.coe_neg'.mpr (by norm_num)

/-! ## Attention with and without the shift by the largest score -/

/-- The values weighted by the exponentials of the first `n` scores, over the weights' sum. -/
def att (n : ℕ) (s v : ℕ → EReal) : EReal :=
  Ideal.div (∑ j ∈ Finset.range n, Ideal.exp (s j) * v j) (∑ j ∈ Finset.range n, Ideal.exp (s j))

/-- A sum over `N` positions whose terms are zero from `n` on. -/
theorem sum_first (n N : ℕ) (h : n ≤ N) (f : ℕ → EReal) (g : Fin N → EReal) (hf : ∀ j : Fin N, j.val < n → g j = f j)
    (hz : ∀ j : Fin N, n ≤ j.val → g j = 0) : ∑ j, g j = ∑ j ∈ Finset.range n, f j := by
  have e : ∀ j : Fin N, g j = (fun j : ℕ => if j < n then f j else 0) j := fun j => by
    by_cases hj : j.val < n
    · simp only [hf j hj, if_pos hj]
    · simp only [hz j (Nat.le_of_not_lt hj), if_neg hj]
  rw [Finset.sum_congr rfl fun j _ => e j, Fin.sum_univ_eq_sum_range (fun j : ℕ => if j < n then f j else 0) N,
    ← Finset.sum_filter]
  refine Finset.sum_congr ?_ fun _ _ => rfl
  ext j; simp only [Finset.mem_filter, Finset.mem_range]; omega

/-- The sum of the first `n` weights is positive, and real. -/
theorem weights_pos (n : ℕ) (hn : 0 < n) (s : ℕ → ℝ) : 0 < ∑ j ∈ Finset.range n, Real.exp (s j) :=
  Finset.sum_pos (fun _ _ => Real.exp_pos _) ⟨0, Finset.mem_range.mpr hn⟩

theorem att_coe (n : ℕ) (hn : 0 < n) (s v : ℕ → ℝ) :
    att n (fun j => s j) (fun j => v j)
      = (((∑ j ∈ Finset.range n, Real.exp (s j) * v j) / ∑ j ∈ Finset.range n, Real.exp (s j) : ℝ) : EReal) := by
  unfold att
  simp only [Ideal.exp_coe, ← EReal.coe_mul, Re.coe_sum]
  rw [Ideal.div_coe (weights_pos n hn s).ne', ← EReal.coe_mul, mul_one_div]

theorem att_congr (n : ℕ) (s s' v v' : ℕ → EReal) (hs : ∀ j < n, s j = s' j) (hv : ∀ j < n, v j = v' j) :
    att n s v = att n s' v' := by
  unfold att
  refine congrArg₂ Ideal.div (Finset.sum_congr rfl fun j hj => ?_) (Finset.sum_congr rfl fun j hj => ?_)
  · rw [hs j (Finset.mem_range.mp hj), hv j (Finset.mem_range.mp hj)]
  · rw [hs j (Finset.mem_range.mp hj)]

/-- Real values for the positions below `n`, anything else replaced by zero. -/
theorem reals (n : ℕ) (f : ℕ → EReal) (h : ∀ j < n, Re (f j)) : ∃ g : ℕ → ℝ, ∀ j < n, f j = g j := by
  classical
  exact ⟨fun j => if hj : j < n then Classical.choose (h j hj) else 0, fun j hj => by
    simp only [dif_pos hj]; exact Classical.choose_spec (h j hj)⟩

theorem Re.att {n : ℕ} (hn : 0 < n) {s v : ℕ → EReal} (hs : ∀ j < n, Re (s j)) (hv : ∀ j < n, Re (v j)) : Re (att n s v) := by
  obtain ⟨s', es⟩ := reals n s hs
  obtain ⟨v', ev⟩ := reals n v hv
  rw [att_congr n s (fun j => s' j) v (fun j => v' j) es ev, att_coe n hn]
  exact Re.coe _

/-- Softmax over `N` positions of which the first `n` count, shifted by any real `m`: the plain weighted mean. -/
theorem softmax_att (n N : ℕ) (hn : 0 < n) (hN : n ≤ N) (s v : ℕ → EReal) (hs : ∀ j < n, Re (s j)) (hv : ∀ j < n, Re (v j))
    (m : EReal) (hm : Re m) (z w : Fin N → EReal) (hz : ∀ j : Fin N, j.val < n → z j = s j) (hb : ∀ j : Fin N, n ≤ j.val → z j = ⊥)
    (hw : ∀ j : Fin N, j.val < n → w j = v j) :
    ∑ j, Ideal.div (Ideal.exp (z j - m)) (∑ i, Ideal.exp (z i - m)) * w j = att n s v := by
  obtain ⟨s', es⟩ := reals n s hs
  obtain ⟨v', ev⟩ := reals n v hv
  obtain ⟨μ, rfl⟩ := hm
  have hzero : ∀ j : Fin N, n ≤ j.val → Ideal.exp (z j - μ) = 0 := fun j hj => by
    rw [hb j hj, sub_eq_add_neg, EReal.bot_add]; rfl
  have hexp : ∀ j : Fin N, j.val < n → Ideal.exp (z j - μ) = ((Real.exp (s' j - μ) : ℝ) : EReal) := fun j hj => by
    rw [hz j hj, es j hj, ← EReal.coe_sub, Ideal.exp_coe]
  have hD : ∑ i, Ideal.exp (z i - μ) = ((∑ j ∈ Finset.range n, Real.exp (s' j - μ) : ℝ) : EReal) := by
    rw [sum_first n N hN (fun j => ((Real.exp (s' j - μ) : ℝ) : EReal)) _ hexp hzero, Re.coe_sum]
  have hpos := weights_pos n hn fun j => s' j - μ
  rw [hD, sum_first n N hN (fun j => ((Real.exp (s' j - μ) * (1 / ∑ i ∈ Finset.range n, Real.exp (s' i - μ)) * v' j : ℝ) : EReal)) _
      (fun j hj => by rw [hexp j hj, hw j hj, ev j hj, Ideal.div_coe hpos.ne', ← EReal.coe_mul, ← EReal.coe_mul])
      (fun j hj => by rw [hzero j hj, Ideal.div_coe hpos.ne', zero_mul, zero_mul]),
    Re.coe_sum, att_congr n s (fun j => s' j) v (fun j => v' j) es ev, att_coe n hn]
  congr 1
  have hx : ∀ j, Real.exp (s' j - μ) = Real.exp (s' j) * (Real.exp μ)⁻¹ := fun j => by
    rw [Real.exp_sub, div_eq_mul_inv]
  have h1 : ∑ i ∈ Finset.range n, Real.exp (s' i - μ) = (∑ i ∈ Finset.range n, Real.exp (s' i)) * (Real.exp μ)⁻¹ := by
    rw [Finset.sum_mul]; exact Finset.sum_congr rfl fun j _ => hx j
  have h2 := (weights_pos n hn s').ne'
  have h3 := (Real.exp_pos μ).ne'
  rw [h1, Finset.sum_div]
  refine Finset.sum_congr rfl fun j _ => ?_
  rw [hx j]
  field_simp

/-- The largest of finitely many scores, some of them real and none infinite above, is real. -/
theorem Re.fold_max {N : ℕ} (z : Fin N → EReal) (j : Fin N) (hj : Re (z j)) (h : ∀ i, z i < ⊤) :
    Re ((Finset.univ : Finset (Fin N)).fold max ⊥ z) := by
  refine Re.of_lt ?_ ?_
  · exact lt_of_lt_of_le hj.bot_lt (Finset.le_fold_max _ |>.mpr (Or.inr ⟨j, Finset.mem_univ j, le_rfl⟩))
  · exact Finset.fold_max_lt _ |>.mpr ⟨bot_lt_top, fun i _ => h i⟩

/-! ## One encoder layer, row by row -/

/-- A row of `N` extended reals. -/
abbrev Row (N : ℕ) : Type := Fin N → EReal

/-- A linear layer of one row. -/
def lin {K N : ℕ} (x : Row K) (w : Fin K → Row N) (b : Row N) : Row N := fun j => (∑ k, x k * w k j) + b j

/-- The mean of a row. -/
def mean (x : Row 256) : EReal := Ideal.div (∑ j, x j) (Ideal.ofBits .f32 0x43800000#32)

/-- A row less its mean. -/
def centre (x : Row 256) : Row 256 := fun j => x j - mean x

/-- The variance of a row, with the small constant added. -/
def spread (x : Row 256) : EReal := mean (fun j => centre x j * centre x j) + Ideal.ofBits .f32 0x3727C5AC#32

/-- Layer normalization of a row. -/
def ln (x g b : Row 256) : Row 256 := fun j => centre x j * Ideal.rsqrt (spread x) * g j + b j

/-- The Gaussian error unit. -/
def gelu (h : EReal) : EReal :=
  Ideal.ofBits .f32 0x3F000000#32 * h * (1 + Ideal.erf (h * Ideal.ofBits .f32 0x3F3504F3#32))

/-- The weights of one layer. -/
structure Layer where
  /-- gain of the first normalization -/
  g1 : Row 256
  /-- offset of the first normalization -/
  b1 : Row 256
  /-- query weights -/
  wq : Fin 256 → Row 256
  /-- query offset -/
  bq : Row 256
  /-- key weights -/
  wk : Fin 256 → Row 256
  /-- key offset -/
  bk : Row 256
  /-- value weights -/
  wv : Fin 256 → Row 256
  /-- value offset -/
  bv : Row 256
  /-- output weights -/
  wo : Fin 256 → Row 256
  /-- output offset -/
  bo : Row 256
  /-- gain of the second normalization -/
  g2 : Row 256
  /-- offset of the second normalization -/
  b2 : Row 256
  /-- first feed-forward weights -/
  w1 : Fin 256 → Row 1024
  /-- first feed-forward offset -/
  c1 : Row 1024
  /-- second feed-forward weights -/
  w2 : Fin 1024 → Row 256
  /-- second feed-forward offset -/
  c2 : Row 256

/-- The feed-forward half. -/
def ff (L : Layer) (x : Row 256) : Row 256 := fun j =>
  x j + (∑ k, gelu (lin (ln x L.g2 L.b2) L.w1 L.c1 k) * L.w2 k j) + L.c2 j

/-- The attention half, of what the heads give. -/
def proj (L : Layer) (x o : Row 256) : Row 256 := fun j => x j + (∑ i, o i * L.wo i j) + L.bo j

/-- Component `d` of head `h`. -/
def col (h : Fin 8) (d : Fin 32) : Fin 256 := ⟨32 * h.val + d.val, by omega⟩

/-- The head of a component. -/
def headOf (i : Fin 256) : Fin 8 := ⟨i.val / 32, by omega⟩

/-- The scaled score of a query row against a key row in head `h`. -/
def score (q k : Row 256) (h : Fin 8) : EReal := (∑ d, q (col h d) * k (col h d)) * (((Real.sqrt 32)⁻¹ : ℝ) : EReal)

/-- One layer over the first `n` rows of `X`, at row `k`. -/
def layer (L : Layer) (n : ℕ) (X : ℕ → Row 256) (k : ℕ) : Row 256 :=
  ff L (proj L (X k) fun i => att n
    (fun j => score (lin (ln (X k) L.g1 L.b1) L.wq L.bq) (lin (ln (X j) L.g1 L.b1) L.wk L.bk) (headOf i))
    (fun j => lin (ln (X j) L.g1 L.b1) L.wv L.bv i))

/-- Both layers over the first `n` rows of `X`, at the last of them. -/
def last (L0 L1 : Layer) (n : ℕ) (X : ℕ → Row 256) : Row 256 := layer L1 n (layer L0 n X) (n - 1)

/-! ## Real weights and real rows give real rows -/

/-- Every weight is real. -/
structure Layer.Real (L : Layer) : Prop where
  g1 : ∀ j, Re (L.g1 j)
  b1 : ∀ j, Re (L.b1 j)
  wq : ∀ i j, Re (L.wq i j)
  bq : ∀ j, Re (L.bq j)
  wk : ∀ i j, Re (L.wk i j)
  bk : ∀ j, Re (L.bk j)
  wv : ∀ i j, Re (L.wv i j)
  bv : ∀ j, Re (L.bv j)
  wo : ∀ i j, Re (L.wo i j)
  bo : ∀ j, Re (L.bo j)
  g2 : ∀ j, Re (L.g2 j)
  b2 : ∀ j, Re (L.b2 j)
  w1 : ∀ i j, Re (L.w1 i j)
  c1 : ∀ j, Re (L.c1 j)
  w2 : ∀ i j, Re (L.w2 i j)
  c2 : ∀ j, Re (L.c2 j)

theorem Re.lin {K N : ℕ} {x : Row K} {w : Fin K → Row N} {b : Row N} (hx : ∀ k, Re (x k)) (hw : ∀ k j, Re (w k j))
    (hb : ∀ j, Re (b j)) (j : Fin N) : Re (lin x w b j) :=
  (Re.sum _ _ fun k _ => (hx k).mul (hw k j)).add (hb j)

theorem ne256 : Ideal.ofBits .f32 0x43800000#32 ≠ 0 := by
  rw [lit256]; exact_mod_cast (by norm_num : (256 : ℝ) ≠ 0)

theorem Re.mean {x : Row 256} (hx : ∀ j, Re (x j)) : Re (mean x) :=
  (Re.sum _ _ fun j _ => hx j).div ⟨256, lit256⟩ ne256

theorem Re.centre {x : Row 256} (hx : ∀ j, Re (x j)) (j : Fin 256) : Re (centre x j) := (hx j).sub (Re.mean hx)

theorem mul_self_nonneg' (x : EReal) : 0 ≤ x * x := by
  induction x with
  | bot => exact le_of_lt (by rw [EReal.bot_mul_bot]; exact EReal.zero_lt_top)
  | top => exact le_of_lt (by rw [EReal.top_mul_top]; exact EReal.zero_lt_top)
  | coe r => rw [← EReal.coe_mul]; exact EReal.coe_nonneg.mpr (mul_self_nonneg r)

theorem spread_pos (x : Row 256) : 0 < spread x := by
  obtain ⟨r, hr, e⟩ := litEps
  unfold spread mean
  rw [e, lit256, Ideal.div_coe (by norm_num)]
  have h : 0 ≤ (∑ j, centre x j * centre x j) * ((1 / 256 : ℝ) : EReal) :=
    mul_nonneg (Finset.sum_nonneg fun j _ => mul_self_nonneg' _) (EReal.coe_nonneg.mpr (by norm_num))
  exact lt_of_lt_of_le (EReal.coe_pos.mpr hr) (le_add_of_nonneg_left h)

theorem Re.spread {x : Row 256} (hx : ∀ j, Re (x j)) : Re (spread x) := by
  obtain ⟨r, _, e⟩ := litEps
  exact (Re.mean fun j => (Re.centre hx j).mul (Re.centre hx j)).add ⟨r, e⟩

/-- Dividing by the root and multiplying by the reciprocal root agree above zero. -/
theorem div_sqrt (a y : EReal) (h : 0 < y) : Ideal.div a (Ideal.sqrt y) = a * Ideal.rsqrt y := by
  induction y with
  | bot => exact absurd h (by simp)
  | top =>
    show Ideal.div a ⊤ = a * 0
    rw [Ideal.div, if_neg EReal.top_ne_zero, EReal.inv_top]
  | coe r =>
    have hr : 0 < r := EReal.coe_pos.mp h
    rw [Ideal.sqrt_coe, if_neg hr.not_gt, Ideal.rsqrt_coe, if_neg hr.not_gt, if_neg hr.ne',
      Ideal.div_coe (Real.sqrt_pos.mpr hr).ne', one_div]

theorem Re.ln {x g b : Row 256} (hx : ∀ j, Re (x j)) (hg : ∀ j, Re (g j)) (hb : ∀ j, Re (b j)) (j : Fin 256) : Re (ln x g b j) :=
  (((Re.centre hx j).mul ((Re.spread hx).rsqrt (spread_pos x))).mul (hg j)).add (hb j)

theorem Re.gelu {h : EReal} (hh : Re h) : Re (gelu h) :=
  (Re.mul ⟨_, litHalf⟩ hh).mul (Re.one.add (hh.mul litRoot).erf)

theorem Re.ff {L : Layer} (hL : L.Real) {x : Row 256} (hx : ∀ j, Re (x j)) (j : Fin 256) : Re (ff L x j) :=
  ((hx j).add (Re.sum _ _ fun k _ => (Re.gelu (Re.lin (Re.ln hx hL.g2 hL.b2) hL.w1 hL.c1 k)).mul (hL.w2 k j))).add (hL.c2 j)

theorem Re.proj {L : Layer} (hL : L.Real) {x o : Row 256} (hx : ∀ j, Re (x j)) (ho : ∀ j, Re (o j)) (j : Fin 256) :
    Re (proj L x o j) :=
  ((hx j).add (Re.sum _ _ fun k _ => (ho k).mul (hL.wo k j))).add (hL.bo j)

theorem Re.score {q k : Row 256} (hq : ∀ j, Re (q j)) (hk : ∀ j, Re (k j)) (h : Fin 8) : Re (score q k h) :=
  (Re.sum _ _ fun d _ => (hq _).mul (hk _)).mul (Re.coe _)

theorem Re.layer {L : Layer} (hL : L.Real) {n : ℕ} {X : ℕ → Row 256} (hX : ∀ k < n, ∀ j, Re (X k j)) (k : ℕ) (hk : k < n)
    (j : Fin 256) : Re (layer L n X k j) :=
  Re.ff hL (Re.proj hL (hX k hk) fun i => Re.att (Nat.zero_lt_of_lt hk)
    (fun i' hi => Re.score (Re.lin (Re.ln (hX k hk) hL.g1 hL.b1) hL.wq hL.bq) (Re.lin (Re.ln (hX i' hi) hL.g1 hL.b1) hL.wk hL.bk) _)
    (fun i' hi => Re.lin (Re.ln (hX i' hi) hL.g1 hL.b1) hL.wv hL.bv i)) j

/-- A layer reads no row from `n` on. -/
theorem layer_congr (L : Layer) (n : ℕ) (X X' : ℕ → Row 256) (h : ∀ k < n, X k = X' k) (k : ℕ) (hk : k < n) :
    layer L n X k = layer L n X' k := by
  unfold layer
  rw [h k hk]
  congr 2
  funext i
  exact att_congr n _ _ _ _ (fun j hj => by rw [h j hj]) (fun j hj => by rw [h j hj])

end Cert.Spec

end
-- ==== Proof.Rows.lean ====
module

public import proofs.«01_k».proof.Proof.Access
public import proofs.«01_k».proof.Proof.Spec

@[expose] public section

/-! # A chunk's rows are the mathematics' rows

Each definition of the chunk, at the extended reals, read one row at a time. -/

noncomputable section

namespace Cert.Scale

open Idealize.ShloMosaic hiding ix1 ix2 ix3 ix4 ix5
open Idealize.ShloMosaic.ValueIdx

/-- Row `r` of a matrix. -/
def row {R N : ℕ} (x : Mat Ideal R N) (r : Fin R) : Spec.Row N := fun j => x (ix2 r j)

/-- The one matrix of a slab, by rows. -/
def slab1 {K N : ℕ} (w : Cube Ideal 1 K N) : Fin K → Spec.Row N := fun i j => w (ix3 0 i j)

/-- A layer's loaded weights as rows and matrices. -/
def layerRows (L : Layer Ideal) : Spec.Layer where
  g1 := row L.g1 0
  b1 := row L.b1 0
  wq := slab1 L.wq
  bq := row L.bq 0
  wk := slab1 L.wk
  bk := row L.bk 0
  wv := slab1 L.wv
  bv := row L.bv 0
  wo := slab1 L.wo
  bo := row L.bo 0
  g2 := row L.g2 0
  b2 := row L.b2 0
  w1 := slab1 L.w1
  c1 := row L.c1 0
  w2 := slab1 L.w2
  c2 := row L.c2 0

/-! ## Normalization, linear layers and the feed-forward half -/

theorem meanCol_at (R : ℕ) (x : Mat Ideal R 256) (r : Fin R) : meanCol R x (ix2 r 0) = Spec.mean (row x r) := by
  show Ideal.div (shapeCast (D2 R 1) _ (castCol R) (ix2 r 0)) _ = _
  rw [castCol_at]
  erw [sumRow_at]
  rfl

theorem centre_row (R : ℕ) (x : Mat Ideal R 256) (r : Fin R) : row (centre R x) r = Spec.centre (row x r) := by
  funext j
  show (x (ix2 r j) : EReal) - broadcastTo (D2 R 256) (meanCol R x) (bcCol R 256) (ix2 r j) = _
  rw [bcCol_at, meanCol_at]
  rfl

theorem ln_row (R : ℕ) (x : Mat Ideal R 256) (g b : Mat Ideal 1 256) (r : Fin R) :
    row (ln R x g b) r = Spec.ln (row x r) (row g 0) (row b 0) := by
  funext j
  show row (centre R x) r j * broadcastTo (D2 R 256) _ (bcCol R 256) (ix2 r j) * broadcastTo (D2 R 256) g (bcRow R 256) (ix2 r j)
    + broadcastTo (D2 R 256) b (bcRow R 256) (ix2 r j) = _
  rw [bcCol_at, bcRow_at, bcRow_at, centre_row]
  show Spec.centre (row x r) j * Ideal.rsqrt (meanCol R (mulf (centre R x) (centre R x)) (ix2 r 0) + _) * _ + _ = _
  rw [meanCol_at]
  have e : row (mulf (centre R x) (centre R x)) r = fun j => Spec.centre (row x r) j * Spec.centre (row x r) j := by
    funext k
    show row (centre R x) r k * row (centre R x) r k = _
    rw [centre_row]
  rw [e]
  rfl

theorem mm_at (R K N : ℕ) (x : Mat Ideal R K) (w : Cube Ideal 1 K N) (r : Fin R) (j : Fin N) :
    mm R K N x w (ix2 r j) = ∑ k, row x r k * slab1 w k j := by
  unfold mm
  rw [plain_at]
  refine Finset.sum_congr rfl fun k _ => ?_
  rw [cast13_at]
  rfl

theorem addRow_at (R N : ℕ) (x : Mat Ideal R N) (b : Mat Ideal 1 N) (r : Fin R) (j : Fin N) :
    addRow R N x b (ix2 r j) = row x r j + row b 0 j := by
  show (x (ix2 r j) : EReal) + broadcastTo (D2 R N) b (bcRow R N) (ix2 r j) = _
  rw [bcRow_at]
  rfl

theorem lin_row (R K N : ℕ) (x : Mat Ideal R K) (w : Cube Ideal 1 K N) (b : Mat Ideal 1 N) (r : Fin R) :
    row (lin R K N x w b) r = Spec.lin (row x r) (slab1 w) (row b 0) := by
  funext j
  refine (addRow_at R N _ b r j).trans ?_
  exact congrArg (· + row b 0 j) (mm_at R K N x w r j)

theorem gelu_row (R : ℕ) (h : Mat Ideal R 1024) (r : Fin R) : row (gelu R h) r = fun j => Spec.gelu (row h r j) := by
  funext j
  show Ideal.ofBits .f32 0x3F000000#32 * h (ix2 r j) * (Ideal.ofBits .f32 0x3F800000#32 + _) = _
  rw [Ideal.ofBits_one_f32]
  rfl

theorem ff_row (R : ℕ) (L : Layer Ideal) (x : Mat Ideal R 256) (r : Fin R) :
    row (ff R L x) r = Spec.ff (layerRows L) (row x r) := by
  funext j
  refine (addRow_at R 256 _ L.c2 r j).trans ?_
  refine congrArg (· + row L.c2 0 j) ?_
  show (x (ix2 r j) : EReal) + mm R 1024 256 _ L.w2 (ix2 r j) = _
  rw [mm_at, gelu_row, lin_row, ln_row]
  rfl

theorem proj_row (R : ℕ) (L : Layer Ideal) (x o : Mat Ideal R 256) (r : Fin R) :
    row (proj R L x o) r = Spec.proj (layerRows L) (row x r) (row o r) := by
  funext j
  refine (addRow_at R 256 _ L.bo r j).trans ?_
  refine congrArg (· + row L.bo 0 j) ?_
  show (x (ix2 r j) : EReal) + mm R 256 256 o L.wo (ix2 r j) = _
  rw [mm_at]
  rfl

theorem embed_at (n : ℕ) (win : Cube Ideal 1 n 64) (wp : Mat Ideal 64 256) (bp : Mat Ideal 1 256) (pos : Mat Ideal n 256)
    (r : Fin n) (j : Fin 256) :
    row (embed n win wp bp pos) r j = Spec.lin (slab1 win r) (row wp) (row bp 0) j + row pos r j := by
  show (addRow (F := Ideal) n 256 _ _ (ix2 r j) : EReal) + shapeCast (D2 n 256) pos rfl (ix2 r j) = _
  rw [addRow_at, shapeCast_apply pos rfl (ix2 r j) (ix2 r j) rfl]
  unfold row
  rw [plain_at, shapeCast_apply bp rfl (ix2 0 j) (ix2 0 j) rfl]
  unfold Spec.lin
  refine congrArg (fun z => z + bp (ix2 0 j) + pos (ix2 r j)) (Finset.sum_congr rfl fun k _ => ?_)
  rw [cast13_at]
  rfl

/-! ## The first layer's attention -/

theorem headCols_at (R h : ℕ) (hh : h < 8) (x : Mat Ideal R 256) (r : Fin R) (d : Fin 32) :
    headCols R h hh x (ix2 r d) = row x r (Spec.col ⟨h, hh⟩ d) :=
  sl2_at _ x r d r (Spec.col ⟨h, hh⟩ d) (Nat.zero_add _).symm rfl

theorem firstRows_at (n ke m : ℕ) (hke : ke ≤ n) (x : Mat Ideal n m) (p : Fin ke) (j : Fin m) :
    firstRows n ke m hke x (ix2 p j) = x (ix2 ⟨p.val, lt_of_lt_of_le p.isLt hke⟩ j) := by
  unfold firstRows
  split
  · subst_vars; rfl
  · exact sl2_at _ x p j _ j (Nat.zero_add _).symm (Nat.zero_add _).symm

theorem expScores_at (sc : Ideal .f32) (hsc : sc = (((Real.sqrt 32)⁻¹ : ℝ) : EReal)) (n h : ℕ) (hh : h < 8) (q k : Mat Ideal n 256)
    (i j : Fin n) : expScores sc n h hh q k (ix2 i j) = Ideal.exp (Spec.score (row q i) (row k j) ⟨h, hh⟩) := by
  show Ideal.exp (matmul (F := Ideal) (DotDims.transposedRhs n 32 n) none _ _ _ (ix2 i j) * sc) = _
  rw [transposed_at, hsc]
  unfold Spec.score
  refine congrArg (fun z : EReal => Ideal.exp (z * _)) (Finset.sum_congr rfl fun d _ => ?_)
  rw [headCols_at, headCols_at]

theorem maskedExp_at (n ke R : ℕ) (hR : R = 8 * ke) (hke : ke ≤ n) (E : Mat Ideal n n) (T : Mat Ideal 8 n) (a : Fin 8) (p : Fin ke)
    (j : Fin n) : maskedExp n ke R hR hke E T (ix2 (at8 hR a p) j)
      = (E (ix2 ⟨p.val, lt_of_lt_of_le p.isLt hke⟩ j) * T (ix2 a j) : EReal) := by
  unfold maskedExp
  rw [castJoin_at]
  show (broadcastTo (D3 8 ke n) _ (bcFirst 8 ke n) (ix3 a p j) * broadcastTo (D3 8 ke n) _ (bcMid 8 ke n) (ix3 a p j) : EReal) = _
  rw [bcFirst_at, bcMid_at, cast31_at, castMid_at, firstRows_at]

theorem head1_at (n R h : ℕ) (hh : h < 8) (w : Mat Ideal R n) (v : Mat Ideal n 256) (r : Fin R) (d : Fin 32) :
    head1 n R h hh w v (ix2 r d) = Ideal.div (∑ j, w (ix2 r j) * row v j (Spec.col ⟨h, hh⟩ d)) (∑ j, (w (ix2 r j) : EReal)) := by
  show Ideal.div (matmul (F := Ideal) (DotDims.plain R n 32) none _ _ _ (ix2 r d)) (broadcastTo (D2 R 32) _ (bcCol R 32) (ix2 r d)) = _
  rw [plain_at, bcCol_at, castCol_at]
  erw [sumRow_at]
  refine congrArg (fun z => Ideal.div z _) (Finset.sum_congr rfl fun j _ => ?_)
  rw [headCols_at]

theorem repeated_row (n ke R : ℕ) (hR : R = 8 * ke) (hke : ke ≤ n) (x : Mat Ideal n 256) (a : Fin 8) (p : Fin ke) :
    row (repeated n ke R hR hke x) (at8 hR a p) = row x ⟨p.val, lt_of_lt_of_le p.isLt hke⟩ := by
  funext j
  unfold repeated row
  rw [castJoin_at, bcFirst_at, shapeCast_apply _ rfl (ix3 0 p j) (ix3 0 p j) rfl, cast31_at, firstRows_at]

/-- A component is its head's component at its remainder. -/
theorem col_headOf (i : Fin 256) : Spec.col (Spec.headOf i) ⟨i.val % 32, Nat.mod_lt _ (by decide)⟩ = i :=
  Fin.ext (Nat.div_add_mod i.val 32)

theorem layer1_row (sc : Ideal .f32) (hsc : sc = (((Real.sqrt 32)⁻¹ : ℝ) : EReal)) (n ke R : ℕ) (hR : R = 8 * ke) (hke : ke ≤ n)
    (L : Layer Ideal) (x : Mat Ideal n 256) (T : Mat Ideal 8 n) (a : Fin 8) (p : Fin ke) (c : ℕ) (hc : c ≤ n)
    (hT : ∀ j : Fin n, T (ix2 a j) = if j.val < c then (1 : EReal) else 0) (X : ℕ → Spec.Row 256) (hX : ∀ k : Fin n, row x k = X k.val) :
    row (layer1 sc n ke R hR hke L x T) (at8 hR a p) = Spec.layer (layerRows L) c X p.val := by
  unfold layer1 Spec.layer
  rw [ff_row, proj_row, repeated_row, hX]
  refine congrArg (fun o => Spec.ff (layerRows L) (Spec.proj (layerRows L) (X p.val) o)) ?_
  funext i
  refine (heads_at R _ (at8 hR a p) i ⟨i.val % 32, Nat.mod_lt _ (by decide)⟩ (i.val / 32) (by omega) (Nat.div_add_mod i.val 32).symm).trans ?_
  rw [head1_at]
  have key : ∀ j : Fin n, (maskedExp n ke R hR hke (expScores sc n (i.val / 32) (by omega)
      (lin n 256 256 (ln n x L.g1 L.b1) L.wq L.bq) (lin n 256 256 (ln n x L.g1 L.b1) L.wk L.bk)) T (ix2 (at8 hR a p) j) : EReal)
      = Ideal.exp (Spec.score (Spec.lin (Spec.ln (X p.val) (row L.g1 0) (row L.b1 0)) (slab1 L.wq) (row L.bq 0))
          (Spec.lin (Spec.ln (X j.val) (row L.g1 0) (row L.b1 0)) (slab1 L.wk) (row L.bk 0)) (Spec.headOf i))
        * if j.val < c then (1 : EReal) else 0 := fun j => by
    rw [maskedExp_at, expScores_at sc hsc, hT, lin_row, lin_row, ln_row, ln_row, hX, hX]
    rfl
  refine congrArg₂ Ideal.div (Spec.sum_first c n hc _ _ (fun j hj => ?_) (fun j hj => ?_))
    (Spec.sum_first c n hc _ _ (fun j hj => ?_) (fun j hj => ?_))
  · rw [key, if_pos hj, mul_one, lin_row, ln_row, hX]
    exact congrArg₂ (fun u z : EReal => u * z) rfl (congrArg _ (col_headOf i))
  · rw [key, if_neg (Nat.not_lt.mpr hj), mul_zero, zero_mul]
  · rw [key, if_pos hj, mul_one]; rfl
  · rw [key, if_neg (Nat.not_lt.mpr hj), mul_zero]

/-! ## The second layer -/

theorem pick_row (ke R : ℕ) (hR : R = 8 * ke) (x : Mat Ideal R 256) (d : Mat Ideal 8 ke) (a : Fin 8) (l : Fin ke)
    (hd : ∀ p : Fin ke, d (ix2 a p) = if p = l then (1 : EReal) else 0) : row (pick ke R hR x d) a = row x (at8 hR a l) := by
  funext j
  unfold row pick
  erw [sumMid_at]
  have e : ∀ p : Fin ke, (mulf (shapeCast (D3 8 ke 256) x (castSplit hR 256))
      (broadcastTo (D3 8 ke 256) (shapeCast (D3 8 ke 1) d (castEnd 8 ke)) (bcEnd 8 ke 256)) (ix3 a p j) : EReal)
      = if p = l then (x (ix2 (at8 hR a l) j) : EReal) else 0 := fun p => by
    show (shapeCast (D3 8 ke 256) x (castSplit hR 256) (ix3 a p j) * broadcastTo (D3 8 ke 256) _ (bcEnd 8 ke 256) (ix3 a p j) : EReal) = _
    rw [castSplit_at hR, bcEnd_at, castEnd_at, hd]
    split
    next e => rw [e, mul_one]
    next => rw [mul_zero]
  rw [Finset.sum_congr rfl fun p _ => e p, Finset.sum_ite_eq' Finset.univ l, if_pos (Finset.mem_univ l)]

/-- A sum over all components of one head's components alone. -/
theorem sum_head (f : Fin 256 → EReal) (h : Fin 8) :
    (∑ i : Fin 256, f i * (if i.val / 32 = h.val then (1 : EReal) else 0)) = ∑ d : Fin 32, f (Spec.col h d) := by
  simp only [mul_ite, mul_one, mul_zero]
  rw [← Finset.sum_filter]
  refine (Finset.sum_nbij (fun d => Spec.col h d) (fun d _ => ?_) (fun d _ d' _ e => ?_) (fun i hi => ?_) fun _ _ => rfl).symm
  · rw [Finset.mem_filter]
    refine ⟨Finset.mem_univ _, ?_⟩
    show (32 * h.val + d.val) / 32 = h.val
    omega
  · have : 32 * h.val + d.val = 32 * h.val + d'.val := congrArg Fin.val e
    exact Fin.ext (by omega)
  · have hi' : i.val / 32 = h.val := (Finset.mem_filter.mp hi).2
    refine ⟨⟨i.val % 32, Nat.mod_lt _ (by decide)⟩, Finset.mem_coe.mpr (Finset.mem_univ _), Fin.ext ?_⟩
    show 32 * h.val + i.val % 32 = i.val
    omega

theorem scores2_at (sc : Ideal .f32) (hsc : sc = (((Real.sqrt 32)⁻¹ : ℝ) : EReal)) (ke R : ℕ) (hR : R = 8 * ke) (q : Mat Ideal 8 256)
    (k : Mat Ideal R 256) (gh : Mat Ideal 256 8) (hgh : ∀ i h, gh (ix2 i h) = if i.val / 32 = h.val then (1 : EReal) else 0)
    (am : Mat Ideal 8 ke) (a : Fin 8) (p : Fin ke) (h : Fin 8) :
    scores2 sc ke R hR q k gh am (ix3 a p h) = Spec.score (row q a) (row k (at8 hR a p)) h + am (ix2 a p) := by
  show (shapeCast (D3 8 ke 8) _ (castSplit hR 8) (ix3 a p h) : EReal) + broadcastTo (D3 8 ke 8) _ (bcEnd 8 ke 8) (ix3 a p h) = _
  rw [castSplit_at, bcEnd_at, castEnd_at]
  refine congrArg (· + am (ix2 a p)) ?_
  show (matmul (F := Ideal) (DotDims.plain R 256 8) none _ _ _ (ix2 (at8 hR a p) h) * sc : EReal) = _
  rw [plain_at, hsc]
  unfold Spec.score
  refine congrArg (· * _) ?_
  refine Eq.trans ?_ ((sum_head (fun i => row k (at8 hR a p) i * row q a i) h).trans
    (Finset.sum_congr rfl fun d _ => mul_comm _ _))
  refine Finset.sum_congr rfl fun i _ => ?_
  rw [castJoin_at, hgh]
  refine congrArg (· * _) ?_
  show (shapeCast (D3 8 ke 256) k (castSplit hR 256) (ix3 a p i) * broadcastTo (D3 8 ke 256) _ (bcMid 8 ke 256) (ix3 a p i) : EReal) = _
  rw [castSplit_at, bcMid_at, castMid_at]
  rfl

/-- The largest of a query's scores in one head. -/
def top2 (ke : ℕ) (s : Cube Ideal 8 ke 8) (a h : Fin 8) : EReal :=
  (Finset.univ : Finset (Fin ke)).fold max ⊥ fun p => s (ix3 a p h)

theorem expShift_at (ke : ℕ) (s : Cube Ideal 8 ke 8) (a : Fin 8) (p : Fin ke) (h : Fin 8) :
    expShift ke s (ix3 a p h) = Ideal.exp (s (ix3 a p h) - top2 ke s a h) := by
  show Ideal.exp ((s (ix3 a p h) : EReal) - broadcastTo (D3 8 ke 8) _ (bcMid 8 ke 8) (ix3 a p h)) = _
  rw [bcMid_at, castMid_at]
  erw [maxMid_at]
  rw [Spec.litBot]
  rfl

theorem softmax2_at (ke : ℕ) (s : Cube Ideal 8 ke 8) (a : Fin 8) (p : Fin ke) (h : Fin 8) :
    softmax2 ke s (ix3 a p h) = Ideal.div (Ideal.exp (s (ix3 a p h) - top2 ke s a h))
      (∑ p', Ideal.exp (s (ix3 a p' h) - top2 ke s a h)) := by
  show Ideal.div (expShift ke s (ix3 a p h)) (broadcastTo (D3 8 ke 8) _ (bcMid 8 ke 8) (ix3 a p h)) = _
  rw [bcMid_at, castMid_at]
  erw [sumMid_at]
  rw [expShift_at]
  exact congrArg _ (Finset.sum_congr rfl fun p' _ => expShift_at ke s a p' h)

theorem head2_at (ke R : ℕ) (hR : R = 8 * ke) (h : ℕ) (hh : h < 8) (v : Mat Ideal R 256) (P : Cube Ideal 8 ke 8) (a : Fin 8) (d : Fin 32) :
    head2 ke R hR h hh v P (ix2 a d) = ∑ p, (P (ix3 a p ⟨h, hh⟩) : EReal) * row v (at8 hR a p) (Spec.col ⟨h, hh⟩ d) := by
  unfold head2
  erw [sumMid_at]
  refine Finset.sum_congr rfl fun p _ => ?_
  show (extractStridedSlice (s := D3 8 ke 256) (D3 8 ke 32) ![0, 0, 32 * h] _ _ (ix3 a p d) * broadcastTo (D3 8 ke 32) _ (bcEnd 8 ke 32) (ix3 a p d) : EReal) = _
  rw [bcEnd_at, sl3_at _ _ a p d (Spec.col ⟨h, hh⟩ d) rfl, sl3_at _ P a p 0 ⟨h, hh⟩ rfl, castSplit_at, mul_comm]
  rfl

theorem layer2_row (sc : Ideal .f32) (hsc : sc = (((Real.sqrt 32)⁻¹ : ℝ) : EReal)) (ke R : ℕ) (hR : R = 8 * ke) (L : Layer Ideal)
    (hL : (layerRows L).Real) (x : Mat Ideal R 256) (gh : Mat Ideal 256 8)
    (hgh : ∀ i h, gh (ix2 i h) = if i.val / 32 = h.val then (1 : EReal) else 0) (am d : Mat Ideal 8 ke) (a : Fin 8) (c : ℕ)
    (h0 : 0 < c) (hc : c ≤ ke) (ham : ∀ p : Fin ke, am (ix2 a p) = if p.val < c then (0 : EReal) else ⊥)
    (hd : ∀ p : Fin ke, d (ix2 a p) = if p.val = c - 1 then (1 : EReal) else 0) (X : ℕ → Spec.Row 256)
    (hX : ∀ p : Fin ke, p.val < c → row x (at8 hR a p) = X p.val) (hRe : ∀ p < c, ∀ j, Spec.Re (X p j)) :
    row (layer2 sc ke R hR L x gh am d) a = Spec.layer (layerRows L) c X (c - 1) := by
  have hl : c - 1 < ke := by omega
  have hd' : ∀ p : Fin ke, d (ix2 a p) = if p = ⟨c - 1, hl⟩ then (1 : EReal) else 0 := fun p => by
    rw [hd]; exact if_congr (Fin.ext_iff (b := ⟨c - 1, hl⟩)).symm rfl rfl
  unfold layer2 Spec.layer
  rw [ff_row, proj_row, pick_row ke R hR x d a ⟨c - 1, hl⟩ hd', hX ⟨c - 1, hl⟩ (show c - 1 < c by omega)]
  refine congrArg (fun o => Spec.ff (layerRows L) (Spec.proj (layerRows L) (X (c - 1)) o)) ?_
  funext i
  refine (heads_at 8 _ a i ⟨i.val % 32, Nat.mod_lt _ (by decide)⟩ (i.val / 32) (by omega) (Nat.div_add_mod i.val 32).symm).trans ?_
  rw [head2_at]
  have hq : row (lin 8 256 256 (pick ke R hR (ln R x L.g1 L.b1) d) L.wq L.bq) a
      = Spec.lin (Spec.ln (X (c - 1)) (row L.g1 0) (row L.b1 0)) (slab1 L.wq) (row L.bq 0) := by
    rw [lin_row, pick_row ke R hR _ d a ⟨c - 1, hl⟩ hd', ln_row, hX ⟨c - 1, hl⟩ (show c - 1 < c by omega)]
  have hk : ∀ p : Fin ke, p.val < c → row (lin R 256 256 (ln R x L.g1 L.b1) L.wk L.bk) (at8 hR a p)
      = Spec.lin (Spec.ln (X p.val) (row L.g1 0) (row L.b1 0)) (slab1 L.wk) (row L.bk 0) := fun p hp => by
    rw [lin_row, ln_row, hX p hp]
  have hv : ∀ p : Fin ke, p.val < c → row (lin R 256 256 (ln R x L.g1 L.b1) L.wv L.bv) (at8 hR a p)
      = Spec.lin (Spec.ln (X p.val) (row L.g1 0) (row L.b1 0)) (slab1 L.wv) (row L.bv 0) := fun p hp => by
    rw [lin_row, ln_row, hX p hp]
  have hreS : ∀ j < c, Spec.Re (Spec.score (Spec.lin (Spec.ln (X (c - 1)) (row L.g1 0) (row L.b1 0)) (slab1 L.wq) (row L.bq 0))
      (Spec.lin (Spec.ln (X j) (row L.g1 0) (row L.b1 0)) (slab1 L.wk) (row L.bk 0)) (Spec.headOf i)) := fun j hj =>
    Spec.Re.score (Spec.Re.lin (Spec.Re.ln (hRe (c - 1) (by omega)) hL.g1 hL.b1) hL.wq hL.bq)
      (Spec.Re.lin (Spec.Re.ln (hRe j hj) hL.g1 hL.b1) hL.wk hL.bk) _
  have hreV : ∀ j < c, Spec.Re (Spec.lin (Spec.ln (X j) (row L.g1 0) (row L.b1 0)) (slab1 L.wv) (row L.bv 0) i) := fun j hj =>
    Spec.Re.lin (Spec.Re.ln (hRe j hj) hL.g1 hL.b1) hL.wv hL.bv i
  have hz : ∀ p : Fin ke, p.val < c → scores2 sc ke R hR (lin 8 256 256 (pick ke R hR (ln R x L.g1 L.b1) d) L.wq L.bq)
      (lin R 256 256 (ln R x L.g1 L.b1) L.wk L.bk) gh am (ix3 a p (Spec.headOf i))
      = Spec.score (Spec.lin (Spec.ln (X (c - 1)) (row L.g1 0) (row L.b1 0)) (slab1 L.wq) (row L.bq 0))
        (Spec.lin (Spec.ln (X p.val) (row L.g1 0) (row L.b1 0)) (slab1 L.wk) (row L.bk 0)) (Spec.headOf i) := fun p hp => by
    rw [scores2_at sc hsc ke R hR _ _ gh hgh, ham, if_pos hp, add_zero, hq, hk p hp]
  have hb : ∀ p : Fin ke, c ≤ p.val → scores2 sc ke R hR (lin 8 256 256 (pick ke R hR (ln R x L.g1 L.b1) d) L.wq L.bq)
      (lin R 256 256 (ln R x L.g1 L.b1) L.wk L.bk) gh am (ix3 a p (Spec.headOf i)) = (⊥ : EReal) := fun p hp => by
    rw [scores2_at sc hsc ke R hR _ _ gh hgh, ham, if_neg (Nat.not_lt.mpr hp), EReal.add_bot]
  generalize scores2 sc ke R hR (lin 8 256 256 (pick ke R hR (ln R x L.g1 L.b1) d) L.wq L.bq)
      (lin R 256 256 (ln R x L.g1 L.b1) L.wk L.bk) gh am = S at hz hb ⊢
  have hm : Spec.Re (top2 ke S a (Spec.headOf i)) := by
    refine Spec.Re.fold_max (fun p => S (ix3 a p (Spec.headOf i))) ⟨0, by omega⟩ ?_ fun p => ?_
    · exact (hz ⟨0, by omega⟩ h0).symm ▸ hreS 0 h0
    · by_cases hp : p.val < c
      · exact (hz p hp).symm ▸ (hreS p.val hp).lt_top
      · exact (hb p (Nat.le_of_not_lt hp)).symm ▸ bot_lt_top
  refine Eq.trans (Finset.sum_congr rfl fun p _ => ?_) (Spec.softmax_att c ke h0 hc _ _ hreS hreV _ hm
    (fun p => S (ix3 a p (Spec.headOf i)))
    (fun p => row (lin R 256 256 (ln R x L.g1 L.b1) L.wv L.bv) (at8 hR a p) i) hz hb (fun p hp => by rw [hv p hp]))
  rw [softmax2_at]
  exact congrArg₂ (fun u z : EReal => u * z) rfl (congrArg _ (col_headOf i))

/-! ## The chunk -/

theorem rows8_at (M n c p : ℕ) (h : 8 * c + 8 ≤ M) (hp : p ≤ n) (x : Mat Ideal M n) (a : Fin 8) (j : Fin p) :
    rows8 M n c p h hp x (ix2 a j) = x (ix2 ⟨8 * c + a.val, by omega⟩ ⟨j.val, by omega⟩) :=
  sl2_at _ x a j _ _ rfl (Nat.zero_add _).symm

theorem maskOf_at (mk : Ideal .f32) (M n : ℕ) (a : Mat Ideal M n) (i : Fin M) (j : Fin n) (lo : Prop) [Decidable lo]
    (h : (a (ix2 i j) : EReal) < 0 ↔ lo) : maskOf mk M n a (ix2 i j) = if lo then mk else (0 : EReal) := by
  have e : maskOf mk M n a (Idealize.ShloMosaic.ix2 i j) = if (a (Idealize.ShloMosaic.ix2 i j) : EReal) < 0 then mk else (0 : EReal) := by
    pointwise [maskOf]
  rw [ix2_eq_valueIdx] at e
  rw [e]
  exact if_congr h rfl rfl

/-- One chunk's output row is both layers at its query's last position. -/
theorem chunk_at (sc mk : Ideal .f32) (hsc : sc = (((Real.sqrt 32)⁻¹ : ℝ) : EReal)) (hmk : mk = (⊥ : EReal)) (n M c ke R : ℕ)
    (hR : R = 8 * ke) (hke : ke ≤ n) (hc : 8 * c + 8 ≤ M) (L0 L1 : Layer Ideal) (h0 : (layerRows L0).Real) (h1 : (layerRows L1).Real)
    (win : Cube Ideal 1 n 64) (wp : Mat Ideal 64 256) (bp : Mat Ideal 1 256) (pos : Mat Ideal n 256) (T am d : Mat Ideal M n)
    (gh : Mat Ideal 256 8) (hgh : ∀ i h, gh (ix2 i h) = if i.val / 32 = h.val then (1 : EReal) else 0)
    (hT : ∀ (m : Fin M) (j : Fin n), T (ix2 m j) = if j.val < m.val + 3 then (1 : EReal) else 0)
    (ham : ∀ (m : Fin M) (j : Fin n), (am (ix2 m j) : EReal) < 0 ↔ ¬ j.val < m.val + 3)
    (hd : ∀ (m : Fin M) (j : Fin n), d (ix2 m j) = if j.val = m.val + 2 then (1 : EReal) else 0) (a : Fin 8)
    (hlen : 8 * c + a.val + 3 ≤ ke) (X : ℕ → Spec.Row 256)
    (hX : ∀ k : Fin n, row (embed n win wp bp pos) k = X k.val)
    (hRe : ∀ k < 8 * c + a.val + 3, ∀ j, Spec.Re (X k j)) (j : Fin 256) :
    chunk sc mk n M c ke R hR hke hc L0 L1 win wp bp pos T am d gh (ix3 0 a j)
      = Spec.last (layerRows L0) (layerRows L1) (8 * c + a.val + 3) X j := by
  unfold chunk Spec.last
  rw [cast31_at]
  refine congrFun (layer2_row sc hsc ke R hR L1 h1 _ gh hgh _ _ a (8 * c + a.val + 3) (by omega) hlen
    (fun p => ?_) (fun p => ?_) (Spec.layer (layerRows L0) (8 * c + a.val + 3) X) (fun p hp => ?_)
    (fun p hp j => Spec.Re.layer h0 hRe p hp j)) j
  · rw [rows8_at, maskOf_at mk M n am _ _ _ (ham _ _), hmk]
    exact ite_not _ _ _
  · rw [rows8_at, hd]
    exact if_congr (by show p.val = 8 * c + a.val + 2 ↔ p.val = 8 * c + a.val + 3 - 1; omega) rfl rfl
  · exact layer1_row sc hsc n ke R hR hke L0 _ _ a p _ (by omega) (fun j => by rw [rows8_at, hT]) X hX

end Cert.Scale

end
-- ==== Proof.Result.lean ====
module

public import proofs.«01_k».proof.Proof.Rows

@[expose] public section

/-! # The result both programs compute, as a function of their twenty arguments -/

noncomputable section

namespace Cert.Spec

open Idealize.ShloMosaic hiding ix1 ix2 ix3 ix4 ix5
open Idealize.ShloMosaic.ValueIdx
open Cert.Scale (D1 D2 D3)

/-- The twenty arguments. -/
structure Args where
  /-- the series: batch, time, channel -/
  x : (D3 8 128 8).Idx → EReal
  /-- projection weights -/
  wp : (D2 64 256).Idx → EReal
  /-- projection offset -/
  bp : (D1 256).Idx → EReal
  /-- positions -/
  pos : (D2 34 256).Idx → EReal
  /-- gains of the first normalizations -/
  g1 : (D2 2 256).Idx → EReal
  /-- offsets of the first normalizations -/
  b1 : (D2 2 256).Idx → EReal
  /-- query weights -/
  wq : (D3 2 256 256).Idx → EReal
  /-- query offsets -/
  bq : (D2 2 256).Idx → EReal
  /-- key weights -/
  wk : (D3 2 256 256).Idx → EReal
  /-- key offsets -/
  bk : (D2 2 256).Idx → EReal
  /-- value weights -/
  wv : (D3 2 256 256).Idx → EReal
  /-- value offsets -/
  bv : (D2 2 256).Idx → EReal
  /-- output weights -/
  wo : (D3 2 256 256).Idx → EReal
  /-- output offsets -/
  bo : (D2 2 256).Idx → EReal
  /-- gains of the second normalizations -/
  g2 : (D2 2 256).Idx → EReal
  /-- offsets of the second normalizations -/
  b2 : (D2 2 256).Idx → EReal
  /-- first feed-forward weights -/
  w1 : (D3 2 256 1024).Idx → EReal
  /-- first feed-forward offsets -/
  c1 : (D2 2 1024).Idx → EReal
  /-- second feed-forward weights -/
  w2 : (D3 2 1024 256).Idx → EReal
  /-- second feed-forward offsets -/
  c2 : (D2 2 256).Idx → EReal

/-- Layer `l`'s weights. -/
def Args.layer (A : Args) (l : Fin 2) : Layer where
  g1 := fun j => A.g1 (ix2 l j)
  b1 := fun j => A.b1 (ix2 l j)
  wq := fun i j => A.wq (ix3 l i j)
  bq := fun j => A.bq (ix2 l j)
  wk := fun i j => A.wk (ix3 l i j)
  bk := fun j => A.bk (ix2 l j)
  wv := fun i j => A.wv (ix3 l i j)
  bv := fun j => A.bv (ix2 l j)
  wo := fun i j => A.wo (ix3 l i j)
  bo := fun j => A.bo (ix2 l j)
  g2 := fun j => A.g2 (ix2 l j)
  b2 := fun j => A.b2 (ix2 l j)
  w1 := fun i j => A.w1 (ix3 l i j)
  c1 := fun j => A.c1 (ix2 l j)
  w2 := fun i j => A.w2 (ix3 l i j)
  c2 := fun j => A.c2 (ix2 l j)

/-- Time `i` of the series with fifteen zeros before it. -/
def padded (x : (D3 8 128 8).Idx → EReal) (b : Fin 8) (i : ℕ) (c : Fin 8) : EReal :=
  if h : 15 ≤ i ∧ i - 15 < 128 then x (ix3 b ⟨i - 15, h.2⟩ c) else 0

/-- Entry `e` of the window that starts at time `i`: eight times by eight channels. -/
def window (x : (D3 8 128 8).Idx → EReal) (b : Fin 8) (i : ℕ) (e : Fin 64) : EReal :=
  padded x b (min (i + e.val / 8) 142) ⟨e.val % 8, Nat.mod_lt _ (by decide)⟩

/-- Position `k`'s row, zero past the last. -/
def posRow (pos : (D2 34 256).Idx → EReal) (k : ℕ) : Row 256 := fun j => if h : k < 34 then pos (ix2 ⟨k, h⟩ j) else 0

/-- Batch `b`'s `k`-th embedded window among those starting at `r`, `r + 4`, `r + 8`, … -/
def Args.row (A : Args) (b : Fin 8) (r k : ℕ) : Row 256 := fun j =>
  lin (window A.x b (r + 4 * k)) (fun e j => A.wp (ix2 e j)) (fun j => A.bp (ix1 j)) j + posRow A.pos k j

/-- The result at batch `b` and time `t`. -/
def Args.out (A : Args) (b : Fin 8) (t : ℕ) : Row 256 := last (A.layer 0) (A.layer 1) (t / 4 + 3) (A.row b (t % 4))

/-- Every argument is real. -/
structure Args.Real (A : Args) : Prop where
  x : ∀ i, Re (A.x i)
  wp : ∀ i, Re (A.wp i)
  bp : ∀ i, Re (A.bp i)
  pos : ∀ i, Re (A.pos i)
  g1 : ∀ i, Re (A.g1 i)
  b1 : ∀ i, Re (A.b1 i)
  wq : ∀ i, Re (A.wq i)
  bq : ∀ i, Re (A.bq i)
  wk : ∀ i, Re (A.wk i)
  bk : ∀ i, Re (A.bk i)
  wv : ∀ i, Re (A.wv i)
  bv : ∀ i, Re (A.bv i)
  wo : ∀ i, Re (A.wo i)
  bo : ∀ i, Re (A.bo i)
  g2 : ∀ i, Re (A.g2 i)
  b2 : ∀ i, Re (A.b2 i)
  w1 : ∀ i, Re (A.w1 i)
  c1 : ∀ i, Re (A.c1 i)
  w2 : ∀ i, Re (A.w2 i)
  c2 : ∀ i, Re (A.c2 i)

theorem Args.Real.layer {A : Args} (h : A.Real) (l : Fin 2) : (A.layer l).Real :=
  ⟨fun _ => h.g1 _, fun _ => h.b1 _, fun _ _ => h.wq _, fun _ => h.bq _, fun _ _ => h.wk _, fun _ => h.bk _, fun _ _ => h.wv _,
    fun _ => h.bv _, fun _ _ => h.wo _, fun _ => h.bo _, fun _ => h.g2 _, fun _ => h.b2 _, fun _ _ => h.w1 _, fun _ => h.c1 _,
    fun _ _ => h.w2 _, fun _ => h.c2 _⟩

theorem Args.Real.row {A : Args} (h : A.Real) (b : Fin 8) (r k : ℕ) (j : Fin 256) : Re (A.row b r k j) := by
  refine Re.add (Re.lin (fun e => ?_) (fun _ _ => h.wp _) (fun _ => h.bp _) j) ?_
  · unfold window padded
    split
    exacts [h.x _, Re.zero]
  · unfold posRow
    split
    exacts [h.pos _, Re.zero]

end Cert.Spec

end
-- ==== Proof.Gathers.lean ====
module

public import proofs.«01_k».proof.Proof.Access
public import proofs.«01_k».proof.KernelIdeal
public import proofs.«01_k».proof.ReferenceIdeal
public import Idealize.ShloMosaic.Lib.Routing.OpsSet

@[expose] public section

/-! # The programs' gathers and their one scatter, read at an index -/

noncomputable section

namespace Cert.Scale

open Idealize.ShloMosaic hiding ix1 ix2 ix3 ix4 ix5
open Idealize.ShloMosaic.ValueIdx

variable {α : Type}

section Kernel
variable [Cert.KernelIdeal.Facts₀]
open Cert.KernelIdeal

/-- The kernel's windows: one time per entry of the index table. -/
theorem windows_at (x : S8x143x8.Idx → α) (idx : IVec S4x40x8x1 32) (b : Fin 8) (r : Fin 4) (k : Fin 40) (e c : Fin 8) (n : ℕ) (hn : n < 143)
    (h : min (idx (ix4 r k e 0)).toInt.toNat 142 = n) :
    Host.gather gather_S8x143x8_S4x40x8x1_S8x4x40x8x8_04_1_n_n_1_3_818 x idx (ix5 b r k e c) = x (ix3 b ⟨n, hn⟩ c) := by
  have hs : gather_S8x143x8_S4x40x8x1_S8x4x40x8x8_04_1_n_n_1_3_818.siIdx (ix5 b r k e c) ⟨0, Nat.one_pos⟩ = (ix4 r k e 0) := by
    funext z
    refine Fin.ext ?_
    match z with
      | ⟨0, _⟩ => rfl
      | ⟨1, _⟩ => rfl
      | ⟨2, _⟩ => rfl
      | ⟨3, _⟩ => rfl
  unfold Host.gather
  congr 1
  funext a
  refine Fin.ext ?_
  match a with
  | ⟨0, _⟩ =>
    show 0 + 0 + b.val = b.val
    exact Nat.zero_add _
  | ⟨1, _⟩ =>
    show min (idx (gather_S8x143x8_S4x40x8x1_S8x4x40x8x8_04_1_n_n_1_3_818.siIdx (ix5 b r k e c) ⟨0, Nat.one_pos⟩)).toInt.toNat 142 + 0 + 0 = n
    rw [hs]
    exact h
  | ⟨2, _⟩ =>
    show 0 + 0 + c.val = c.val
    exact Nat.zero_add _

/-- The kernel's positions: thirty-four rows written over the first of forty. -/
theorem positions_at (x : S40x256.Idx → α) (u : S34x256.Idx → α) (idx : IVec S1 32) (h0 : (idx (ix1 0)).toInt = 0) (k : Fin 40) (j : Fin 256) :
    Host.scatter scatter_S40x256_S1_S34x256_01_n_0_0 (fun _ b => b) x idx u (ix2 k j)
      = if h : k.val < 34 then u (ix2 ⟨k.val, h⟩ j) else x (ix2 k j) := by
  have hs (y : S34x256.Idx) : scatter_S40x256_S1_S34x256_01_n_0_0.siIdx y ⟨0, Nat.one_pos⟩ = ix1 0 := by
    funext z
    refine Fin.ext ?_
    match z with
    | ⟨0, _⟩ => rfl
  have hr (p : Fin 34) (q : Fin 256) : scatter_S40x256_S1_S34x256_01_n_0_0.resultIdx? (ix2 p q) idx
      = some (ix2 ⟨p.val, by omega⟩ q) := by
    have e0 : scatter_S40x256_S1_S34x256_01_n_0_0.start (ix2 p q) idx 0 + scatter_S40x256_S1_S34x256_01_n_0_0.window (ix2 p q) 0 = p.val := by
      show (idx (scatter_S40x256_S1_S34x256_01_n_0_0.siIdx (ix2 p q) ⟨0, Nat.one_pos⟩)).toInt + (p.val : ℤ) = p.val
      rw [hs, h0, zero_add]
    have e1 : scatter_S40x256_S1_S34x256_01_n_0_0.start (ix2 p q) idx 1 + scatter_S40x256_S1_S34x256_01_n_0_0.window (ix2 p q) 1 = q.val := by
      show (0 : ℤ) + (q.val : ℤ) = q.val
      rw [zero_add]
    unfold ScatterDims.resultIdx?
    rw [dif_pos (by
      intro a
      match a with
      | ⟨0, _⟩ => exact ⟨e0.symm ▸ Int.natCast_nonneg _, e0.symm ▸ Int.ofNat_lt.mpr (show p.val < 40 by omega)⟩
      | ⟨1, _⟩ => exact ⟨e1.symm ▸ Int.natCast_nonneg _, e1.symm ▸ Int.ofNat_lt.mpr q.isLt⟩)]
    congr 1
    funext a
    refine Fin.ext ?_
    match a with
    | ⟨0, _⟩ => exact congrArg Int.toNat e0
    | ⟨1, _⟩ => exact congrArg Int.toNat e1
  split
  next h =>
    refine Idealize.ShloMosaic.Routing.scatter_set_hit _ x idx u _ _ (fun y hy => ?_) (ix2 ⟨k.val, h⟩ j) (hr _ _)
    obtain ⟨p, q, rfl⟩ : ∃ p q, y = ix2 p q := ⟨y 0, y 1, funext fun a => by fin_cases a <;> rfl⟩
    rw [hr] at hy
    have hp := congrArg Fin.val (congrFun (Option.some.inj hy) 0)
    have hq := congrFun (Option.some.inj hy) 1
    have hp' : p = ⟨k.val, h⟩ := Fin.ext hp
    have hq' : q = j := hq
    rw [hp', hq']
  next h =>
    refine Idealize.ShloMosaic.Routing.scatter_set_miss _ x idx u _ (fun y hy => ?_)
    obtain ⟨p, q, rfl⟩ : ∃ p q, y = ix2 p q := ⟨y 0, y 1, funext fun a => by fin_cases a <;> rfl⟩
    rw [hr] at hy
    have hp : p.val = k.val := congrArg Fin.val (congrFun (Option.some.inj hy) 0)
    omega

end Kernel

section Reference
variable [Cert.ReferenceIdeal.Facts₀]
open Cert.ReferenceIdeal

/-- The reference's windows: one time per entry of the index table. -/
theorem tokens_at (x : S8x143x8.Idx → α) (idx : IVec S136x8x1 32) (b : Fin 8) (k : Fin 136) (e c : Fin 8) (n : ℕ) (hn : n < 143)
    (h : min (idx (ix3 k e 0)).toInt.toNat 142 = n) :
    Host.gather gather_S8x143x8_S136x8x1_S8x136x8x8_03_1_n_n_1_2_818 x idx (ix4 b k e c) = x (ix3 b ⟨n, hn⟩ c) := by
  have hs : gather_S8x143x8_S136x8x1_S8x136x8x8_03_1_n_n_1_2_818.siIdx (ix4 b k e c) ⟨0, Nat.one_pos⟩ = (ix3 k e 0) := by
    funext z
    refine Fin.ext ?_
    match z with
      | ⟨0, _⟩ => rfl
      | ⟨1, _⟩ => rfl
      | ⟨2, _⟩ => rfl
  unfold Host.gather
  congr 1
  funext a
  refine Fin.ext ?_
  match a with
  | ⟨0, _⟩ =>
    show 0 + 0 + b.val = b.val
    exact Nat.zero_add _
  | ⟨1, _⟩ =>
    show min (idx (gather_S8x143x8_S136x8x1_S8x136x8x8_03_1_n_n_1_2_818.siIdx (ix4 b k e c) ⟨0, Nat.one_pos⟩)).toInt.toNat 142 + 0 + 0 = n
    rw [hs]
    exact h
  | ⟨2, _⟩ =>
    show 0 + 0 + c.val = c.val
    exact Nat.zero_add _

/-- The reference's sequences: one window per entry of the index table. -/
theorem sequences_at (x : S8x136x256.Idx → α) (idx : IVec S128x34x1 32) (b : Fin 8) (t : Fin 128) (k : Fin 34) (j : Fin 256) (n : ℕ) (hn : n < 136)
    (h : min (idx (ix3 t k 0)).toInt.toNat 135 = n) :
    Host.gather gather_S8x136x256_S128x34x1_S8x128x34x256_03_1_n_n_1_2_81256 x idx (ix4 b t k j) = x (ix3 b ⟨n, hn⟩ j) := by
  have hs : gather_S8x136x256_S128x34x1_S8x128x34x256_03_1_n_n_1_2_81256.siIdx (ix4 b t k j) ⟨0, Nat.one_pos⟩ = (ix3 t k 0) := by
    funext z
    refine Fin.ext ?_
    match z with
      | ⟨0, _⟩ => rfl
      | ⟨1, _⟩ => rfl
      | ⟨2, _⟩ => rfl
  unfold Host.gather
  congr 1
  funext a
  refine Fin.ext ?_
  match a with
  | ⟨0, _⟩ =>
    show 0 + 0 + b.val = b.val
    exact Nat.zero_add _
  | ⟨1, _⟩ =>
    show min (idx (gather_S8x136x256_S128x34x1_S8x128x34x256_03_1_n_n_1_2_81256.siIdx (ix4 b t k j) ⟨0, Nat.one_pos⟩)).toInt.toNat 135 + 0 + 0 = n
    rw [hs]
    exact h
  | ⟨2, _⟩ =>
    show 0 + 0 + j.val = j.val
    exact Nat.zero_add _

/-- The reference's last windows: one row per time. -/
theorem lasts_at (x : S8x4352x256.Idx → α) (idx : IVec S128x1 32) (b : Fin 8) (t : Fin 128) (j : Fin 256) (n : ℕ) (hn : n < 4352)
    (h : min (idx (ix2 t 0)).toInt.toNat 4351 = n) :
    Host.gather gather_S8x4352x256_S128x1_S8x128x256_02_1_n_n_1_1_81256 x idx (ix3 b t j) = x (ix3 b ⟨n, hn⟩ j) := by
  have hs : gather_S8x4352x256_S128x1_S8x128x256_02_1_n_n_1_1_81256.siIdx (ix3 b t j) ⟨0, Nat.one_pos⟩ = (ix2 t 0) := by
    funext z
    refine Fin.ext ?_
    match z with
      | ⟨0, _⟩ => rfl
      | ⟨1, _⟩ => rfl
  unfold Host.gather
  congr 1
  funext a
  refine Fin.ext ?_
  match a with
  | ⟨0, _⟩ =>
    show 0 + 0 + b.val = b.val
    exact Nat.zero_add _
  | ⟨1, _⟩ =>
    show min (idx (gather_S8x4352x256_S128x1_S8x128x256_02_1_n_n_1_1_81256.siIdx (ix3 b t j) ⟨0, Nat.one_pos⟩)).toInt.toNat 4351 + 0 + 0 = n
    rw [hs]
    exact h
  | ⟨2, _⟩ =>
    show 0 + 0 + j.val = j.val
    exact Nat.zero_add _

end Reference

end Cert.Scale

end
-- ==== Proof.HostValues.lean ====
module

public import proofs.«01_k».proof.Proof.Region
public import proofs.«01_k».proof.Proof.Result
public import proofs.«01_k».proof.Proof.Gathers
public import Idealize.ShloMosaic.Lib.StableHlo.RunRead
public import Idealize.ShloMosaic.Lib.Pipeline.ValueKit.Tiles

@[expose] public section

/-! # What the kernel's host operations hand to its grid, and what they make of its result -/

noncomputable section

namespace Cert.KernelIdeal.Own

open Idealize.ShloMosaic hiding ix1 ix2 ix3 ix4 ix5 Pointwise.shapeCast_apply
open Idealize.ShloMosaic.ValueIdx Idealize.ShloMosaic.TcCoe Idealize.ShloMosaic.StableHlo Idealize.SL.Sem
open Cert.KernelIdeal.Gen Cert.Scale
variable {F : FTy → Type} [FloatOps F] [Named F]
variable (m : (ℓ : Loc nD τ sig) → Buf (Elt F) ℓ) (ρ : Dev nD → PrngReg)

theorem V_win (c : Dev nD) : V m c main_v8 = shapeCast S32x40x64 (Host.gather gather_S8x143x8_S4x40x8x1_S8x4x40x8x8_04_1_n_n_1_3_818
      (concatenate S8x143x8 1 [⟨S8x15x8, broadcastInDim S8x15x8 ![] bcast_S_S8x15x8 (constant S_ .f32 0x00000000#32 : S_.Idx → F .f32)⟩, ⟨S8x128x8, m ((c : Thread nD τ).loc main_arg0)⟩] concatenates_S8x15x8_S8x128x8_S8x143x8_d1)
      (broadcastInDim S4x40x8x1 ![0, 1, 2] bcast_S4x40x8_S4x40x8x1_0_1_2 (select (constantI S4x40x8 1 0#1)
        (addi (fun i => lit0 (S4x40x8.rowMajor i)) (broadcastInDim S4x40x8 ![] bcast_S_S4x40x8 (constantI S_ 32 143#32)))
        (fun i => lit0 (S4x40x8.rowMajor i))))) shapeCasts_S8x4x40x8x8_S32x40x64 := by
  unfold V V0
  after_reads_simp
  have e1 : upto (List.flatten [hostOps0]) (fun b => m (c, b)) 8 (Proc.tc.devRef main_v0) = broadcastInDim S8x15x8 ![] bcast_S_S8x15x8 (constant S_ .f32 0x00000000#32 : S_.Idx → F .f32) := by
    after_reads_simp
  have e2 : upto (List.flatten [hostOps0]) (fun b => m (c, b)) 8 (Proc.tc.devRef main_arg0) = m ((c : Thread nD τ).loc main_arg0) := by
    after_reads_simp
  rw [e1, e2]
  rfl

theorem V_pos (c : Dev nD) : V m c main_v11 = Host.scatter scatter_S40x256_S1_S34x256_01_n_0_0 (fun _ b => b)
    (broadcastInDim S40x256 ![] bcast_S_S40x256 (constant S_ .f32 0x00000000#32 : S_.Idx → F .f32))
    (broadcastInDim S1 ![] bcast_S_S1 (constantI S_ 32 0#32)) (m ((c : Thread nD τ).loc main_arg3)) := by
  unfold V V0
  after_reads_simp

theorem V_bp (c : Dev nD) : V m c main_v2 = shapeCast S1x256 (m ((c : Thread nD τ).loc main_arg2)) shapeCasts_S256_S1x256 := by
  unfold V V0
  after_reads_simp
  rfl
theorem V_tm (c : Dev nD) : V m c main_cst = fun i => FloatOps.ofBits .f32 (lit1 (S32x40.rowMajor i)) := by
  unfold V V0
  after_reads_simp
  rfl
theorem V_am (c : Dev nD) : V m c main_cst_1 = fun i => FloatOps.ofBits .f32 (lit2 (S32x40.rowMajor i)) := by
  unfold V V0
  after_reads_simp
  rfl
theorem V_ds (c : Dev nD) : V m c main_cst_2 = fun i => FloatOps.ofBits .f32 (lit3 (S32x40.rowMajor i)) := by
  unfold V V0
  after_reads_simp
  rfl
theorem V_gh (c : Dev nD) : V m c main_cst_3 = fun i => FloatOps.ofBits .f32 (lit4 (S256x8.rowMajor i)) := by
  unfold V V0
  after_reads_simp
  rfl

theorem tail_eq (W : Valuation τ sig (Elt F)) : StableHlo.after (List.flatten [hostOps1]) W (Proc.devRef .tc main_v15)
   = shapeCast S1024x256 (transpose S8x32x4x256 [0, 2, 1, 3] (shapeCast S8x4x32x256 (W (Proc.devRef .tc main_v12)) shapeCasts_S32x32x256_S8x4x32x256)
     transposes_S8x4x32x256_S8x32x4x256_0_2_1_3) shapeCasts_S8x32x4x256_S1024x256 := by
  after_reads_simp
  rfl

/-! ## The tables -/

/-- The windows' times. -/
theorem times_at (r : Fin 4) (k : Fin 40) (e : Fin 8) :
    (lit0 (S4x40x8.rowMajor (ix3 r k e))).toInt.toNat = min (r.val + 4 * k.val + e.val) 142 := by
  have h : ∀ (r : Fin 4) (k : Fin 40) (e : Fin 8), (lit0 ⟨(r.val * 40 + k.val) * 8 + e.val, by omega⟩).toInt.toNat
      = min (r.val + 4 * k.val + e.val) 142 := by decide +kernel
  rw [← h r k e]
  exact congrArg (fun z => (lit0 z).toInt.toNat) (Fin.ext (Shape.rowMajor_val_three _))

/-- The 0/1 mask: a query sees its positions up to its last. -/
theorem seen_at (q : Fin 32) (k : Fin 40) : lit1 (S32x40.rowMajor (ix2 q k)) = if k.val < q.val + 3 then 0x3F800000#32 else 0#32 := by
  have h : ∀ (q : Fin 32) (k : Fin 40), lit1 ⟨q.val * 40 + k.val, by omega⟩ = if k.val < q.val + 3 then 0x3F800000#32 else 0#32 := by
    decide +kernel
  rw [← h q k]
  exact congrArg lit1 (Fin.ext (Shape.rowMajor_val_two _))

/-- The added mask. -/
theorem added_at (q : Fin 32) (k : Fin 40) : lit2 (S32x40.rowMajor (ix2 q k)) = if k.val < q.val + 3 then 0#32 else 0xCE6E6B28#32 := by
  have h : ∀ (q : Fin 32) (k : Fin 40), lit2 ⟨q.val * 40 + k.val, by omega⟩ = if k.val < q.val + 3 then 0#32 else 0xCE6E6B28#32 := by
    decide +kernel
  rw [← h q k]
  exact congrArg lit2 (Fin.ext (Shape.rowMajor_val_two _))

/-- The mark of each query's last position. -/
theorem last_at (q : Fin 32) (k : Fin 40) : lit3 (S32x40.rowMajor (ix2 q k)) = if k.val = q.val + 2 then 0x3F800000#32 else 0#32 := by
  have h : ∀ (q : Fin 32) (k : Fin 40), lit3 ⟨q.val * 40 + k.val, by omega⟩ = if k.val = q.val + 2 then 0x3F800000#32 else 0#32 := by
    decide +kernel
  rw [← h q k]
  exact congrArg lit3 (Fin.ext (Shape.rowMajor_val_two _))

/-- The mark of each column's head. -/
theorem head_at (i : Fin 256) (h : Fin 8) : lit4 (S256x8.rowMajor (ix2 i h)) = if i.val / 32 = h.val then 0x3F800000#32 else 0#32 := by
  have e : ∀ (i : Fin 256) (h : Fin 8), lit4 ⟨i.val * 8 + h.val, by omega⟩ = if i.val / 32 = h.val then 0x3F800000#32 else 0#32 := by
    decide +kernel
  rw [← e i h]
  exact congrArg lit4 (Fin.ext (Shape.rowMajor_val_two _))

/-! ## The arrays, read -/

section Read

variable (m : (ℓ : Loc nD τ sig) → Buf (Elt Ideal) ℓ)

/-- The series with its fifteen zeros. -/
theorem padded_at (x : S8x128x8.Idx → EReal) (b : Fin 8) (i : Fin 143) (c : Fin 8) :
    concatenate S8x143x8 1 [⟨S8x15x8, broadcastInDim S8x15x8 ![] bcast_S_S8x15x8 (constant (F := Ideal) S_ .f32 0x00000000#32)⟩,
      ⟨S8x128x8, x⟩] concatenates_S8x15x8_S8x128x8_S8x143x8_d1 (ix3 b i c) = Spec.padded x b i.val c := by
  unfold Spec.padded
  split
  next h =>
    exact concatenate_pair_apply_right 1 _ _ concatenates_S8x15x8_S8x128x8_S8x143x8_d1 _ rfl rfl (ix3 b ⟨i.val - 15, h.2⟩ c)
      (by intro z hz; fin_cases z; exacts [rfl, absurd rfl hz, rfl]) (by show i.val - 15 + 15 = i.val; omega)
  next h =>
    have hi : i.val < 15 := by have := i.isLt; omega
    refine (concatenate_pair_apply_left 1 _ _ concatenates_S8x15x8_S8x128x8_S8x143x8_d1 _ rfl (ix3 b ⟨i.val, hi⟩ c)
      (by intro z; fin_cases z <;> rfl)).trans ?_
    exact Ideal.ofBits_zero_f32

theorem win_at (c : Dev nD) (b : Fin 8) (r : Fin 4) (k : Fin 40) (e : Fin 64) :
    V m c main_v8 (ix3 (⟨4 * b.val + r.val, by omega⟩ : Fin 32) k e) = Spec.window (m ((c : Thread nD τ).loc main_arg0)) b (r.val + 4 * k.val) e := by
  rw [V_win]
  refine (shapeCast_apply _ _ _ (ix5 b r k (⟨e.val / 8, by omega⟩ : Fin 8) (⟨e.val % 8, by omega⟩ : Fin 8)) ?_).trans ?_
  · rw [Shape.rowMajor_val_five, Shape.rowMajor_val_three]
    show (((b.val * 4 + r.val) * 40 + k.val) * 8 + e.val / 8) * 8 + e.val % 8 = ((4 * b.val + r.val) * 40 + k.val) * 64 + e.val
    omega
  · refine (windows_at _ _ _ _ _ _ _ (min (r.val + 4 * k.val + e.val / 8) 142) (by omega) ?_).trans ?_
    · show min (lit0 (S4x40x8.rowMajor (ix3 r k (⟨e.val / 8, by omega⟩ : Fin 8)))).toInt.toNat 142 = _
      rw [times_at]
      show min (min (r.val + 4 * k.val + e.val / 8) 142) 142 = _
      omega
    · exact padded_at _ _ _ _

theorem pos_at (c : Dev nD) (k : Fin 40) (j : Fin 256) :
    V m c main_v11 (ix2 k j) = Spec.posRow (m ((c : Thread nD τ).loc main_arg3)) k.val j := by
  rw [V_pos]
  refine (positions_at _ _ _ rfl k j).trans ?_
  unfold Spec.posRow
  split
  · rfl
  · exact Ideal.ofBits_zero_f32

theorem bp_at (c : Dev nD) (j : Fin 256) : V m c main_v2 (ix2 0 j) = m ((c : Thread nD τ).loc main_arg2) (ix1 j) := by
  rw [V_bp]
  refine shapeCast_apply _ _ _ (ix1 j) ?_
  rw [Shape.rowMajor_val_one, Shape.rowMajor_val_two]
  show j.val = 0 * 256 + j.val
  omega

theorem tm_at (c : Dev nD) (q : Fin 32) (k : Fin 40) : V m c main_cst (ix2 q k) = if k.val < q.val + 3 then (1 : EReal) else 0 := by
  rw [V_tm]
  show Ideal.ofBits .f32 (lit1 (S32x40.rowMajor (ix2 q k))) = _
  rw [seen_at]
  split
  exacts [Ideal.ofBits_one_f32, Ideal.ofBits_zero_f32]

theorem am_at (c : Dev nD) (q : Fin 32) (k : Fin 40) : (show EReal from V m c main_cst_1 (ix2 q k)) < 0 ↔ ¬ k.val < q.val + 3 := by
  rw [V_am]
  show Ideal.ofBits .f32 (lit2 (S32x40.rowMajor (ix2 q k))) < 0 ↔ _
  rw [added_at]
  split
  next h => rw [Ideal.ofBits_zero_f32]; exact ⟨fun e => absurd e (lt_irrefl _), fun e => absurd h e⟩
  next h => exact ⟨fun _ => h, fun _ => Spec.litNegOne⟩

theorem ds_at (c : Dev nD) (q : Fin 32) (k : Fin 40) : V m c main_cst_2 (ix2 q k) = if k.val = q.val + 2 then (1 : EReal) else 0 := by
  rw [V_ds]
  show Ideal.ofBits .f32 (lit3 (S32x40.rowMajor (ix2 q k))) = _
  rw [last_at]
  split
  exacts [Ideal.ofBits_one_f32, Ideal.ofBits_zero_f32]

theorem gh_at (c : Dev nD) (i : Fin 256) (h : Fin 8) : V m c main_cst_3 (ix2 i h) = if i.val / 32 = h.val then (1 : EReal) else 0 := by
  rw [V_gh]
  show Ideal.ofBits .f32 (lit4 (S256x8.rowMajor (ix2 i h))) = _
  rw [head_at]
  split
  exacts [Ideal.ofBits_one_f32, Ideal.ofBits_zero_f32]

/-- The result's rows: batch, time, out of sequence and place. -/
theorem rows_at (y : S32x32x256.Idx → EReal) (b : Fin 8) (t : Fin 128) (j : Fin 256) :
    shapeCast S1024x256 (transpose S8x32x4x256 [0, 2, 1, 3] (shapeCast S8x4x32x256 y shapeCasts_S32x32x256_S8x4x32x256)
      transposes_S8x4x32x256_S8x32x4x256_0_2_1_3) shapeCasts_S8x32x4x256_S1024x256 (ix2 (⟨128 * b.val + t.val, by omega⟩ : Fin 1024) j)
      = y (ix3 (⟨4 * b.val + t.val % 4, by omega⟩ : Fin 32) (⟨t.val / 4, by omega⟩ : Fin 32) j) := by
  refine (shapeCast_apply _ _ _ (ix4 b (⟨t.val / 4, by omega⟩ : Fin 32) (⟨t.val % 4, by omega⟩ : Fin 4) j) ?_).trans ?_
  · rw [Shape.rowMajor_val_four, Shape.rowMajor_val_two]
    show ((b.val * 32 + t.val / 4) * 4 + t.val % 4) * 256 + j.val = (128 * b.val + t.val) * 256 + j.val
    omega
  · refine (transpose_apply [0, 2, 1, 3] _ transposes_S8x4x32x256_S8x32x4x256_0_2_1_3 _ (ix4 b (⟨t.val % 4, by omega⟩ : Fin 4) (⟨t.val / 4, by omega⟩ : Fin 32) j)
      (by intro z; fin_cases z <;> rfl)).trans (shapeCast_apply _ _ _ _ ?_)
    rw [Shape.rowMajor_val_four, Shape.rowMajor_val_three]
    show ((4 * b.val + t.val % 4) * 32 + t.val / 4) * 256 + j.val = ((b.val * 4 + t.val % 4) * 32 + t.val / 4) * 256 + j.val
    omega

end Read

end Cert.KernelIdeal.Own

end
-- ==== Proof.KernelBlocks.lean ====
module

public import proofs.«01_k».proof.Proof.HostValues

@[expose] public section

/-! # The blocks the kernel's grid hands to its body, and what the body loads of them -/

noncomputable section

namespace Cert.KernelIdeal.Own

open Idealize.ShloMosaic hiding ix1 ix2 ix3 ix4 ix5 Pointwise.shapeCast_apply
open Idealize.ShloMosaic.ValueIdx Idealize.ShloMosaic.TcCoe
open Idealize.SL.Sem
open Cert.KernelIdeal.Gen Cert.Scale

variable (m : (ℓ : Loc nD τ sig) → Buf (Elt Ideal) ℓ)

/-! ## The blocks -/

theorem whole1 (c : Dev nD) (t : Fin cfg0.N) : (iblk m c 1 t : S40x256.Idx → EReal) = V m c main_v11 := by
  funext y
  refine congrArg (V m c main_v11) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)

theorem whole2 (c : Dev nD) (t : Fin cfg0.N) : (iblk m c 2 t : S32x40.Idx → EReal) = V m c main_cst := by
  funext y
  refine congrArg (V m c main_cst) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)

theorem whole3 (c : Dev nD) (t : Fin cfg0.N) : (iblk m c 3 t : S32x40.Idx → EReal) = V m c main_cst_1 := by
  funext y
  refine congrArg (V m c main_cst_1) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)

theorem whole4 (c : Dev nD) (t : Fin cfg0.N) : (iblk m c 4 t : S32x40.Idx → EReal) = V m c main_cst_2 := by
  funext y
  refine congrArg (V m c main_cst_2) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)

theorem whole5 (c : Dev nD) (t : Fin cfg0.N) : (iblk m c 5 t : S256x8.Idx → EReal) = V m c main_cst_3 := by
  funext y
  refine congrArg (V m c main_cst_3) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)

theorem whole6 (c : Dev nD) (t : Fin cfg0.N) : (iblk m c 6 t : S64x256.Idx → EReal) = m ((c : Thread nD τ).loc main_arg1) := by
  rw [← kept m c main_arg1 (by decide)]
  funext y
  refine congrArg (V m c main_arg1) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)

theorem whole7 (c : Dev nD) (t : Fin cfg0.N) : (iblk m c 7 t : S1x256.Idx → EReal) = V m c main_v2 := by
  funext y
  refine congrArg (V m c main_v2) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)

theorem whole8 (c : Dev nD) (t : Fin cfg0.N) : (iblk m c 8 t : S2x256.Idx → EReal) = m ((c : Thread nD τ).loc main_arg4) := by
  rw [← kept m c main_arg4 (by decide)]
  funext y
  refine congrArg (V m c main_arg4) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)

theorem whole9 (c : Dev nD) (t : Fin cfg0.N) : (iblk m c 9 t : S2x256.Idx → EReal) = m ((c : Thread nD τ).loc main_arg5) := by
  rw [← kept m c main_arg5 (by decide)]
  funext y
  refine congrArg (V m c main_arg5) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)

theorem whole10 (c : Dev nD) (t : Fin cfg0.N) : (iblk m c 10 t : S2x256x256.Idx → EReal) = m ((c : Thread nD τ).loc main_arg6) := by
  rw [← kept m c main_arg6 (by decide)]
  funext y
  refine congrArg (V m c main_arg6) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)
  | ⟨2, _⟩ => exact (congrArg (0 + ·) (Nat.one_mul _)).trans (Nat.zero_add _)

theorem whole11 (c : Dev nD) (t : Fin cfg0.N) : (iblk m c 11 t : S2x256.Idx → EReal) = m ((c : Thread nD τ).loc main_arg7) := by
  rw [← kept m c main_arg7 (by decide)]
  funext y
  refine congrArg (V m c main_arg7) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)

theorem whole12 (c : Dev nD) (t : Fin cfg0.N) : (iblk m c 12 t : S2x256x256.Idx → EReal) = m ((c : Thread nD τ).loc main_arg8) := by
  rw [← kept m c main_arg8 (by decide)]
  funext y
  refine congrArg (V m c main_arg8) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)
  | ⟨2, _⟩ => exact (congrArg (0 + ·) (Nat.one_mul _)).trans (Nat.zero_add _)

theorem whole13 (c : Dev nD) (t : Fin cfg0.N) : (iblk m c 13 t : S2x256.Idx → EReal) = m ((c : Thread nD τ).loc main_arg9) := by
  rw [← kept m c main_arg9 (by decide)]
  funext y
  refine congrArg (V m c main_arg9) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)

theorem whole14 (c : Dev nD) (t : Fin cfg0.N) : (iblk m c 14 t : S2x256x256.Idx → EReal) = m ((c : Thread nD τ).loc main_arg10) := by
  rw [← kept m c main_arg10 (by decide)]
  funext y
  refine congrArg (V m c main_arg10) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)
  | ⟨2, _⟩ => exact (congrArg (0 + ·) (Nat.one_mul _)).trans (Nat.zero_add _)

theorem whole15 (c : Dev nD) (t : Fin cfg0.N) : (iblk m c 15 t : S2x256.Idx → EReal) = m ((c : Thread nD τ).loc main_arg11) := by
  rw [← kept m c main_arg11 (by decide)]
  funext y
  refine congrArg (V m c main_arg11) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)

theorem whole16 (c : Dev nD) (t : Fin cfg0.N) : (iblk m c 16 t : S2x256x256.Idx → EReal) = m ((c : Thread nD τ).loc main_arg12) := by
  rw [← kept m c main_arg12 (by decide)]
  funext y
  refine congrArg (V m c main_arg12) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)
  | ⟨2, _⟩ => exact (congrArg (0 + ·) (Nat.one_mul _)).trans (Nat.zero_add _)

theorem whole17 (c : Dev nD) (t : Fin cfg0.N) : (iblk m c 17 t : S2x256.Idx → EReal) = m ((c : Thread nD τ).loc main_arg13) := by
  rw [← kept m c main_arg13 (by decide)]
  funext y
  refine congrArg (V m c main_arg13) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)

theorem whole18 (c : Dev nD) (t : Fin cfg0.N) : (iblk m c 18 t : S2x256.Idx → EReal) = m ((c : Thread nD τ).loc main_arg14) := by
  rw [← kept m c main_arg14 (by decide)]
  funext y
  refine congrArg (V m c main_arg14) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)

theorem whole19 (c : Dev nD) (t : Fin cfg0.N) : (iblk m c 19 t : S2x256.Idx → EReal) = m ((c : Thread nD τ).loc main_arg15) := by
  rw [← kept m c main_arg15 (by decide)]
  funext y
  refine congrArg (V m c main_arg15) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)

theorem whole20 (c : Dev nD) (t : Fin cfg0.N) : (iblk m c 20 t : S2x256x1024.Idx → EReal) = m ((c : Thread nD τ).loc main_arg16) := by
  rw [← kept m c main_arg16 (by decide)]
  funext y
  refine congrArg (V m c main_arg16) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)
  | ⟨2, _⟩ => exact (congrArg (0 + ·) (Nat.one_mul _)).trans (Nat.zero_add _)

theorem whole21 (c : Dev nD) (t : Fin cfg0.N) : (iblk m c 21 t : S2x1024.Idx → EReal) = m ((c : Thread nD τ).loc main_arg17) := by
  rw [← kept m c main_arg17 (by decide)]
  funext y
  refine congrArg (V m c main_arg17) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)

theorem whole22 (c : Dev nD) (t : Fin cfg0.N) : (iblk m c 22 t : S2x1024x256.Idx → EReal) = m ((c : Thread nD τ).loc main_arg18) := by
  rw [← kept m c main_arg18 (by decide)]
  funext y
  refine congrArg (V m c main_arg18) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)
  | ⟨2, _⟩ => exact (congrArg (0 + ·) (Nat.one_mul _)).trans (Nat.zero_add _)

theorem whole23 (c : Dev nD) (t : Fin cfg0.N) : (iblk m c 23 t : S2x256.Idx → EReal) = m ((c : Thread nD τ).loc main_arg19) := by
  rw [← kept m c main_arg19 (by decide)]
  funext y
  refine congrArg (V m c main_arg19) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)

/-- Point `t`'s block of windows: sequences `2 t` and `2 t + 1`. -/
theorem win_block (c : Dev nD) (t : Fin cfg0.N) (g : Fin 2) (k : Fin 40) (e : Fin 64) (h : 2 * t.val + g.val < 32) :
    (iblk m c 0 t : S2x40x64.Idx → EReal) (ix3 g k e) = V m c main_v8 (ix3 ⟨2 * t.val + g.val, h⟩ k e) := by
  have e0 : win0_0.index t 0 * win0_0.size 0 = 2 * t.val := by
    have all : ∀ t : Fin cfg0.N, win0_0.index t 0 * win0_0.size 0 = 2 * t.val := by decide +kernel
    exact all t
  refine congrArg (V m c main_v8) (funext fun a => Fin.ext ?_)
  match a with
  | ⟨0, _⟩ => exact congrArg₂ (· + ·) e0 (Nat.one_mul _)
  | ⟨1, _⟩ => exact (congrArg (0 + ·) (Nat.one_mul _)).trans (Nat.zero_add _)
  | ⟨2, _⟩ => exact (congrArg (0 + ·) (Nat.one_mul _)).trans (Nat.zero_add _)

/-! ## The loads -/

theorem ld_all2 (a b : ℕ) (X : (D2 a b).Idx → EReal) (i : Fin a) (j : Fin b) : View.ld (Val := Elt Ideal) (e' := .f32) X (all2 a b) (ix2 i j) = X (ix2 i j) := by
  refine congrArg X (funext fun z => Fin.ext ?_)
  match z with
  | ⟨0, _⟩ => exact (congrArg (0 + ·) (Nat.one_mul _)).trans (Nat.zero_add _)
  | ⟨1, _⟩ => exact (congrArg (0 + ·) (Nat.one_mul _)).trans (Nat.zero_add _)

theorem ld_slab (l a b : ℕ) (h : l < 2) (X : (D3 2 a b).Idx → EReal) (i : Fin a) (j : Fin b) :
    View.ld (Val := Elt Ideal) (e' := .f32) X (slab l a b h) (ix3 0 i j) = X (ix3 ⟨l, h⟩ i j) := by
  refine congrArg X (funext fun z => Fin.ext ?_)
  match z with
  | ⟨0, _⟩ => rfl
  | ⟨1, _⟩ => exact (congrArg (0 + ·) (Nat.one_mul _)).trans (Nat.zero_add _)
  | ⟨2, _⟩ => exact (congrArg (0 + ·) (Nat.one_mul _)).trans (Nat.zero_add _)

theorem row_rowAt (l N : ℕ) (h : l < 2) (X : (D2 2 N).Idx → EReal) : row (rowAt l N h X) 0 = fun j => X (ix2 ⟨l, h⟩ j) := by
  funext j
  have e := sl2_at (α := EReal) (p := 1) (o := l) (u := 0) (sl2 h (Nat.zero_add N).le) (View.ld (Val := Elt Ideal) (e' := .f32) X (all2 2 N)) 0 j ⟨l, h⟩ j rfl (Nat.zero_add _).symm
  exact e.trans (ld_all2 _ _ _ _ _)

theorem slab1_slab (l a b : ℕ) (h : l < 2) (X : (D3 2 a b).Idx → EReal) :
    slab1 (View.ld (Val := Elt Ideal) (e' := .f32) X (slab l a b h)) = fun i j => X (ix3 ⟨l, h⟩ i j) := by
  funext i j
  exact ld_slab _ _ _ _ _ _ _

/-! ## The arguments -/

/-- The arguments. -/
def args (c : Dev nD) : Spec.Args where
  x := m ((c : Thread nD τ).loc main_arg0)
  wp := m ((c : Thread nD τ).loc main_arg1)
  bp := m ((c : Thread nD τ).loc main_arg2)
  pos := m ((c : Thread nD τ).loc main_arg3)
  g1 := m ((c : Thread nD τ).loc main_arg4)
  b1 := m ((c : Thread nD τ).loc main_arg5)
  wq := m ((c : Thread nD τ).loc main_arg6)
  bq := m ((c : Thread nD τ).loc main_arg7)
  wk := m ((c : Thread nD τ).loc main_arg8)
  bk := m ((c : Thread nD τ).loc main_arg9)
  wv := m ((c : Thread nD τ).loc main_arg10)
  bv := m ((c : Thread nD τ).loc main_arg11)
  wo := m ((c : Thread nD τ).loc main_arg12)
  bo := m ((c : Thread nD τ).loc main_arg13)
  g2 := m ((c : Thread nD τ).loc main_arg14)
  b2 := m ((c : Thread nD τ).loc main_arg15)
  w1 := m ((c : Thread nD τ).loc main_arg16)
  c1 := m ((c : Thread nD τ).loc main_arg17)
  w2 := m ((c : Thread nD τ).loc main_arg18)
  c2 := m ((c : Thread nD τ).loc main_arg19)

end Cert.KernelIdeal.Own

end
-- ==== Proof.KernelValue.lean ====
module

public import proofs.«01_k».proof.Proof.KernelBlocks

@[expose] public section

/-! # What the kernel's grid leaves in its result array -/

noncomputable section

namespace Cert.KernelIdeal.Own

open Idealize.ShloMosaic hiding ix1 ix2 ix3 ix4 ix5 Pointwise.shapeCast_apply
open Idealize.ShloMosaic.ValueIdx Idealize.ShloMosaic.TcCoe
open Idealize.SL.Sem
open Cert.KernelIdeal.Gen Cert.Scale

variable (m : (ℓ : Loc nD τ sig) → Buf (Elt Ideal) ℓ)

/-- What point `t`'s blocks hold. -/
structure Holds (c : Dev nD) (t : Fin cfg0.N) (x : Blocks Ideal) : Prop where
  win : ∀ (g : Fin 2) (k : Fin 40) (e : Fin 64) (h : 2 * t.val + g.val < 32), x.win (ix3 g k e) = V m c main_v8 (ix3 ⟨2 * t.val + g.val, h⟩ k e)
  pos : ∀ (k : Fin 40) (j : Fin 256), x.pos (ix2 k j) = V m c main_v11 (ix2 k j)
  tm : x.tm = V m c main_cst
  am : x.am = V m c main_cst_1
  ds : x.ds = V m c main_cst_2
  gh : x.gh = V m c main_cst_3
  wp : x.wp = (args m c).wp
  bp : x.bp = V m c main_v2
  g1 : x.g1 = (args m c).g1
  b1 : x.b1 = (args m c).b1
  wq : x.wq = (args m c).wq
  bq : x.bq = (args m c).bq
  wk : x.wk = (args m c).wk
  bk : x.bk = (args m c).bk
  wv : x.wv = (args m c).wv
  bv : x.bv = (args m c).bv
  wo : x.wo = (args m c).wo
  bo : x.bo = (args m c).bo
  g2 : x.g2 = (args m c).g2
  b2 : x.b2 = (args m c).b2
  w1 : x.w1 = (args m c).w1
  c1 : x.c1 = (args m c).c1
  w2 : x.w2 = (args m c).w2
  c2 : x.c2 = (args m c).c2

-- the lines' values are compared as they stand
attribute [local irreducible] iblk StableHlo.after

theorem holds (c : Dev nD) (t : Fin cfg0.N) : Holds m c t (blocks m c t) where
  win := by exact win_block m c t
  pos := fun k j => congrFun (whole1 m c t) (ix2 k j)
  tm := by exact whole2 m c t
  am := by exact whole3 m c t
  ds := by exact whole4 m c t
  gh := by exact whole5 m c t
  wp := by exact whole6 m c t
  bp := by exact whole7 m c t
  g1 := by exact whole8 m c t
  b1 := by exact whole9 m c t
  wq := by exact whole10 m c t
  bq := by exact whole11 m c t
  wk := by exact whole12 m c t
  bk := by exact whole13 m c t
  wv := by exact whole14 m c t
  bv := by exact whole15 m c t
  wo := by exact whole16 m c t
  bo := by exact whole17 m c t
  g2 := by exact whole18 m c t
  b2 := by exact whole19 m c t
  w1 := by exact whole20 m c t
  c1 := by exact whole21 m c t
  w2 := by exact whole22 m c t
  c2 := by exact whole23 m c t

variable {m} in
theorem layer_eq {c : Dev nD} {t : Fin cfg0.N} {x : Blocks Ideal} (hx : Holds m c t x) (l : Fin 2) :
    layerRows (layerAt l.val l.isLt x) = (args m c).layer l := by
  unfold layerRows layerAt Spec.Args.layer
  simp only [row_rowAt, slab1_slab, hx.g1, hx.b1, hx.wq, hx.bq, hx.wk, hx.bk, hx.wv, hx.bv, hx.wo, hx.bo, hx.g2, hx.b2, hx.w1, hx.c1, hx.w2, hx.c2]

/-! ## The pieces -/

variable {m} in
/-- The embedded windows. -/
theorem embedded {c : Dev nD} {t : Fin cfg0.N} {x : Blocks Ideal} (hx : Holds m c t x) (g : ℕ) (hg : g < 2) (b : Fin 8) (r : Fin 4) (hs : 2 * t.val + g = 4 * b.val + r.val) (k : Fin 40) :
    row (embed 40 (View.ld x.win (slab g 40 64 hg)) (View.ld x.wp (all2 64 256)) (View.ld x.bp (all2 1 256))
      (View.ld x.pos (all2 40 256))) k = (args m c).row b r.val k.val := by
  funext j
  refine (embed_at _ _ _ _ _ _ _).trans ?_
  refine congrArg₂ (fun u v : EReal => u + v) ?_ ?_
  · have hw : slab1 (View.ld (Val := Elt Ideal) (e' := .f32) x.win (slab g 40 64 hg)) k = Spec.window (args m c).x b (r.val + 4 * k.val) := by
      funext e
      refine (ld_slab g 40 64 hg x.win k e).trans ((hx.win ⟨g, hg⟩ k e (by show 2 * t.val + g < 32; omega)).trans ?_)
      refine Eq.trans ?_ (win_at m c b r k e)
      congr 2
      exact Fin.ext hs
    have hp : row (View.ld (Val := Elt Ideal) (e' := .f32) x.wp (all2 64 256)) = fun e j => (args m c).wp (ix2 e j) := by
      funext e j
      exact (ld_all2 64 256 x.wp e j).trans (congrFun hx.wp _)
    have ho : row (View.ld (Val := Elt Ideal) (e' := .f32) x.bp (all2 1 256)) 0 = fun j => (args m c).bp (ix1 j) := by
      funext j
      exact (ld_all2 1 256 x.bp 0 j).trans ((congrFun hx.bp _).trans (bp_at m c j))
    rw [hw, hp, ho]
  · exact (ld_all2 40 256 x.pos k j).trans ((hx.pos k j).trans (pos_at m c k j))

variable {m} in
/-- One stored piece. -/
theorem piece_at {c : Dev nD} (hA : (args m c).Real) {t : Fin cfg0.N} {x : Blocks Ideal} (hx : Holds m c t x) (g C ke R : ℕ) (hR : R = 8 * ke) (hke : ke ≤ 40) (hg : g < 2) (hC : 8 * C + 8 ≤ 32)
    (hl : 8 * C + 10 ≤ ke) (b : Fin 8) (r : Fin 4) (hs : 2 * t.val + g = 4 * b.val + r.val) (a : Fin 8) (j : Fin 256) :
    chunkAt g C ke R hR hke hg hC x (ix3 0 a j)
      = Spec.last ((args m c).layer 0) ((args m c).layer 1) (8 * C + a.val + 3) ((args m c).row b r.val) j := by
  unfold chunkAt
  have l0 := layer_eq hx 0
  have l1 := layer_eq hx 1
  refine (chunk_at _ _ (IdealRules.named_const.ideal_named_scalar _ _ _ _ rfl) (IdealRules.named_const.ideal_named_scalar _ _ _ _ rfl) 40 32 C ke R
    hR hke hC _ _ (l0 ▸ hA.layer 0) (l1 ▸ hA.layer 1) _ _ _ _ _ _ _ _
    (fun i h => (ld_all2 256 8 x.gh i h).trans ((congrFun hx.gh _).trans (gh_at m c i h)))
    (fun q k => (ld_all2 32 40 x.tm q k).trans ((congrFun hx.tm _).trans (tm_at m c q k)))
    (fun q k => ?_)
    (fun q k => (ld_all2 32 40 x.ds q k).trans ((congrFun hx.ds _).trans (ds_at m c q k)))
    a (by omega) ((args m c).row b r.val) (embedded hx g hg b r hs) (fun k _ j => hA.row b r.val k j) j).trans ?_
  · rw [(ld_all2 32 40 x.am q k).trans (congrFun hx.am _)]
    exact am_at m c q k
  · rw [show layerRows (layerAt 0 (by decide) x) = (args m c).layer 0 from l0,
      show layerRows (layerAt 1 (by decide) x) = (args m c).layer 1 from l1]

/-! ## The result array -/

/-- The result array: one row per sequence and place. -/
def result (c : Dev nD) : S32x32x256.Idx → EReal := fun i =>
  Spec.last ((args m c).layer 0) ((args m c).layer 1) ((i 1).val + 3) ((args m c).row ⟨(i 0).val / 4, by have : (i 0).val < 32 := (i 0).isLt; omega⟩ ((i 0).val % 4)) (i 2)

/-- Pieces that agree with one array, read where they cover. -/
theorem canon_eq {s : Shape} (G : s.Idx → EReal) (L : List (View.Piece (Elt Ideal) s .f32)) (hL : ∀ p ∈ L, ∀ x, p.2 x = G (p.1.emb x)) (y : s.Idx)
    (hy : ∃ p ∈ L, y ∈ p.1.set) : View.canon L y = G y := by
  induction L with
  | nil => obtain ⟨p, hp, _⟩ := hy; cases hp
  | cons p L ih =>
    by_cases hm : y ∈ p.1.set
    · obtain ⟨x, rfl⟩ := p.1.exists_idx_of_mem hm
      exact (View.canon_cons_emb p.1 p.2 L x).trans (hL p (List.mem_cons_self ..) x)
    · rw [View.canon_cons_of_not_mem p L hm]
      refine ih (fun q hq => hL q (List.mem_cons_of_mem _ hq)) ?_
      obtain ⟨q, hq, hyq⟩ := hy
      rcases List.mem_cons.mp hq with rfl | hq
      exacts [absurd hyq hm, ⟨q, hq, hyq⟩]

/-- Where point `t`'s output block lies in the result array. -/
theorem out_emb (t : Fin cfg0.N) (y : S2x32x256.Idx) (h : 2 * t.val + (y 0).val < 32) :
    ((cfg0.win 24).blk t).view.emb y = (ix3 ⟨2 * t.val + (y 0).val, h⟩ (y 1) (y 2) : S32x32x256.Idx) := by
  have e0 : win0_24.index t 0 * win0_24.size 0 = 2 * t.val := by
    have all : ∀ t : Fin cfg0.N, win0_24.index t 0 * win0_24.size 0 = 2 * t.val := by decide +kernel
    exact all t
  refine funext fun a => Fin.ext ?_
  match a with
  | ⟨0, _⟩ => exact congrArg₂ (· + ·) e0 (Nat.one_mul _)
  | ⟨1, _⟩ => exact (congrArg (0 + ·) (Nat.one_mul _)).trans (Nat.zero_add _)
  | ⟨2, _⟩ => exact (congrArg (0 + ·) (Nat.one_mul _)).trans (Nat.zero_add _)

theorem point_lt (t : Fin cfg0.N) : t.val < 16 := t.isLt.trans_eq N_0

/-- One stored piece is its part of the result array. -/
theorem piece_eq (c : Dev nD) (hA : (args m c).Real) (t : Fin cfg0.N) {z : Blocks Ideal} (hz : Holds m c t z) (g C ke R : ℕ) (hR : R = 8 * ke) (hke : ke ≤ 40) (hg : g < 2) (hC : 8 * C + 8 ≤ 32)
    (hl : 8 * C + 10 ≤ ke) (x : S1x8x256.Idx) (y : S2x32x256.Idx) (h0 : (y 0).val = g) (h1 : (y 1).val = 8 * C + (x 1).val) (h2 : (y 2).val = (x 2).val) :
    chunkAt g C ke R hR hke hg hC z x = result m c (((cfg0.win 24).blk t).view.emb y) := by
  have ht := point_lt t
  have hb : 2 * t.val + (y 0).val < 32 := by rw [h0]; omega
  rw [out_emb t y hb]
  obtain ⟨a, j, rfl⟩ : ∃ (a : Fin 8) (j : Fin 256), x = ix3 0 a j := ⟨x 1, x 2, funext fun w => by
    fin_cases w
    exacts [Fin.ext (Nat.lt_one_iff.mp (x 0).isLt), rfl, rfl]⟩
  refine (piece_at hA hz g C ke R hR hke hg hC hl ⟨(2 * t.val + g) / 4, by omega⟩ ⟨(2 * t.val + g) % 4, by omega⟩ (by
    show _ = 4 * ((2 * t.val + g) / 4) + (2 * t.val + g) % 4; omega) a j).trans ?_
  unfold result
  have e2 : j = (y 2) := Fin.ext h2.symm
  show Spec.last _ _ (8 * C + a.val + 3) ((args m c).row ⟨(2 * t.val + g) / 4, _⟩ ((2 * t.val + g) % 4)) j
    = Spec.last _ _ ((y 1).val + 3) ((args m c).row ⟨(2 * t.val + (y 0).val) / 4, _⟩ ((2 * t.val + (y 0).val) % 4)) (y 2)
  have e1 : (y 1).val = 8 * C + a.val := h1
  subst h0
  rw [e1, ← e2]

/-- What a run of the body leaves in its output block. -/
theorem outBlock_eq (c : Dev nD) (hA : (args m c).Real) (t : Fin cfg0.N) {z : Blocks Ideal} (hz : Holds m c t z) (y : S2x32x256.Idx) :
    outBlock z y = result m c (((cfg0.win 24).blk t).view.emb y) := by
  unfold outBlock
  refine canon_eq (fun y => result m c (((cfg0.win 24).blk t).view.emb y)) _ (fun p hp x => ?_) y (cover _ _ _ _ _ _ _ _ y)
  simp only [List.mem_cons, List.not_mem_nil, or_false] at hp
  rcases hp with rfl | rfl | rfl | rfl | rfl | rfl | rfl | rfl
  all_goals
    exact piece_eq m c hA t hz _ _ _ _ rfl (by decide) (by decide) (by decide) (by decide) x _
      (congrArg (_ + 1 * ·) (Nat.lt_one_iff.mp (x 0).isLt)) (congrArg (_ + ·) (Nat.one_mul _))
      ((congrArg (0 + ·) (Nat.one_mul _)).trans (Nat.zero_add _))

theorem after_out (c : Dev nD) (t : Fin cfg0.N) : (dats m 0 c).after 24 t = outBlock (blocks m c t) := by unfold dats; rfl

/-- A block that agrees with an array where it lies is that array's block. -/
theorem cut_eq (t : Fin cfg0.N) (B : S2x32x256.Idx → EReal) (G : S32x32x256.Idx → EReal)
    (h : ∀ y : S2x32x256.Idx, B y = G (((cfg0.win 24).blk t).view.emb y)) :
    (cfg0.win 24).cut (grid0.coords t) B = ((cfg0.win 24).blk t).view.read (Elt Ideal) G := funext h

theorem mem_block (t : Fin cfg0.N) (y : S2x32x256.Idx) (i : S32x32x256.Idx) (h : ((cfg0.win 24).blk t).view.emb y = i) :
    i ∈ ((cfg0.win 24).blk t).view.set := by
  subst h
  exact View.emb_mem_set _ _

theorem covered (i : S32x32x256.Idx) : ∃ t : Fin cfg0.N, (cfg0.win 24).flush t = true ∧ i ∈ ((cfg0.win 24).blk t).view.set := by
  have h0 : (i 0).val < 32 := (i 0).isLt
  have hN : cfg0.N = 16 := N_0
  have ht : (i 0).val / 2 < cfg0.N := by omega
  refine ⟨⟨(i 0).val / 2, ht⟩, flush0_24 _, ?_⟩
  have hb : 2 * ((i 0).val / 2) + (i 0).val % 2 < 32 := by omega
  have e : (ix3 (⟨2 * ((i 0).val / 2) + (i 0).val % 2, hb⟩ : Fin 32) (i 1) (i 2) : S32x32x256.Idx) = i := by
    refine funext fun a => ?_
    match a with
    | ⟨0, _⟩ => exact Fin.ext (by show 2 * ((i 0).val / 2) + (i 0).val % 2 = (i 0).val; omega)
    | ⟨1, _⟩ => rfl
    | ⟨2, _⟩ => rfl
  exact mem_block _ (ix3 (⟨(i 0).val % 2, by omega⟩ : Fin 2) (i 1) (i 2)) i ((out_emb _ _ hb).trans e)

/-- The result array after the grid. -/
theorem array_eq (c : Dev nD) (hA : (args m c).Real) : (dats m 0 c).arrAt 24 cfg0.N = result m c :=
  (dats m 0 c).arrAt_eq_of_cover 24 (result m c) (fun t _ => (congrArg ((cfg0.win 24).cut (grid0.coords t)) (after_out m c t)).trans
    (cut_eq t _ _ fun y => outBlock_eq m c hA t (holds m c t) y)) covered

end Cert.KernelIdeal.Own

end
-- ==== Proof.KernelRun.lean ====
module

public import proofs.«01_k».proof.Proof.KernelValue

@[expose] public section

/-! # What the kernel returns -/

noncomputable section

namespace Cert.KernelIdeal.Own

open Idealize.ShloMosaic hiding ix1 ix2 ix3 ix4 ix5 Pointwise.shapeCast_apply
open Idealize.ShloMosaic.ValueIdx Idealize.ShloMosaic.TcCoe
open Idealize.SL.Sem
open Cert.KernelIdeal.Gen Cert.Scale

variable (m : (ℓ : Loc nD τ sig) → Buf (Elt Ideal) ℓ)

/-- The windows' arrays are different ones. -/
theorem arrays_differ : Function.Injective (Pipeline.arrRef spec0) := by decide +kernel

/-- The grid's array, rearranged by the operations after it. -/
theorem rearranged (c : Dev nD) (hA : (args m c).Real) :
    Pipeline.afterTail₀ cfgs (dats m) 0 (V0 m) [hostOps1] c main_v15
      = shapeCast S1024x256 (transpose S8x32x4x256 [0, 2, 1, 3] (shapeCast S8x4x32x256 (result m c) shapeCasts_S32x32x256_S8x4x32x256)
          transposes_S8x4x32x256_S8x32x4x256_0_2_1_3) shapeCasts_S8x32x4x256_S1024x256 := by
  have e : Pipeline.withArrays (cfgs 0).spec c (V0 m c) (fun w => (dats m 0 c).arrAt w (cfgs 0).N) (Proc.devRef .tc main_v12) = result m c :=
    (Pipeline.withArrays_arr spec0 arrays_differ c (V0 m c) (fun w => (dats m 0 c).arrAt w (cfgs 0).N) 24).trans (array_eq m c hA)
  unfold Pipeline.afterTail₀
  rw [tail_eq, e]

/-- Batch `b`'s row at time `t`. -/
theorem returned_at (r) (h : Post m r) (c : Dev nD) (hA : (args m c).Real) (b : Fin 8) (t : Fin 128) (j : Fin 256) :
    r.2.mem ((c.tc : Thread nD τ).loc main_v15) (ix2 (⟨128 * b.val + t.val, by omega⟩ : Fin 1024) j) = (args m c).out b t.val j := by
  rw [(h c).2 main_v15 (Pipeline.mem_restRefs_of main_v15 (by decide) (by decide)), rearranged m c hA, rows_at]
  have e1 : (4 * b.val + t.val % 4) / 4 = b.val := by omega
  have e2 : (4 * b.val + t.val % 4) % 4 = t.val % 4 := by omega
  show Spec.last ((args m c).layer 0) ((args m c).layer 1) (t.val / 4 + 3)
    ((args m c).row ⟨(4 * b.val + t.val % 4) / 4, _⟩ ((4 * b.val + t.val % 4) % 4)) j = _
  simp only [e1, e2]
  rfl

end Cert.KernelIdeal.Own

end
-- ==== Proof.RefStages.lean ====
module

public import proofs.«01_k».proof.Proof.Access
public import proofs.«01_k».proof.Proof.Spec
public import proofs.«01_k».proof.ReferenceIdeal
public import Idealize.ShloMosaic.PureOps.Ideal.Laws

@[expose] public section

/-! # The reference's stages, read at an index

The reference normalizes, projects, scores, weights and feeds forward 1024 sequences of 34 rows at once. Each stage is named
here as a function of arrays, and read row by row in the words of `Cert.Spec`. -/

noncomputable section

namespace Cert.ReferenceIdeal.Own

open Idealize.ShloMosaic hiding ix1 ix2 ix3 ix4 ix5 Pointwise.shapeCast_apply
open Idealize Idealize.ShloMosaic.ValueIdx Cert Cert.ReferenceIdeal Cert.ReferenceIdeal.Facts Cert.ReferenceIdeal.Facts₀ Cert.Spec

variable [Cert.ReferenceIdeal.Facts₀]

/-- A float array. -/
abbrev A (s : Shape) : Type := s.Idx → Ideal .f32

/-- The means along the last axis. -/
def meanA (x : A S1024x34x256) : A S1024x34x1 :=
  Host.divf (broadcastInDim S1024x34x1 ![0, 1] bcast_S1024x34_S1024x34x1_0_1 (Host.reduceAdd x (constant S_ .f32 0x00000000#32) reducesTo_S1024x34x256_S1024x34_d2 h_S_)) (broadcastInDim S1024x34x1 ![] bcast_S_S1024x34x1 (constant S_ .f32 0x43800000#32))

/-- One value per row, along the whole row. -/
def wideA (x : A S1024x34x1) : A S1024x34x256 := broadcastInDim S1024x34x256 ![0, 1, 2] bcast_S1024x34x1_S1024x34x256_0_1_2 x

/-- One vector at every row. -/
def everyA (g : A S256) : A S1024x34x256 :=
  broadcastInDim S1024x34x256 ![0, 1, 2] bcast_S1x1x256_S1024x34x256_0_1_2 (broadcastInDim S1x1x256 ![2] bcast_S256_S1x1x256_2 g)

/-- The rows less their means. -/
def centreA (x : A S1024x34x256) : A S1024x34x256 := subf x (wideA (meanA x))

/-- The roots of the rows' variances. -/
def rootA (x : A S1024x34x256) : A S1024x34x1 :=
  Host.sqrt (addf (meanA (mulf (centreA x) (centreA x))) (broadcastInDim S1024x34x1 ![] bcast_S_S1024x34x1 (constant S_ .f32 0x3727C5AC#32)))

/-- The rows normalized. -/
def lnA (x : A S1024x34x256) (g b : A S256) : A S1024x34x256 :=
  addf (mulf (Host.divf (centreA x) (wideA (rootA x))) (everyA g)) (everyA b)

/-- A linear layer. -/
def linA (x : A S1024x34x256) (w : A S256x256) (b : A S256) : A S1024x34x256 :=
  addf (Host.dotGeneral dot_S1024x34x256_S256x256_S1024x34x256_2_0_01_1_n_n none x w) (everyA b)

/-- The scaled scores, head by head. -/
def scoresA (q k : A S1024x34x256) : A S1024x8x34x34 :=
  Host.divf (Host.dotGeneral dot_S1024x34x8x32_S1024x34x8x32_S1024x8x34x34_3_3_1_1_02_02 none
    (shapeCast _ q shapeCasts_S1024x34x256_S1024x34x8x32) (shapeCast _ k shapeCasts_S1024x34x256_S1024x34x8x32))
    (broadcastInDim S1024x8x34x34 ![] bcast_S_S1024x8x34x34 (Host.sqrt (constant S_ .f32 0x42000000#32)))

/-- The scores with minus infinity where the mask is off. -/
def maskedA (m : IVec S1024x34 1) (s : A S1024x8x34x34) : A S1024x8x34x34 :=
  select (broadcastInDim S1024x8x34x34 ![0, 1, 2, 3] bcast_S1024x1x1x34_S1024x8x34x34_0_1_2_3 (broadcastInDim S1024x1x1x34 ![0, 3] bcast_S1024x34_S1024x1x1x34_0_3 m)) s
    (broadcastInDim S1024x8x34x34 ![] bcast_S_S1024x8x34x34 (id (constant S_ .f32 0xFF800000#32)))

/-- The largest score of each query. -/
def topA (s : A S1024x8x34x34) : A S1024x8x34 :=
  maximumf (broadcastInDim S1024x8x34 ![] bcast_S_S1024x8x34 (constant S_ .f32 0xFF800000#32)) (Host.reduce FloatOps.maximumf s (constant S_ .f32 0xFF800000#32) reducesTo_S1024x8x34x34_S1024x8x34_d3 h_S_)

/-- One value per query, at every key. -/
def acrossA (x : A S1024x8x34) : A S1024x8x34x34 :=
  broadcastInDim S1024x8x34x34 ![0, 1, 2, 3] bcast_S1024x8x34x1_S1024x8x34x34_0_1_2_3 (broadcastInDim S1024x8x34x1 ![0, 1, 2] bcast_S1024x8x34_S1024x8x34x1_0_1_2 x)

/-- The exponentials of the scores less the largest. -/
def expA (s : A S1024x8x34x34) : A S1024x8x34x34 := Host.exp (subf s (acrossA (topA s)))

/-- The weights over their sums. -/
def normA (e : A S1024x8x34x34) : A S1024x8x34x34 :=
  Host.divf e (acrossA (Host.reduceAdd e (constant S_ .f32 0x00000000#32) reducesTo_S1024x8x34x34_S1024x8x34_d3 h_S_))

/-- The values weighted, the heads side by side again. -/
def mixA (v : A S1024x34x256) (p : A S1024x8x34x34) : A S1024x34x256 :=
  shapeCast _ (transpose S1024x34x8x32 [0, 3, 1, 2] (Host.dotGeneral dot_S1024x34x8x32_S1024x8x34x34_S1024x8x32x34_1_3_3_2_02_01 none
    (shapeCast _ v shapeCasts_S1024x34x256_S1024x34x8x32) p) transposes_S1024x8x32x34_S1024x34x8x32_0_3_1_2) shapeCasts_S1024x34x8x32_S1024x34x256

/-- The first feed-forward product. -/
def upA (x : A S1024x34x256) (w : A S256x1024) (c : A S1024) : A S1024x34x1024 :=
  addf (Host.dotGeneral dot_S1024x34x256_S256x1024_S1024x34x1024_2_0_01_1_n_n none x w)
    (broadcastInDim S1024x34x1024 ![0, 1, 2] bcast_S1x1x1024_S1024x34x1024_0_1_2 (broadcastInDim S1x1x1024 ![2] bcast_S1024_S1x1x1024_2 c))

/-- The Gaussian error unit, elementwise. -/
def geluA (h : A S1024x34x1024) : A S1024x34x1024 :=
  mulf (mulf (broadcastInDim S1024x34x1024 ![] bcast_S_S1024x34x1024 (constant S_ .f32 0x3F000000#32)) h)
    (Host.erfc (mulf (Host.negf h) (broadcastInDim S1024x34x1024 ![] bcast_S_S1024x34x1024 (constant S_ .f32 0x3F3504F3#32))))

/-- The second feed-forward product. -/
def downA (h : A S1024x34x1024) (w : A S1024x256) (c : A S256) : A S1024x34x256 :=
  addf (Host.dotGeneral dot_S1024x34x1024_S1024x256_S1024x34x256_2_0_01_1_n_n none h w) (everyA c)

/-! ## The stages at an index -/

/-- Row `(r, k)` of the array. -/
def at3 {c : ℕ} (x : A ⟨3, ![1024, 34, c]⟩) (r : Fin 1024) (k : Fin 34) : Row c := fun j => x (ix3 r k j)

/-- The largest along the last of four axes. -/
theorem maxLast_at (a b c d : ℕ) (q : A ⟨4, ![a, b, c, d]⟩) (w : BitVec 32) (h : (⟨4, ![a, b, c, d]⟩ : Shape).ReducesTo [3] ⟨3, ![a, b, c]⟩) (hu : 0 < S_.numel)
    (i : Fin a) (j : Fin b) (k : Fin c) :
    Host.reduce (FloatOps.maximumf (F := Ideal) (φ := .f32)) q (constant (F := Ideal) S_ .f32 w) h hu (ix3 i j k)
      = (Finset.univ : Finset (Fin d)).fold max (Ideal.ofBits FTy.f32 w) (fun x => q (ix4 i j k x)) := by
  rw [← ix3_eq_valueIdx, Host.reduce_eq_fold, h.fold_fiber_r4_a3]
  simp only [ix4_eq_valueIdx]
  rfl

theorem larger_at {s : Shape} (x y : A s) (i : s.Idx) : maximumf x y i = max (x i) (y i) := rfl
theorem fill_at {t : Shape} (h) (w : BitVec 32) (i : t.Idx) : broadcastInDim t ![] h (constant (F := Ideal) S_ .f32 w) i = Ideal.ofBits FTy.f32 w := rfl

theorem top_at (q : A S1024x8x34x34) (r : Fin 1024) (h : Fin 8) (k : Fin 34) :
    topA q (ix3 r h k) = max (Ideal.ofBits FTy.f32 0xFF800000#32)
      (Finset.fold max (Ideal.ofBits FTy.f32 0xFF800000#32) (fun x => q (ix4 r h k x)) Finset.univ) := by
  unfold topA
  rw [larger_at, fill_at, maxLast_at]

theorem mean_at (x : A S1024x34x256) (r : Fin 1024) (k : Fin 34) (z : Fin 1) : meanA x (ix3 r k z) = mean (at3 x r k) := by
  rw [← ix3_eq_valueIdx]
  pointwise [meanA]
  simp only [ix3_eq_valueIdx]
  rfl

theorem wide_at (x : A S1024x34x1) (r : Fin 1024) (k : Fin 34) (j : Fin 256) : wideA x (ix3 r k j) = x (ix3 r k 0) := by
  rw [← ix3_eq_valueIdx]
  pointwise [wideA]
  simp only [ix3_eq_valueIdx]

theorem every_at (g : A S256) (r : Fin 1024) (k : Fin 34) (j : Fin 256) : everyA g (ix3 r k j) = g (ix1 j) := by
  rw [← ix3_eq_valueIdx]
  pointwise [everyA]
  rfl

theorem centre_at (x : A S1024x34x256) (r : Fin 1024) (k : Fin 34) : at3 (centreA x) r k = centre (at3 x r k) := by
  funext j
  refine congrArg (at3 x r k j - ·) ?_
  rw [wide_at, mean_at]

theorem root_at (x : A S1024x34x256) (r : Fin 1024) (k : Fin 34) (z : Fin 1) : rootA x (ix3 r k z) = Ideal.sqrt (spread (at3 x r k)) := by
  refine congrArg Ideal.sqrt ?_
  refine congrArg (· + Ideal.ofBits .f32 0x3727C5AC#32) ?_
  rw [mean_at]
  refine congrArg mean (funext fun j => ?_)
  exact congrArg₂ (fun u v : EReal => u * v) (congrFun (centre_at x r k) j) (congrFun (centre_at x r k) j)

theorem ln_at (x : A S1024x34x256) (g b : A S256) (r : Fin 1024) (k : Fin 34) :
    at3 (lnA x g b) r k = ln (at3 x r k) (fun j => g (ix1 j)) (fun j => b (ix1 j)) := by
  funext j
  refine congrArg₂ (fun u v : EReal => u + v) (congrArg₂ (fun u v : EReal => u * v) ?_ (every_at g r k j)) (every_at b r k j)
  rw [← div_sqrt _ _ (spread_pos _)]
  refine congrArg₂ Ideal.div (congrFun (centre_at x r k) j) ?_
  rw [wide_at, root_at]

theorem lin_at (x : A S1024x34x256) (w : A S256x256) (b : A S256) (r : Fin 1024) (k : Fin 34) :
    at3 (linA x w b) r k = lin (at3 x r k) (fun i j => w (ix2 i j)) (fun j => b (ix1 j)) := by
  funext j
  unfold at3
  rw [← ix3_eq_valueIdx]
  pointwise [linA, everyA]
  simp only [ix3_eq_valueIdx, ix2_eq_valueIdx]
  rfl

theorem up_at (x : A S1024x34x256) (w : A S256x1024) (b : A S1024) (r : Fin 1024) (k : Fin 34) :
    at3 (upA x w b) r k = lin (at3 x r k) (fun i j => w (ix2 i j)) (fun j => b (ix1 j)) := by
  funext j
  unfold at3
  rw [← ix3_eq_valueIdx]
  pointwise [upA]
  simp only [ix3_eq_valueIdx, ix2_eq_valueIdx]
  rfl

theorem down_at (x : A S1024x34x1024) (w : A S1024x256) (b : A S256) (r : Fin 1024) (k : Fin 34) :
    at3 (downA x w b) r k = lin (at3 x r k) (fun i j => w (ix2 i j)) (fun j => b (ix1 j)) := by
  funext j
  unfold at3
  rw [← ix3_eq_valueIdx]
  pointwise [downA, everyA]
  simp only [ix3_eq_valueIdx, ix2_eq_valueIdx]
  rfl

theorem gelu_at (h : A S1024x34x1024) (r : Fin 1024) (k : Fin 34) (j : Fin 1024) : at3 (geluA h) r k j = gelu (at3 h r k j) := by
  show Ideal.ofBits .f32 0x3F000000#32 * h (ix3 r k j) * Ideal.erfc (-(h (ix3 r k j)) * Ideal.ofBits .f32 0x3F3504F3#32) = _
  rw [EReal.neg_mul, Ideal.erfc_neg]
  rfl

theorem scores_at (q p : A S1024x34x256) (r : Fin 1024) (h : Fin 8) (k j : Fin 34) :
    scoresA q p (ix4 r h k j) = score (at3 q r k) (at3 p r j) h := by
  rw [← ix4_eq_valueIdx]
  pointwise [scoresA]
  simp only [ix3_eq_valueIdx]
  rw [lit32, Ideal.sqrt_coe, if_neg (by norm_num), Ideal.div_coe (Real.sqrt_pos.mpr (by norm_num)).ne', one_div]
  unfold score
  refine congrArg (· * (((Real.sqrt 32)⁻¹ : ℝ) : EReal)) (Finset.sum_congr rfl fun d _ => ?_)
  have e : ∀ hd, (⟨h.val * 32 + d.val, hd⟩ : Fin 256) = col h d := fun _ => Fin.ext (by show h.val * 32 + d.val = 32 * h.val + d.val; omega)
  simp only [e]
  rfl

theorem masked_at (m : IVec S1024x34 1) (s : A S1024x8x34x34) (r : Fin 1024) (h : Fin 8) (k j : Fin 34) :
    maskedA m s (ix4 r h k j) = if m (ix2 r j) = 1#1 then s (ix4 r h k j) else ⊥ := by
  rw [← ix4_eq_valueIdx]
  pointwise [maskedA]
  simp only [ix4_eq_valueIdx, ix2_eq_valueIdx]
  show Scalar.select _ _ (Ideal.ofBits .f32 0xFF800000#32) = _
  rw [litBot]
  rfl

theorem across_at (x : A S1024x8x34) (r : Fin 1024) (h : Fin 8) (k j : Fin 34) : acrossA x (ix4 r h k j) = x (ix3 r h k) := by
  rw [← ix4_eq_valueIdx]
  pointwise [acrossA]
  simp only [ix3_eq_valueIdx]

theorem exp_at (s : A S1024x8x34x34) (r : Fin 1024) (h : Fin 8) (k j : Fin 34) :
    expA s (ix4 r h k j) = Ideal.exp (s (ix4 r h k j) - (Finset.univ : Finset (Fin 34)).fold max ⊥ fun x => s (ix4 r h k x)) := by
  refine congrArg Ideal.exp (congrArg (s (ix4 r h k j) - ·) ?_)
  rw [across_at, top_at, litBot, max_eq_right bot_le]

theorem norm_at (e : A S1024x8x34x34) (r : Fin 1024) (h : Fin 8) (k j : Fin 34) :
    normA e (ix4 r h k j) = Ideal.div (e (ix4 r h k j)) (∑ i, e (ix4 r h k i)) := by
  refine congrArg (Ideal.div (e (ix4 r h k j))) ?_
  rw [across_at, ← ix3_eq_valueIdx]
  pointwise []
  simp only [ix4_eq_valueIdx]

theorem mix_at (v : A S1024x34x256) (p : A S1024x8x34x34) (r : Fin 1024) (k : Fin 34) (i : Fin 256) :
    at3 (mixA v p) r k i = ∑ j, at3 v r j i * p (ix4 r (headOf i) k j) := by
  unfold at3
  rw [← ix3_eq_valueIdx]
  pointwise [mixA]
  simp only [ix4_eq_valueIdx, ix3_eq_valueIdx]
  rfl

end Cert.ReferenceIdeal.Own
end
-- ==== Proof.RefLayer.lean ====
module

public import proofs.«01_k».proof.Proof.RefStages

@[expose] public section

/-! # One layer of the reference, row by row

A layer's rows below the sequence's length depend on the rows below that length only: the mask gives every later key the
weight zero. -/

noncomputable section

namespace Cert.ReferenceIdeal.Own

open Idealize.ShloMosaic hiding ix1 ix2 ix3 ix4 ix5 Pointwise.shapeCast_apply
open Idealize Idealize.ShloMosaic.ValueIdx Cert Cert.ReferenceIdeal Cert.ReferenceIdeal.Facts Cert.ReferenceIdeal.Facts₀ Cert.Spec

variable [Cert.ReferenceIdeal.Facts₀]

/-- One layer's weights, as arrays. -/
structure Weights where
  /-- gain of the first normalization -/
  g1 : A S256
  /-- offset of the first normalization -/
  b1 : A S256
  /-- query weights -/
  wq : A S256x256
  /-- query offset -/
  bq : A S256
  /-- key weights -/
  wk : A S256x256
  /-- key offset -/
  bk : A S256
  /-- value weights -/
  wv : A S256x256
  /-- value offset -/
  bv : A S256
  /-- output weights -/
  wo : A S256x256
  /-- output offset -/
  bo : A S256
  /-- gain of the second normalization -/
  g2 : A S256
  /-- offset of the second normalization -/
  b2 : A S256
  /-- first feed-forward weights -/
  w1 : A S256x1024
  /-- first feed-forward offset -/
  c1 : A S1024
  /-- second feed-forward weights -/
  w2 : A S1024x256
  /-- second feed-forward offset -/
  c2 : A S256

/-- The same weights as rows. -/
def Weights.rows (w : Weights) : Layer where
  g1 j := w.g1 (ix1 j)
  b1 j := w.b1 (ix1 j)
  wq i j := w.wq (ix2 i j)
  bq j := w.bq (ix1 j)
  wk i j := w.wk (ix2 i j)
  bk j := w.bk (ix1 j)
  wv i j := w.wv (ix2 i j)
  bv j := w.bv (ix1 j)
  wo i j := w.wo (ix2 i j)
  bo j := w.bo (ix1 j)
  g2 j := w.g2 (ix1 j)
  b2 j := w.b2 (ix1 j)
  w1 i j := w.w1 (ix2 i j)
  c1 j := w.c1 (ix1 j)
  w2 i j := w.w2 (ix2 i j)
  c2 j := w.c2 (ix1 j)

/-- The attention half. -/
def attendA (m : IVec S1024x34 1) (w : Weights) (x : A S1024x34x256) : A S1024x34x256 :=
  addf x (linA (mixA (linA (lnA x w.g1 w.b1) w.wv w.bv)
    (normA (expA (maskedA m (scoresA (linA (lnA x w.g1 w.b1) w.wq w.bq) (linA (lnA x w.g1 w.b1) w.wk w.bk)))))) w.wo w.bo)

/-- The feed-forward half. -/
def feedA (w : Weights) (x : A S1024x34x256) : A S1024x34x256 :=
  addf x (downA (geluA (upA (lnA x w.g2 w.b2) w.w1 w.c1)) w.w2 w.c2)

theorem feed_at (w : Weights) (x : A S1024x34x256) (r : Fin 1024) (k : Fin 34) :
    at3 (feedA w x) r k = ff w.rows (at3 x r k) := by
  funext j
  show at3 x r k j + at3 (downA _ w.w2 w.c2) r k j = _
  rw [down_at]
  unfold lin ff
  rw [← add_assoc]
  refine congrArg (· + w.rows.c2 j) (congrArg (at3 x r k j + ·) (Finset.sum_congr rfl fun i _ => ?_))
  refine congrArg (· * w.rows.w2 i j) ?_
  rw [gelu_at, up_at, ln_at]
  rfl

/-- Softmax over the unmasked keys, weighting the values. -/
theorem mixed_at (m : IVec S1024x34 1) (q p v : A S1024x34x256) (r : Fin 1024) (k : Fin 34) (n : ℕ) (hn : 0 < n) (hN : n ≤ 34)
    (hm : ∀ j : Fin 34, m (ix2 r j) = 1#1 ↔ j.val < n) (K V : ℕ → Row 256) (hK : ∀ j : Fin 34, j.val < n → at3 p r j = K j)
    (hV : ∀ j : Fin 34, j.val < n → at3 v r j = V j) (hq : ∀ i, Re (at3 q r k i)) (hKR : ∀ j < n, ∀ i, Re (K j i))
    (hVR : ∀ j < n, ∀ i, Re (V j i)) (i : Fin 256) :
    at3 (mixA v (normA (expA (maskedA m (scoresA q p))))) r k i
      = att n (fun j => score (at3 q r k) (K j) (headOf i)) fun j => V j i := by
  let z : Fin 34 → EReal := fun j => maskedA m (scoresA q p) (ix4 r (headOf i) k j)
  have hz : ∀ j : Fin 34, j.val < n → z j = score (at3 q r k) (K j) (headOf i) := fun j hj => by
    show maskedA m (scoresA q p) (ix4 r (headOf i) k j) = _
    rw [masked_at, if_pos ((hm j).mpr hj), scores_at, hK j hj]
  have hb : ∀ j : Fin 34, n ≤ j.val → z j = ⊥ := fun j hj => by
    show maskedA m (scoresA q p) (ix4 r (headOf i) k j) = _
    rw [masked_at, if_neg fun e => absurd ((hm j).mp e) (Nat.not_lt.mpr hj)]
  have hs : ∀ j < n, Re (score (at3 q r k) (K j) (headOf i)) := fun j hj => Re.score hq (hKR j hj) _
  have hM : Re ((Finset.univ : Finset (Fin 34)).fold max ⊥ z) := by
    refine Re.fold_max z ⟨0, by omega⟩ (by rw [hz _ hn]; exact hs 0 hn) fun j => ?_
    by_cases hj : j.val < n
    · rw [hz j hj]; obtain ⟨t, e⟩ := hs j hj; rw [e]; exact EReal.coe_lt_top t
    · rw [hb j (Nat.le_of_not_lt hj)]; exact bot_lt_top
  rw [mix_at]
  refine Eq.trans (Finset.sum_congr rfl fun j _ => ?_)
    (softmax_att n 34 hn hN (fun j => score (at3 q r k) (K j) (headOf i)) (fun j => V j i) hs (fun j hj => hVR j hj i) _ hM z
      (fun j => at3 v r j i) hz hb fun j hj => congrFun (hV j hj) i)
  rw [mul_comm, norm_at, exp_at]
  refine congrArg (fun u : EReal => Ideal.div _ u * at3 v r j i) (Finset.sum_congr rfl fun x _ => ?_)
  rw [exp_at]

/-- The layer's rows below the length. -/
theorem layer_at (m : IVec S1024x34 1) (w : Weights) (x : A S1024x34x256) (r : Fin 1024) (n : ℕ) (hN : n ≤ 34)
    (hm : ∀ j : Fin 34, m (ix2 r j) = 1#1 ↔ j.val < n) (X : ℕ → Row 256) (hX : ∀ j : Fin 34, j.val < n → at3 x r j = X j)
    (hW : w.rows.Real) (hR : ∀ k < n, ∀ j, Re (X k j)) (k : Fin 34) (hk : k.val < n) :
    at3 (feedA w (attendA m w x)) r k = layer w.rows n X k := by
  rw [feed_at]
  unfold layer
  refine congrArg (ff w.rows) (funext fun j => ?_)
  have hln : ∀ j : Fin 34, j.val < n → at3 (lnA x w.g1 w.b1) r j = ln (X j) w.rows.g1 w.rows.b1 := fun j hj => by
    rw [ln_at, hX j hj]; rfl
  have hlnR : ∀ j < n, ∀ i, Re (ln (X j) w.rows.g1 w.rows.b1 i) := fun j hj => Re.ln (hR j hj) hW.g1 hW.b1
  have hq : at3 (linA (lnA x w.g1 w.b1) w.wq w.bq) r k = lin (ln (X k) w.rows.g1 w.rows.b1) w.rows.wq w.rows.bq := by
    rw [lin_at, hln k hk]; rfl
  show at3 x r k j + at3 (linA _ w.wo w.bo) r k j = _
  rw [lin_at, hX k hk]
  unfold lin proj
  rw [← add_assoc]
  refine congrArg (· + w.rows.bo j) (congrArg (X k j + ·) (Finset.sum_congr rfl fun i _ => ?_))
  refine congrArg (· * w.rows.wo i j) ?_
  rw [mixed_at m _ _ _ r k n (Nat.zero_lt_of_lt hk) hN hm (fun j => lin (ln (X j) w.rows.g1 w.rows.b1) w.rows.wk w.rows.bk)
    (fun j => lin (ln (X j) w.rows.g1 w.rows.b1) w.rows.wv w.rows.bv)
    (fun j hj => by rw [lin_at, hln j hj]; rfl) (fun j hj => by rw [lin_at, hln j hj]; rfl)
    (by rw [hq]; exact Re.lin (hlnR k hk) hW.wq hW.bq) (fun j hj => Re.lin (hlnR j hj) hW.wk hW.bk)
    (fun j hj => Re.lin (hlnR j hj) hW.wv hW.bv), hq]
  rfl

end Cert.ReferenceIdeal.Own

end
-- ==== Proof.RefTables.lean ====
module

public import proofs.«01_k».proof.Proof.RefLayer
public import proofs.«01_k».proof.Proof.Gathers
public import proofs.«01_k».proof.Proof.Result

@[expose] public section

/-! # The reference's index tables, mask and embedded sequences, read at an index -/

noncomputable section

namespace Cert.ReferenceIdeal.Own

open Idealize.ShloMosaic hiding ix1 ix2 ix3 ix4 ix5 Pointwise.shapeCast_apply
open Idealize Idealize.ShloMosaic.ValueIdx Cert Cert.ReferenceIdeal Cert.ReferenceIdeal.Facts Cert.ReferenceIdeal.Facts₀ Cert.Spec Cert.Scale

variable [Cert.ReferenceIdeal.Facts₀]

/-! ## The tables -/

/-- The times of each window. -/
theorem times_at (k : Fin 136) (e : Fin 8) : (lit0 (S136x8.rowMajor (ix2 k e))).toInt.toNat = k.val + e.val := by
  have h : ∀ (k : Fin 136) (e : Fin 8), (lit0 ⟨k.val * 8 + e.val, by omega⟩).toInt.toNat = k.val + e.val := by decide +kernel
  rw [← h k e]
  exact congrArg (fun z => (lit0 z).toInt.toNat) (Fin.ext (Shape.rowMajor_val_two _))

/-- The windows of each sequence, where the sequence has one. -/
theorem picks_at (t : Fin 128) (k : Fin 34) :
    k.val < t.val / 4 + 3 → (lit1 (S128x34.rowMajor (ix2 t k))).toInt.toNat = t.val % 4 + 4 * k.val := by
  have h : ∀ (t : Fin 128) (k : Fin 34), k.val < t.val / 4 + 3 → (lit1 ⟨t.val * 34 + k.val, by omega⟩).toInt.toNat = t.val % 4 + 4 * k.val := by
    decide +kernel
  intro hk
  rw [← h t k hk]
  exact congrArg (fun z => (lit1 z).toInt.toNat) (Fin.ext (Shape.rowMajor_val_two _))

/-- The mask: the positions a sequence has. -/
theorem mask_at (t : Fin 128) (k : Fin 34) : lit2 (S128x34.rowMajor (ix2 t k)) = 1#1 ↔ k.val < t.val / 4 + 3 := by
  have h : ∀ (t : Fin 128) (k : Fin 34), lit2 ⟨t.val * 34 + k.val, by omega⟩ = 1#1 ↔ k.val < t.val / 4 + 3 := by
    decide +kernel
  rw [← h t k]
  exact iff_of_eq (congrArg (fun z => lit2 z = 1#1) (Fin.ext (Shape.rowMajor_val_two _)))

/-- The last position of each sequence, counted through all of them. -/
theorem ends_at (t : Fin 128) : (lit3 (S128.rowMajor (ix1 t))).toInt.toNat = 34 * t.val + (t.val / 4 + 2) := by
  have h : ∀ t : Fin 128, (lit3 ⟨t.val, by omega⟩).toInt.toNat = 34 * t.val + (t.val / 4 + 2) := by decide +kernel
  rw [← h t]
  exact congrArg (fun z => (lit3 z).toInt.toNat) (Fin.ext (Shape.rowMajor_val_one _))

/-! ## The embedded sequences -/

/-- The series with its fifteen zeros in front. -/
theorem front_at (x : S8x128x8.Idx → EReal) (b : Fin 8) (i : Fin 143) (c : Fin 8) :
    concatenate S8x143x8 1 [⟨S8x15x8, broadcastInDim S8x15x8 ![] bcast_S_S8x15x8 (constant (F := Ideal) S_ .f32 0x00000000#32)⟩,
      ⟨S8x128x8, x⟩] concatenates_S8x15x8_S8x128x8_S8x143x8_d1 (ix3 b i c) = padded x b i.val c := by
  unfold padded
  split
  next h =>
    exact concatenate_pair_apply_right 1 _ _ concatenates_S8x15x8_S8x128x8_S8x143x8_d1 _ rfl rfl (ix3 b ⟨i.val - 15, h.2⟩ c)
      (by intro z hz; fin_cases z; exacts [rfl, absurd rfl hz, rfl]) (by show i.val - 15 + 15 = i.val; omega)
  next h =>
    have hi : i.val < 15 := by have := i.isLt; omega
    refine (concatenate_pair_apply_left 1 _ _ concatenates_S8x15x8_S8x128x8_S8x143x8_d1 _ rfl (ix3 b ⟨i.val, hi⟩ c)
      (by intro z; fin_cases z <;> rfl)).trans ?_
    exact Ideal.ofBits_zero_f32

/-- The windows, each one row of 64. -/
def tokensA (x : A S8x128x8) : A S8x136x64 :=
  shapeCast _ (Host.gather gather_S8x143x8_S136x8x1_S8x136x8x8_03_1_n_n_1_2_818 (concatenate S8x143x8 1 [⟨S8x15x8, (broadcastInDim S8x15x8 ![] bcast_S_S8x15x8 (constant S_ .f32 0x00000000#32))⟩, ⟨S8x128x8, x⟩] concatenates_S8x15x8_S8x128x8_S8x143x8_d1) (broadcastInDim S136x8x1 ![0, 1] bcast_S136x8_S136x8x1_0_1 (select (constantI S136x8 1 0#1) (addi (fun i => lit0 (S136x8.rowMajor i)) (broadcastInDim S136x8 ![] bcast_S_S136x8 (constantI S_ 32 143#32))) (fun i => lit0 (S136x8.rowMajor i))))) shapeCasts_S8x136x8x8_S8x136x64

theorem token_at (x : A S8x128x8) (b : Fin 8) (k : Fin 136) (e : Fin 64) : tokensA x (ix3 b k e) = window x b k.val e := by
  unfold tokensA
  refine (shapeCast_apply _ _ _ (ix4 b k (⟨e.val / 8, by omega⟩ : Fin 8) (⟨e.val % 8, by omega⟩ : Fin 8)) ?_).trans ?_
  · rw [Shape.rowMajor_val_four, Shape.rowMajor_val_three]
    show ((b.val * 136 + k.val) * 8 + e.val / 8) * 8 + e.val % 8 = (b.val * 136 + k.val) * 64 + e.val
    omega
  · refine (tokens_at _ _ _ _ _ _ (min (k.val + e.val / 8) 142) (by omega) ?_).trans ?_
    · show min (lit0 (S136x8.rowMajor (ix2 k (⟨e.val / 8, by omega⟩ : Fin 8)))).toInt.toNat 142 = _
      rw [times_at]
    · exact front_at _ _ _ _

/-- The windows projected. -/
def projectedA (x : A S8x128x8) (w : A S64x256) (b : A S256) : A S8x136x256 :=
  addf (Host.dotGeneral dot_S8x136x64_S64x256_S8x136x256_2_0_01_1_n_n none (tokensA x) w)
    (broadcastInDim S8x136x256 ![0, 1, 2] bcast_S1x1x256_S8x136x256_0_1_2 (broadcastInDim S1x1x256 ![2] bcast_S256_S1x1x256_2 b))

theorem projected_at (x : A S8x128x8) (w : A S64x256) (b : A S256) (i : Fin 8) (k : Fin 136) (j : Fin 256) :
    projectedA x w b (ix3 i k j) = lin (window x i k.val) (fun e j => w (ix2 e j)) (fun j => b (ix1 j)) j := by
  rw [← ix3_eq_valueIdx]
  pointwise [projectedA]
  simp only [ix3_eq_valueIdx, ix2_eq_valueIdx, token_at]
  rfl

/-- The sequences, with their positions added. -/
def embedA (x : A S8x128x8) (w : A S64x256) (b : A S256) (pos : A S34x256) : A S1024x34x256 :=
  shapeCast _ (addf (Host.gather gather_S8x136x256_S128x34x1_S8x128x34x256_03_1_n_n_1_2_81256 (projectedA x w b) (broadcastInDim S128x34x1 ![0, 1] bcast_S128x34_S128x34x1_0_1 (select (constantI S128x34 1 0#1) (addi (fun i => lit1 (S128x34.rowMajor i)) (broadcastInDim S128x34 ![] bcast_S_S128x34 (constantI S_ 32 136#32))) (fun i => lit1 (S128x34.rowMajor i))))) (broadcastInDim S8x128x34x256 ![0, 1, 2, 3] bcast_S1x1x34x256_S8x128x34x256_0_1_2_3 (broadcastInDim S1x1x34x256 ![2, 3] bcast_S34x256_S1x1x34x256_2_3 pos))) shapeCasts_S8x128x34x256_S1024x34x256

theorem positions_wide_at (pos : A S34x256) (b : Fin 8) (t : Fin 128) (k : Fin 34) (j : Fin 256) :
    broadcastInDim S8x128x34x256 ![0, 1, 2, 3] bcast_S1x1x34x256_S8x128x34x256_0_1_2_3 (broadcastInDim S1x1x34x256 ![2, 3] bcast_S34x256_S1x1x34x256_2_3 pos) (ix4 b t k j)
      = pos (ix2 k j) := by
  rw [← ix4_eq_valueIdx]
  pointwise []
  simp only [ix2_eq_valueIdx]

theorem embed_at (x : A S8x128x8) (w : A S64x256) (p : A S256) (pos : A S34x256) (b : Fin 8) (t : Fin 128) (k : Fin 34)
    (hk : k.val < t.val / 4 + 3) (j : Fin 256) :
    embedA x w p pos (ix3 (⟨128 * b.val + t.val, by omega⟩ : Fin 1024) k j)
      = lin (window x b (t.val % 4 + 4 * k.val)) (fun e j => w (ix2 e j)) (fun j => p (ix1 j)) j + posRow pos k.val j := by
  unfold embedA
  refine (shapeCast_apply _ _ _ (ix4 b t k j) ?_).trans ?_
  · rw [Shape.rowMajor_val_four, Shape.rowMajor_val_three]
    show ((b.val * 128 + t.val) * 34 + k.val) * 256 + j.val = ((128 * b.val + t.val) * 34 + k.val) * 256 + j.val
    omega
  · refine congrArg₂ (fun u v : EReal => u + v) ((sequences_at _ _ _ _ _ _ (t.val % 4 + 4 * k.val) (by omega) ?_).trans
      (projected_at _ _ _ _ _ _)) ((positions_wide_at _ _ _ _ _).trans ?_)
    · show min (lit1 (S128x34.rowMajor (ix2 t k))).toInt.toNat 135 = _
      rw [picks_at t k hk]
      omega
    · unfold posRow
      rw [dif_pos k.isLt]

/-- The mask, one row per sequence. -/
def maskA : IVec S1024x34 1 :=
  shapeCast _ (broadcastInDim S8x128x34 ![0, 1, 2] bcast_S1x128x34_S8x128x34_0_1_2 (broadcastInDim S1x128x34 ![1, 2] bcast_S128x34_S1x128x34_1_2 (fun i => lit2 (S128x34.rowMajor i)))) shapeCasts_S8x128x34_S1024x34

theorem copies_at (x : IVec S128x34 1) (b : Fin 8) (t : Fin 128) (k : Fin 34) :
    broadcastInDim S8x128x34 ![0, 1, 2] bcast_S1x128x34_S8x128x34_0_1_2 (broadcastInDim S1x128x34 ![1, 2] bcast_S128x34_S1x128x34_1_2 x) (ix3 b t k)
      = x (ix2 t k) := by
  rw [← ix3_eq_valueIdx]
  pointwise []
  simp only [ix2_eq_valueIdx]

theorem maskA_at (b : Fin 8) (t : Fin 128) (k : Fin 34) :
    maskA (ix2 (⟨128 * b.val + t.val, by omega⟩ : Fin 1024) k) = 1#1 ↔ k.val < t.val / 4 + 3 := by
  rw [← mask_at t k]
  refine iff_of_eq (congrArg (· = 1#1) ?_)
  unfold maskA
  refine (shapeCast_apply _ _ _ (ix3 b t k) ?_).trans ?_
  · rw [Shape.rowMajor_val_three, Shape.rowMajor_val_two]
    show (b.val * 128 + t.val) * 34 + k.val = (128 * b.val + t.val) * 34 + k.val
    omega
  · exact copies_at _ _ _ _

/-- The last row of each sequence. -/
def lastA (y : A S1024x34x256) : A S1024x256 :=
  shapeCast _ (Host.gather gather_S8x4352x256_S128x1_S8x128x256_02_1_n_n_1_1_81256 (shapeCast _ y shapeCasts_S1024x34x256_S8x4352x256) (broadcastInDim S128x1 ![0] bcast_S128_S128x1_0 (select (constantI S128 1 0#1) (addi (fun i => lit3 (S128.rowMajor i)) (broadcastInDim S128 ![] bcast_S_S128 (constantI S_ 32 4352#32))) (fun i => lit3 (S128.rowMajor i))))) shapeCasts_S8x128x256_S1024x256

theorem lastA_at (y : A S1024x34x256) (b : Fin 8) (t : Fin 128) (j : Fin 256) :
    lastA y (ix2 (⟨128 * b.val + t.val, by omega⟩ : Fin 1024) j)
      = y (ix3 (⟨128 * b.val + t.val, by omega⟩ : Fin 1024) (⟨t.val / 4 + 2, by omega⟩ : Fin 34) j) := by
  unfold lastA
  refine (shapeCast_apply _ _ _ (ix3 b t j) ?_).trans ?_
  · rw [Shape.rowMajor_val_three, Shape.rowMajor_val_two]
    show (b.val * 128 + t.val) * 256 + j.val = (128 * b.val + t.val) * 256 + j.val
    omega
  · refine (lasts_at _ _ _ _ _ (34 * t.val + (t.val / 4 + 2)) (by omega) ?_).trans (shapeCast_apply _ _ _ _ ?_)
    · show min (lit3 (S128.rowMajor (ix1 t))).toInt.toNat 4351 = _
      rw [ends_at]
      omega
    · rw [Shape.rowMajor_val_three, Shape.rowMajor_val_three]
      show ((128 * b.val + t.val) * 34 + (t.val / 4 + 2)) * 256 + j.val = (b.val * 4352 + (34 * t.val + (t.val / 4 + 2))) * 256 + j.val
      omega

/-! ## One layer's slice of the stacked weights -/

theorem slice1_at {N : ℕ} (o : ℕ) (ho : o < 2) (x : A (D2 2 N)) (h : (D2 2 N).Slices ![o, 0] (D2 1 N)) (hc : (D2 1 N).ShapeCasts (D1 N)) (j : Fin N) :
    shapeCast (D1 N) (extractStridedSlice (D2 1 N) ![o, 0] x h) hc (ix1 j) = x (ix2 ⟨o, ho⟩ j) := by
  refine (shapeCast_apply _ _ _ (ix2 0 j) ?_).trans (sl2_at h x 0 j ⟨o, ho⟩ j rfl (Nat.zero_add _).symm)
  rw [Shape.rowMajor_val_one, Shape.rowMajor_val_two]
  show 0 * N + j.val = j.val
  omega

theorem slice2_at {M N : ℕ} (o : ℕ) (ho : o < 2) (x : A (D3 2 M N)) (h : (D3 2 M N).Slices ![o, 0, 0] (D3 1 M N)) (hc : (D3 1 M N).ShapeCasts (D2 M N))
    (i : Fin M) (j : Fin N) :
    shapeCast (D2 M N) (extractStridedSlice (D3 1 M N) ![o, 0, 0] x h) hc (ix2 i j) = x (ix3 ⟨o, ho⟩ i j) := by
  refine (shapeCast_1ab_ab_apply _ _ i j).trans (extractStridedSlice_apply _ _ _ _ _ fun ax => match ax with
    | ⟨0, _⟩ => rfl | ⟨1, _⟩ => (Nat.zero_add _).symm | ⟨2, _⟩ => (Nat.zero_add _).symm)

end Cert.ReferenceIdeal.Own

end
-- ==== Proof.RefResult.lean ====
module

public import proofs.«01_k».proof.Proof.RefTables
public import proofs.«01_k».proof.Proof.Gen.ReferenceIdeal.Run

@[expose] public section

/-! # What the reference returns

The run's composed terms are the stages of `RefStages` and `RefTables`; at batch `b` and time `t` the result is both layers over
the sequence's positions, at the last of them. -/

noncomputable section

namespace Cert.ReferenceIdeal.Own

open Idealize.ShloMosaic hiding ix1 ix2 ix3 ix4 ix5 Pointwise.shapeCast_apply
open Idealize Idealize.ShloMosaic.ValueIdx Idealize.ShloMosaic.StableHlo Idealize.SL.Sem
open Cert Cert.ReferenceIdeal Cert.ReferenceIdeal.Gen Cert.ReferenceIdeal.Value Cert.Spec Cert.Scale

/-- The reference's arguments. -/
def given (V : Valuation τ sig (Elt Ideal)) : Args where
  x := V (Proc.devRef .tc main_arg0)
  wp := V (Proc.devRef .tc main_arg1)
  bp := V (Proc.devRef .tc main_arg2)
  pos := V (Proc.devRef .tc main_arg3)
  g1 := V (Proc.devRef .tc main_arg4)
  b1 := V (Proc.devRef .tc main_arg5)
  wq := V (Proc.devRef .tc main_arg6)
  bq := V (Proc.devRef .tc main_arg7)
  wk := V (Proc.devRef .tc main_arg8)
  bk := V (Proc.devRef .tc main_arg9)
  wv := V (Proc.devRef .tc main_arg10)
  bv := V (Proc.devRef .tc main_arg11)
  wo := V (Proc.devRef .tc main_arg12)
  bo := V (Proc.devRef .tc main_arg13)
  g2 := V (Proc.devRef .tc main_arg14)
  b2 := V (Proc.devRef .tc main_arg15)
  w1 := V (Proc.devRef .tc main_arg16)
  c1 := V (Proc.devRef .tc main_arg17)
  w2 := V (Proc.devRef .tc main_arg18)
  c2 := V (Proc.devRef .tc main_arg19)

/-- The first layer's weights. -/
def weights0 (V : Valuation τ sig (Elt Ideal)) : Weights where
  g1 := shapeCast _ (extractStridedSlice S1x256 ![0, 0] (V (Proc.devRef .tc main_arg4)) slices_S2x256_S1x256_0_0) shapeCasts_S1x256_S256
  b1 := shapeCast _ (extractStridedSlice S1x256 ![0, 0] (V (Proc.devRef .tc main_arg5)) slices_S2x256_S1x256_0_0) shapeCasts_S1x256_S256
  wq := shapeCast _ (extractStridedSlice S1x256x256 ![0, 0, 0] (V (Proc.devRef .tc main_arg6)) slices_S2x256x256_S1x256x256_0_0_0) shapeCasts_S1x256x256_S256x256
  bq := shapeCast _ (extractStridedSlice S1x256 ![0, 0] (V (Proc.devRef .tc main_arg7)) slices_S2x256_S1x256_0_0) shapeCasts_S1x256_S256
  wk := shapeCast _ (extractStridedSlice S1x256x256 ![0, 0, 0] (V (Proc.devRef .tc main_arg8)) slices_S2x256x256_S1x256x256_0_0_0) shapeCasts_S1x256x256_S256x256
  bk := shapeCast _ (extractStridedSlice S1x256 ![0, 0] (V (Proc.devRef .tc main_arg9)) slices_S2x256_S1x256_0_0) shapeCasts_S1x256_S256
  wv := shapeCast _ (extractStridedSlice S1x256x256 ![0, 0, 0] (V (Proc.devRef .tc main_arg10)) slices_S2x256x256_S1x256x256_0_0_0) shapeCasts_S1x256x256_S256x256
  bv := shapeCast _ (extractStridedSlice S1x256 ![0, 0] (V (Proc.devRef .tc main_arg11)) slices_S2x256_S1x256_0_0) shapeCasts_S1x256_S256
  wo := shapeCast _ (extractStridedSlice S1x256x256 ![0, 0, 0] (V (Proc.devRef .tc main_arg12)) slices_S2x256x256_S1x256x256_0_0_0) shapeCasts_S1x256x256_S256x256
  bo := shapeCast _ (extractStridedSlice S1x256 ![0, 0] (V (Proc.devRef .tc main_arg13)) slices_S2x256_S1x256_0_0) shapeCasts_S1x256_S256
  g2 := shapeCast _ (extractStridedSlice S1x256 ![0, 0] (V (Proc.devRef .tc main_arg14)) slices_S2x256_S1x256_0_0) shapeCasts_S1x256_S256
  b2 := shapeCast _ (extractStridedSlice S1x256 ![0, 0] (V (Proc.devRef .tc main_arg15)) slices_S2x256_S1x256_0_0) shapeCasts_S1x256_S256
  w1 := shapeCast _ (extractStridedSlice S1x256x1024 ![0, 0, 0] (V (Proc.devRef .tc main_arg16)) slices_S2x256x1024_S1x256x1024_0_0_0) shapeCasts_S1x256x1024_S256x1024
  c1 := shapeCast _ (extractStridedSlice S1x1024 ![0, 0] (V (Proc.devRef .tc main_arg17)) slices_S2x1024_S1x1024_0_0) shapeCasts_S1x1024_S1024
  w2 := shapeCast _ (extractStridedSlice S1x1024x256 ![0, 0, 0] (V (Proc.devRef .tc main_arg18)) slices_S2x1024x256_S1x1024x256_0_0_0) shapeCasts_S1x1024x256_S1024x256
  c2 := shapeCast _ (extractStridedSlice S1x256 ![0, 0] (V (Proc.devRef .tc main_arg19)) slices_S2x256_S1x256_0_0) shapeCasts_S1x256_S256

/-- The second layer's weights. -/
def weights1 (V : Valuation τ sig (Elt Ideal)) : Weights where
  g1 := shapeCast _ (extractStridedSlice S1x256 ![1, 0] (V (Proc.devRef .tc main_arg4)) slices_S2x256_S1x256_1_0) shapeCasts_S1x256_S256
  b1 := shapeCast _ (extractStridedSlice S1x256 ![1, 0] (V (Proc.devRef .tc main_arg5)) slices_S2x256_S1x256_1_0) shapeCasts_S1x256_S256
  wq := shapeCast _ (extractStridedSlice S1x256x256 ![1, 0, 0] (V (Proc.devRef .tc main_arg6)) slices_S2x256x256_S1x256x256_1_0_0) shapeCasts_S1x256x256_S256x256
  bq := shapeCast _ (extractStridedSlice S1x256 ![1, 0] (V (Proc.devRef .tc main_arg7)) slices_S2x256_S1x256_1_0) shapeCasts_S1x256_S256
  wk := shapeCast _ (extractStridedSlice S1x256x256 ![1, 0, 0] (V (Proc.devRef .tc main_arg8)) slices_S2x256x256_S1x256x256_1_0_0) shapeCasts_S1x256x256_S256x256
  bk := shapeCast _ (extractStridedSlice S1x256 ![1, 0] (V (Proc.devRef .tc main_arg9)) slices_S2x256_S1x256_1_0) shapeCasts_S1x256_S256
  wv := shapeCast _ (extractStridedSlice S1x256x256 ![1, 0, 0] (V (Proc.devRef .tc main_arg10)) slices_S2x256x256_S1x256x256_1_0_0) shapeCasts_S1x256x256_S256x256
  bv := shapeCast _ (extractStridedSlice S1x256 ![1, 0] (V (Proc.devRef .tc main_arg11)) slices_S2x256_S1x256_1_0) shapeCasts_S1x256_S256
  wo := shapeCast _ (extractStridedSlice S1x256x256 ![1, 0, 0] (V (Proc.devRef .tc main_arg12)) slices_S2x256x256_S1x256x256_1_0_0) shapeCasts_S1x256x256_S256x256
  bo := shapeCast _ (extractStridedSlice S1x256 ![1, 0] (V (Proc.devRef .tc main_arg13)) slices_S2x256_S1x256_1_0) shapeCasts_S1x256_S256
  g2 := shapeCast _ (extractStridedSlice S1x256 ![1, 0] (V (Proc.devRef .tc main_arg14)) slices_S2x256_S1x256_1_0) shapeCasts_S1x256_S256
  b2 := shapeCast _ (extractStridedSlice S1x256 ![1, 0] (V (Proc.devRef .tc main_arg15)) slices_S2x256_S1x256_1_0) shapeCasts_S1x256_S256
  w1 := shapeCast _ (extractStridedSlice S1x256x1024 ![1, 0, 0] (V (Proc.devRef .tc main_arg16)) slices_S2x256x1024_S1x256x1024_1_0_0) shapeCasts_S1x256x1024_S256x1024
  c1 := shapeCast _ (extractStridedSlice S1x1024 ![1, 0] (V (Proc.devRef .tc main_arg17)) slices_S2x1024_S1x1024_1_0) shapeCasts_S1x1024_S1024
  w2 := shapeCast _ (extractStridedSlice S1x1024x256 ![1, 0, 0] (V (Proc.devRef .tc main_arg18)) slices_S2x1024x256_S1x1024x256_1_0_0) shapeCasts_S1x1024x256_S1024x256
  c2 := shapeCast _ (extractStridedSlice S1x256 ![1, 0] (V (Proc.devRef .tc main_arg19)) slices_S2x256_S1x256_1_0) shapeCasts_S1x256_S256

/-- Rows equal entry by entry are equal layers. -/
theorem layer_ext {L L' : Layer} (g1 : ∀ j, L.g1 j = L'.g1 j) (b1 : ∀ j, L.b1 j = L'.b1 j) (wq : ∀ i j, L.wq i j = L'.wq i j) (bq : ∀ j, L.bq j = L'.bq j) (wk : ∀ i j, L.wk i j = L'.wk i j) (bk : ∀ j, L.bk j = L'.bk j) (wv : ∀ i j, L.wv i j = L'.wv i j) (bv : ∀ j, L.bv j = L'.bv j) (wo : ∀ i j, L.wo i j = L'.wo i j) (bo : ∀ j, L.bo j = L'.bo j) (g2 : ∀ j, L.g2 j = L'.g2 j) (b2 : ∀ j, L.b2 j = L'.b2 j) (w1 : ∀ i j, L.w1 i j = L'.w1 i j) (c1 : ∀ j, L.c1 j = L'.c1 j) (w2 : ∀ i j, L.w2 i j = L'.w2 i j) (c2 : ∀ j, L.c2 j = L'.c2 j) : L = L' := by
  obtain ⟨⟩ := L
  obtain ⟨⟩ := L'
  congr
  all_goals first | (funext i j; solve_by_elim) | (funext j; solve_by_elim)

theorem weights0_rows (V : Valuation τ sig (Elt Ideal)) : (weights0 V).rows = (given V).layer 0 :=
  layer_ext
    (fun j => slice1_at 0 (by decide) _ slices_S2x256_S1x256_0_0 shapeCasts_S1x256_S256 j)
    (fun j => slice1_at 0 (by decide) _ slices_S2x256_S1x256_0_0 shapeCasts_S1x256_S256 j)
    (fun i j => slice2_at 0 (by decide) _ slices_S2x256x256_S1x256x256_0_0_0 shapeCasts_S1x256x256_S256x256 i j)
    (fun j => slice1_at 0 (by decide) _ slices_S2x256_S1x256_0_0 shapeCasts_S1x256_S256 j)
    (fun i j => slice2_at 0 (by decide) _ slices_S2x256x256_S1x256x256_0_0_0 shapeCasts_S1x256x256_S256x256 i j)
    (fun j => slice1_at 0 (by decide) _ slices_S2x256_S1x256_0_0 shapeCasts_S1x256_S256 j)
    (fun i j => slice2_at 0 (by decide) _ slices_S2x256x256_S1x256x256_0_0_0 shapeCasts_S1x256x256_S256x256 i j)
    (fun j => slice1_at 0 (by decide) _ slices_S2x256_S1x256_0_0 shapeCasts_S1x256_S256 j)
    (fun i j => slice2_at 0 (by decide) _ slices_S2x256x256_S1x256x256_0_0_0 shapeCasts_S1x256x256_S256x256 i j)
    (fun j => slice1_at 0 (by decide) _ slices_S2x256_S1x256_0_0 shapeCasts_S1x256_S256 j)
    (fun j => slice1_at 0 (by decide) _ slices_S2x256_S1x256_0_0 shapeCasts_S1x256_S256 j)
    (fun j => slice1_at 0 (by decide) _ slices_S2x256_S1x256_0_0 shapeCasts_S1x256_S256 j)
    (fun i j => slice2_at 0 (by decide) _ slices_S2x256x1024_S1x256x1024_0_0_0 shapeCasts_S1x256x1024_S256x1024 i j)
    (fun j => slice1_at 0 (by decide) _ slices_S2x1024_S1x1024_0_0 shapeCasts_S1x1024_S1024 j)
    (fun i j => slice2_at 0 (by decide) _ slices_S2x1024x256_S1x1024x256_0_0_0 shapeCasts_S1x1024x256_S1024x256 i j)
    (fun j => slice1_at 0 (by decide) _ slices_S2x256_S1x256_0_0 shapeCasts_S1x256_S256 j)

theorem weights1_rows (V : Valuation τ sig (Elt Ideal)) : (weights1 V).rows = (given V).layer 1 :=
  layer_ext
    (fun j => slice1_at 1 (by decide) _ slices_S2x256_S1x256_1_0 shapeCasts_S1x256_S256 j)
    (fun j => slice1_at 1 (by decide) _ slices_S2x256_S1x256_1_0 shapeCasts_S1x256_S256 j)
    (fun i j => slice2_at 1 (by decide) _ slices_S2x256x256_S1x256x256_1_0_0 shapeCasts_S1x256x256_S256x256 i j)
    (fun j => slice1_at 1 (by decide) _ slices_S2x256_S1x256_1_0 shapeCasts_S1x256_S256 j)
    (fun i j => slice2_at 1 (by decide) _ slices_S2x256x256_S1x256x256_1_0_0 shapeCasts_S1x256x256_S256x256 i j)
    (fun j => slice1_at 1 (by decide) _ slices_S2x256_S1x256_1_0 shapeCasts_S1x256_S256 j)
    (fun i j => slice2_at 1 (by decide) _ slices_S2x256x256_S1x256x256_1_0_0 shapeCasts_S1x256x256_S256x256 i j)
    (fun j => slice1_at 1 (by decide) _ slices_S2x256_S1x256_1_0 shapeCasts_S1x256_S256 j)
    (fun i j => slice2_at 1 (by decide) _ slices_S2x256x256_S1x256x256_1_0_0 shapeCasts_S1x256x256_S256x256 i j)
    (fun j => slice1_at 1 (by decide) _ slices_S2x256_S1x256_1_0 shapeCasts_S1x256_S256 j)
    (fun j => slice1_at 1 (by decide) _ slices_S2x256_S1x256_1_0 shapeCasts_S1x256_S256 j)
    (fun j => slice1_at 1 (by decide) _ slices_S2x256_S1x256_1_0 shapeCasts_S1x256_S256 j)
    (fun i j => slice2_at 1 (by decide) _ slices_S2x256x1024_S1x256x1024_1_0_0 shapeCasts_S1x256x1024_S256x1024 i j)
    (fun j => slice1_at 1 (by decide) _ slices_S2x1024_S1x1024_1_0 shapeCasts_S1x1024_S1024 j)
    (fun i j => slice2_at 1 (by decide) _ slices_S2x1024x256_S1x1024x256_1_0_0 shapeCasts_S1x1024x256_S1024x256 i j)
    (fun j => slice1_at 1 (by decide) _ slices_S2x256_S1x256_1_0 shapeCasts_S1x256_S256 j)

/-! ## The run's terms are the stages -/

section Terms
variable (V : Valuation τ sig (Elt Ideal))

theorem embedded_eq : res_main_v21 V = embedA (given V).x (given V).wp (given V).bp (given V).pos := rfl

theorem mask_eq : res_main_v23 V = maskA := rfl

theorem norm_eq0 : res_main_v51 V = lnA (res_main_v21 V) (weights0 V).g1 (weights0 V).b1 := rfl

theorem scores_eq0 : res_main_v84 V = maskedA (res_main_v23 V)
    (scoresA (linA (res_main_v51 V) (weights0 V).wq (weights0 V).bq) (linA (res_main_v51 V) (weights0 V).wk (weights0 V).bk)) := rfl

theorem exp_eq0 : res_main_v91 V = expA (res_main_v84 V) := rfl

theorem attend_step0 : res_main_v107 V = addf (res_main_v21 V)
    (linA (mixA (linA (res_main_v51 V) (weights0 V).wv (weights0 V).bv) (normA (res_main_v91 V))) (weights0 V).wo (weights0 V).bo) := rfl

theorem attend_eq0 : res_main_v107 V = attendA maskA (weights0 V) (res_main_v21 V) := by
  rw [attend_step0, exp_eq0, scores_eq0, norm_eq0, mask_eq]
  rfl

theorem up_eq0 : res_main_v143 V = upA (lnA (res_main_v107 V) (weights0 V).g2 (weights0 V).b2) (weights0 V).w1 (weights0 V).c1 := rfl

theorem first_step : res_main_v159 V = addf (res_main_v107 V) (downA (geluA (res_main_v143 V)) (weights0 V).w2 (weights0 V).c2) := rfl

theorem first_eq : res_main_v159 V = feedA (weights0 V) (attendA maskA (weights0 V) (res_main_v21 V)) := by
  rw [first_step, up_eq0, attend_eq0]
  rfl

theorem norm_eq1 : res_main_v187 V = lnA (res_main_v159 V) (weights1 V).g1 (weights1 V).b1 := rfl

theorem scores_eq1 : res_main_v220 V = maskedA (res_main_v23 V)
    (scoresA (linA (res_main_v187 V) (weights1 V).wq (weights1 V).bq) (linA (res_main_v187 V) (weights1 V).wk (weights1 V).bk)) := rfl

theorem exp_eq1 : res_main_v227 V = expA (res_main_v220 V) := rfl

theorem attend_step1 : res_main_v243 V = addf (res_main_v159 V)
    (linA (mixA (linA (res_main_v187 V) (weights1 V).wv (weights1 V).bv) (normA (res_main_v227 V))) (weights1 V).wo (weights1 V).bo) := rfl

theorem attend_eq1 : res_main_v243 V = attendA maskA (weights1 V) (res_main_v159 V) := by
  rw [attend_step1, exp_eq1, scores_eq1, norm_eq1, mask_eq]
  rfl

theorem up_eq1 : res_main_v279 V = upA (lnA (res_main_v243 V) (weights1 V).g2 (weights1 V).b2) (weights1 V).w1 (weights1 V).c1 := rfl

/-- Both layers over the embedded sequences, at each one's last row. -/
def returned : A S1024x256 :=
  lastA (feedA (weights1 V) (attendA maskA (weights1 V) (feedA (weights0 V) (attendA maskA (weights0 V)
    (embedA (given V).x (given V).wp (given V).bp (given V).pos)))))

theorem returned_eq : lastA (addf (res_main_v243 V) (downA (geluA (res_main_v279 V)) (weights1 V).w2 (weights1 V).c2)) = returned V := by
  rw [up_eq1, attend_eq1, first_eq, embedded_eq]
  rfl

theorem returned_at (hA : (given V).Real) (b : Fin 8) (t : Fin 128) (j : Fin 256) :
    returned V (ix2 (⟨128 * b.val + t.val, by omega⟩ : Fin 1024) j) = (given V).out b t.val j := by
  unfold returned
  rw [lastA_at]
  have hN : t.val / 4 + 3 ≤ 34 := by omega
  have hR0 : (weights0 V).rows.Real := by rw [weights0_rows]; exact hA.layer 0
  have hR1 : (weights1 V).rows.Real := by rw [weights1_rows]; exact hA.layer 1
  have hX : ∀ k : Fin 34, k.val < t.val / 4 + 3 → at3 (embedA (given V).x (given V).wp (given V).bp (given V).pos)
      (⟨128 * b.val + t.val, by omega⟩ : Fin 1024) k = (given V).row b (t.val % 4) k.val := fun k hk =>
    funext fun i => embed_at _ _ _ _ b t k hk i
  have hX1 := layer_at maskA (weights0 V) _ _ _ hN (maskA_at b t) _ hX hR0 fun k _ => hA.row b _ k
  have hX2 := layer_at maskA (weights1 V) _ _ _ hN (maskA_at b t) (layer (weights0 V).rows (t.val / 4 + 3) ((given V).row b (t.val % 4)))
    hX1 hR1 (fun k hk => Re.layer hR0 (fun k' _ => hA.row b _ k') k hk) ⟨t.val / 4 + 2, by omega⟩ (by show t.val / 4 + 2 < _; omega)
  refine (congrFun hX2 j).trans ?_
  rw [weights0_rows, weights1_rows]
  rfl

end Terms

/-- The reference's run: its result, its arguments unchanged. -/
theorem run_returned (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v302) = returned (launchContents m c) :=
  (θ_run _ _ _).mono (fun _ h c => (h c).1.trans (returned_eq (launchContents m c))) (Value.run (F := Ideal) m ρ)

end Cert.ReferenceIdeal.Own

end
-- ==== Proof.Finite.lean ====
module

public import proofs.«01_k».proof.Pre_finite_inputs
public import proofs.«01_k».proof.Proof.Result
public import Idealize.ShloMosaic.Lib.Affine
public import Idealize.ShloMosaic.PureOps.Ideal.Laws

@[expose] public section

/-! # The precondition, read: every argument is real -/

noncomputable section

namespace Cert.Pre_finite_inputs.Own

open Idealize.ShloMosaic hiding ix1 ix2 ix3 ix4 ix5
open Cert.Pre_finite_inputs Cert.Spec

/-- The predicate's shape relations. -/
theorem facts : Cert.Pre_finite_inputs.Facts where
  bcast_S_S8x128x8 := by decide
  reducesTo_S8x128x8_S_d0_1_2 := by decide
  h_S_ := by decide
  bcast_S_S64x256 := by decide
  reducesTo_S64x256_S_d0_1 := by decide
  bcast_S_S256 := by decide
  reducesTo_S256_S_d0 := by decide
  bcast_S_S34x256 := by decide
  reducesTo_S34x256_S_d0_1 := by decide
  bcast_S_S2x256 := by decide
  reducesTo_S2x256_S_d0_1 := by decide
  bcast_S_S2x256x256 := by decide
  reducesTo_S2x256x256_S_d0_1_2 := by decide
  bcast_S_S2x256x1024 := by decide
  reducesTo_S2x256x1024_S_d0_1_2 := by decide
  bcast_S_S2x1024 := by decide
  reducesTo_S2x1024_S_d0_1 := by decide
  bcast_S_S2x1024x256 := by decide
  reducesTo_S2x1024x256_S_d0_1_2 := by decide

/-- A conjunction over a set holds of each member. -/
theorem fold_and {ι : Type} (S : Finset ι) (f : ι → BitVec 1) (b : BitVec 1) (h : S.fold IntOp.andi b f = 1#1) : ∀ i ∈ S, f i = 1#1 := by
  classical
  induction S using Finset.induction_on with
  | empty => intro i hi; simp at hi
  | insert a S ha ih =>
    rw [Finset.fold_insert ha] at h
    obtain ⟨h1, h2⟩ := (by revert h; generalize f a = p; generalize S.fold IntOp.andi b f = q; revert p q; decide :
      f a = 1#1 ∧ S.fold IntOp.andi b f = 1#1)
    intro i hi
    rcases Finset.mem_insert.mp hi with rfl | hi
    exacts [h1, ih h2 i hi]

/-- The literal the entries are compared with is plus infinity. -/
theorem litTop : Ideal.ofBits .f32 0x7F800000#32 = ⊤ := by
  simp [Ideal.ofBits, Ideal.ieee]

/-- One array's test: every entry's size is below plus infinity. -/
def test {s : Shape} {axes : List (Fin s.rank)} (hb : S_.BroadcastsInDim s (![] : Fin 0 → Fin s.rank)) (hr : s.ReducesTo axes S_) (hu : 0 < S_.numel)
    (x : FVec Ideal s .f32) : IVec S_ 1 :=
  Host.reduce IntOp.andi (cmpf .olt (Host.absf x) (broadcastInDim s ![] hb (constant S_ .f32 0x7F800000#32))) (constantI S_ 1 1#1) hr hu

theorem test_real {s : Shape} {axes : List (Fin s.rank)} (hb hr hu) (x : FVec Ideal s .f32) (h : test (axes := axes) hb hr hu x ix0 = 1#1) (i : s.Idx) :
    Re (x i) := by
  unfold test at h
  rw [Host.reduce_eq_fold] at h
  have hi := fold_and _ _ _ h i (Finset.mem_filter.mpr ⟨Finset.mem_univ i, funext fun z => z.elim0⟩)
  have hlt : max (x i : EReal) (-(x i)) < Ideal.ofBits .f32 0x7F800000#32 := by
    by_contra hn
    have e : cmpf .olt (Host.absf x) (broadcastInDim s ![] hb (constant S_ .f32 0x7F800000#32)) i = 0#1 := by
      show Ideal.cmp .olt (max (x i : EReal) (-(x i))) (Ideal.ofBits .f32 0x7F800000#32) = _
      simp [Ideal.cmp, hn]
    rw [e] at hi
    exact absurd hi (by decide)
  rw [litTop] at hlt
  refine Re.of_lt ?_ (lt_of_le_of_lt (le_max_left _ _) hlt)
  have h2 := lt_of_le_of_lt (le_max_right (x i : EReal) (-(x i))) hlt
  rw [bot_lt_iff_ne_bot]
  intro e
  rw [e, EReal.neg_bot] at h2
  exact absurd h2 (lt_irrefl _)

/-- Both hold when their conjunction does. -/
theorem both {x y : IVec S_ 1} (h : andi x y ix0 = 1#1) : x ix0 = 1#1 ∧ y ix0 = 1#1 := by
  revert h
  show IntOp.andi (x ix0) (y ix0) = 1#1 → _
  generalize x ix0 = p
  generalize y ix0 = q
  revert p q
  decide

section
variable [Cert.Pre_finite_inputs.Facts]
open Facts

/-- The predicate is the conjunction of the twenty tests. -/
theorem fn_eq (A : Args) : fn (F := Ideal) A.x A.wp A.bp A.pos A.g1 A.b1 A.wq A.bq A.wk A.bk A.wv A.bv A.wo A.bo A.g2 A.b2 A.w1 A.c1 A.w2 A.c2
    = (andi (andi (andi (andi (andi (andi (andi (andi (andi (andi (andi (andi (andi (andi (andi (andi (andi (andi (andi (test bcast_S_S8x128x8 reducesTo_S8x128x8_S_d0_1_2 h_S_ A.x)
      (test bcast_S_S64x256 reducesTo_S64x256_S_d0_1 h_S_ A.wp))
      (test bcast_S_S256 reducesTo_S256_S_d0 h_S_ A.bp))
      (test bcast_S_S34x256 reducesTo_S34x256_S_d0_1 h_S_ A.pos))
      (test bcast_S_S2x256 reducesTo_S2x256_S_d0_1 h_S_ A.g1))
      (test bcast_S_S2x256 reducesTo_S2x256_S_d0_1 h_S_ A.b1))
      (test bcast_S_S2x256x256 reducesTo_S2x256x256_S_d0_1_2 h_S_ A.wq))
      (test bcast_S_S2x256 reducesTo_S2x256_S_d0_1 h_S_ A.bq))
      (test bcast_S_S2x256x256 reducesTo_S2x256x256_S_d0_1_2 h_S_ A.wk))
      (test bcast_S_S2x256 reducesTo_S2x256_S_d0_1 h_S_ A.bk))
      (test bcast_S_S2x256x256 reducesTo_S2x256x256_S_d0_1_2 h_S_ A.wv))
      (test bcast_S_S2x256 reducesTo_S2x256_S_d0_1 h_S_ A.bv))
      (test bcast_S_S2x256x256 reducesTo_S2x256x256_S_d0_1_2 h_S_ A.wo))
      (test bcast_S_S2x256 reducesTo_S2x256_S_d0_1 h_S_ A.bo))
      (test bcast_S_S2x256 reducesTo_S2x256_S_d0_1 h_S_ A.g2))
      (test bcast_S_S2x256 reducesTo_S2x256_S_d0_1 h_S_ A.b2))
      (test bcast_S_S2x256x1024 reducesTo_S2x256x1024_S_d0_1_2 h_S_ A.w1))
      (test bcast_S_S2x1024 reducesTo_S2x1024_S_d0_1 h_S_ A.c1))
      (test bcast_S_S2x1024x256 reducesTo_S2x1024x256_S_d0_1_2 h_S_ A.w2))
      (test bcast_S_S2x256 reducesTo_S2x256_S_d0_1 h_S_ A.c2)) := rfl

/-- Where the predicate holds every argument is real. -/
theorem real (A : Args) (h : fn (F := Ideal) A.x A.wp A.bp A.pos A.g1 A.b1 A.wq A.bq A.wk A.bk A.wv A.bv A.wo A.bo A.g2 A.b2 A.w1 A.c1 A.w2 A.c2 = fun _ => 1#1) : A.Real := by
  have h19 := congrFun ((fn_eq A).symm.trans h) ix0
  obtain ⟨h18, t19⟩ := both h19
  obtain ⟨h17, t18⟩ := both h18
  obtain ⟨h16, t17⟩ := both h17
  obtain ⟨h15, t16⟩ := both h16
  obtain ⟨h14, t15⟩ := both h15
  obtain ⟨h13, t14⟩ := both h14
  obtain ⟨h12, t13⟩ := both h13
  obtain ⟨h11, t12⟩ := both h12
  obtain ⟨h10, t11⟩ := both h11
  obtain ⟨h9, t10⟩ := both h10
  obtain ⟨h8, t9⟩ := both h9
  obtain ⟨h7, t8⟩ := both h8
  obtain ⟨h6, t7⟩ := both h7
  obtain ⟨h5, t6⟩ := both h6
  obtain ⟨h4, t5⟩ := both h5
  obtain ⟨h3, t4⟩ := both h4
  obtain ⟨h2, t3⟩ := both h3
  obtain ⟨h1, t2⟩ := both h2
  obtain ⟨h0, t1⟩ := both h1
  exact ⟨test_real _ _ _ _ h0, test_real _ _ _ _ t1, test_real _ _ _ _ t2, test_real _ _ _ _ t3, test_real _ _ _ _ t4, test_real _ _ _ _ t5, test_real _ _ _ _ t6, test_real _ _ _ _ t7, test_real _ _ _ _ t8, test_real _ _ _ _ t9, test_real _ _ _ _ t10, test_real _ _ _ _ t11, test_real _ _ _ _ t12, test_real _ _ _ _ t13, test_real _ _ _ _ t14, test_real _ _ _ _ t15, test_real _ _ _ _ t16, test_real _ _ _ _ t17, test_real _ _ _ _ t18, test_real _ _ _ _ t19⟩

end

end Cert.Pre_finite_inputs.Own

end
-- ==== Proof.lean ====
module

public import proofs.«01_k».proof.Defs
public import proofs.«01_k».proof.Proof.Region
public import proofs.«01_k».proof.Proof.Printed
public import proofs.«01_k».proof.Proof.Gen.ReferenceIdeal
public import Idealize.ShloMosaic.Lib.Pipeline.Regions
public import proofs.«01_k».proof.Proof.Gen.ReferenceIdeal.Run
public import proofs.«01_k».proof.Proof.KernelRun
public import proofs.«01_k».proof.Proof.RefResult
public import proofs.«01_k».proof.Proof.Finite

@[expose] public section

noncomputable section

namespace Cert.Proof

open Idealize.ShloMosaic Idealize.SL.Sem

attribute [local instance] Cert.Kernel.Gen.facts Cert.KernelIdeal.Gen.facts Cert.ReferenceIdeal.Gen.facts Cert.Pre_finite_inputs.Own.facts

/-- The idealized kernel from any memory: the run of `Proof/Region.lean`, read at the arguments. -/
theorem frame_ideal : Cert.quiescent_KernelIdeal := fun m ρ _ =>
  (θ_run Cert.KernelIdeal.defs _ _).mono
    (fun r h => ⟨fun c => Cert.KernelIdeal.Own.unchanged (F := Ideal) m r h.1 c, h.2⟩)
    (Cert.KernelIdeal.Own.run_quiescent (F := Ideal) m ρ)

section Printed

open Cert.KernelIdeal

/-- The idealized text's run with its constants read as their printed bits: arguments unchanged, counters zero. -/
def FrameAtBits : Prop :=
  letI := printed
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) ∧
        r.2.mem ((c.tc : Thread nD τ).loc main_arg3) = m ((c.tc : Thread nD τ).loc main_arg3) ∧
        r.2.mem ((c.tc : Thread nD τ).loc main_arg4) = m ((c.tc : Thread nD τ).loc main_arg4) ∧
        r.2.mem ((c.tc : Thread nD τ).loc main_arg5) = m ((c.tc : Thread nD τ).loc main_arg5) ∧
        r.2.mem ((c.tc : Thread nD τ).loc main_arg6) = m ((c.tc : Thread nD τ).loc main_arg6) ∧
        r.2.mem ((c.tc : Thread nD τ).loc main_arg7) = m ((c.tc : Thread nD τ).loc main_arg7) ∧
        r.2.mem ((c.tc : Thread nD τ).loc main_arg8) = m ((c.tc : Thread nD τ).loc main_arg8) ∧
        r.2.mem ((c.tc : Thread nD τ).loc main_arg9) = m ((c.tc : Thread nD τ).loc main_arg9) ∧
        r.2.mem ((c.tc : Thread nD τ).loc main_arg10) = m ((c.tc : Thread nD τ).loc main_arg10) ∧
        r.2.mem ((c.tc : Thread nD τ).loc main_arg11) = m ((c.tc : Thread nD τ).loc main_arg11) ∧
        r.2.mem ((c.tc : Thread nD τ).loc main_arg12) = m ((c.tc : Thread nD τ).loc main_arg12) ∧
        r.2.mem ((c.tc : Thread nD τ).loc main_arg13) = m ((c.tc : Thread nD τ).loc main_arg13) ∧
        r.2.mem ((c.tc : Thread nD τ).loc main_arg14) = m ((c.tc : Thread nD τ).loc main_arg14) ∧
        r.2.mem ((c.tc : Thread nD τ).loc main_arg15) = m ((c.tc : Thread nD τ).loc main_arg15) ∧
        r.2.mem ((c.tc : Thread nD τ).loc main_arg16) = m ((c.tc : Thread nD τ).loc main_arg16) ∧
        r.2.mem ((c.tc : Thread nD τ).loc main_arg17) = m ((c.tc : Thread nD τ).loc main_arg17) ∧
        r.2.mem ((c.tc : Thread nD τ).loc main_arg18) = m ((c.tc : Thread nD τ).loc main_arg18) ∧
        r.2.mem ((c.tc : Thread nD τ).loc main_arg19) = m ((c.tc : Thread nD τ).loc main_arg19))
      ∧ r.2.sem = fun _ => 0)

theorem frame_at_bits : FrameAtBits := by
  letI := printed
  exact fun m ρ _ => (θ_run (defs (F := Bits)) _ _).mono
    (fun r h => ⟨fun c => Own.unchanged (F := Bits) m r h.1 c, h.2⟩)
    (Own.run_quiescent (F := Bits) m ρ)

end Printed

/-- The kernel as printed: the same statement, the two programs differing in nothing else. -/
theorem frame_kernel_eq : Cert.quiescent_Kernel = FrameAtBits := by
  chain_rfl

theorem frame_kernel : Cert.quiescent_Kernel := Eq.mpr frame_kernel_eq frame_at_bits

/-- The reference: its generated run read at the arguments; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two named constants are the literals of the source to within rounding. -/
theorem preserves : Cert.preserves_Kernel_KernelIdeal :=
  ⟨IdealRules.named_const.statement Cert.KernelIdeal.κ "mask" .f32 _ _ rfl,
    IdealRules.named_const.statement Cert.KernelIdeal.κ "iscale" .f32 _ _ rfl⟩

/-! ## The two results are equal -/

/-- Arguments equal one by one. -/
theorem args_ext {A B : Cert.Spec.Args} (h0 : A.x = B.x) (h1 : A.wp = B.wp) (h2 : A.bp = B.bp) (h3 : A.pos = B.pos) (h4 : A.g1 = B.g1) (h5 : A.b1 = B.b1) (h6 : A.wq = B.wq) (h7 : A.bq = B.bq) (h8 : A.wk = B.wk) (h9 : A.bk = B.bk) (h10 : A.wv = B.wv) (h11 : A.bv = B.bv) (h12 : A.wo = B.wo) (h13 : A.bo = B.bo) (h14 : A.g2 = B.g2) (h15 : A.b2 = B.b2) (h16 : A.w1 = B.w1) (h17 : A.c1 = B.c1) (h18 : A.w2 = B.w2) (h19 : A.c2 = B.c2) : A = B := by
  cases A
  cases B
  congr

/-- Every index of the result is one batch's and one time's. -/
theorem index_split (i : Cert.KernelIdeal.S1024x256.Idx) :
    ∃ (b : Fin 8) (t : Fin 128) (j : Fin 256), i = ValueIdx.ix2 (⟨128 * b.val + t.val, by omega⟩ : Fin 1024) j :=
  ⟨⟨(i 0).val / 128, by have : (i 0).val < 1024 := (i 0).isLt; omega⟩, ⟨(i 0).val % 128, Nat.mod_lt _ (by decide)⟩, i 1, funext fun z => match z with
    | ⟨0, _⟩ => Fin.ext (by show (i 0).val = 128 * ((i 0).val / 128) + (i 0).val % 128; omega)
    | ⟨1, _⟩ => rfl⟩

/-- From memories agreeing on real arguments the two programs return the same extended reals. -/
theorem equal : Cert.algebraic_KernelIdeal_ReferenceIdeal_pre_finite_inputs := fun m g m' g' hpre hm => by
  have hA : ∀ c, (Cert.KernelIdeal.Own.args m c).Real := fun c => Cert.Pre_finite_inputs.Own.real _ (hpre c)
  have hg : ∀ c, Cert.ReferenceIdeal.Own.given (StableHlo.launchContents m' c) = Cert.KernelIdeal.Own.args m c := fun c => by
    obtain ⟨h0, h1, h2, h3, h4, h5, h6, h7, h8, h9, h10, h11, h12, h13, h14, h15, h16, h17, h18, h19⟩ := hm c
    exact args_ext h0 h1 h2 h3 h4 h5 h6 h7 h8 h9 h10 h11 h12 h13 h14 h15 h16 h17 h18 h19
  refine ⟨fun c => Cert.ReferenceIdeal.Own.returned (StableHlo.launchContents m' c), ?_, ?_⟩
  · refine (θ_run Cert.KernelIdeal.defs _ _).mono (fun r h c => ⟨?_, Cert.KernelIdeal.Own.unchanged (F := Ideal) m r h.1 c⟩)
      (Cert.KernelIdeal.Own.run_quiescent (F := Ideal) m g)
    funext i
    obtain ⟨b, t, j, rfl⟩ := index_split i
    refine (Cert.KernelIdeal.Own.returned_at m r h.1 c (hA c) b t j).trans ?_
    refine Eq.trans ?_ (Cert.ReferenceIdeal.Own.returned_at (StableHlo.launchContents m' c) (by rw [hg c]; exact hA c) b t j).symm
    rw [hg c]
  · exact (θ_run Cert.ReferenceIdeal.defs _ _).mono
      (fun r h c => ⟨(h c).1.trans (Cert.ReferenceIdeal.Own.returned_eq (StableHlo.launchContents m' c)), (h c).2⟩)
      (Cert.ReferenceIdeal.Value.run (F := Ideal) m' g')

theorem claim : Cert.Claim :=
  ⟨Cert.Kernel.Gen.facts, Cert.KernelIdeal.Gen.facts, Cert.ReferenceIdeal.Gen.facts, Cert.Pre_finite_inputs.Own.facts, frame_kernel,
    frame_ideal, fun m g _ => frame_ideal m g trivial, frame_reference, fun m g _ => frame_reference m g trivial, preserves, equal⟩

end Cert.Proof

end
